-- ==== Defs.lean ====
def Pre_Kernel [hPre_in_ranges : Cert.Pre_in_ranges.Facts] (m : (ℓ : Loc Cert.Kernel.nD Cert.Kernel.τ Cert.Kernel.sig) → Buf (Elt Bits) ℓ) : Prop :=
  ∀ c : Dev Cert.Kernel.nD,
    (Cert.Pre_in_ranges.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_in_ranges : Cert.Pre_in_ranges.Facts] (m : (ℓ : Loc Cert.KernelIdeal.nD Cert.KernelIdeal.τ Cert.KernelIdeal.sig) → Buf (Elt Ideal) ℓ) : Prop :=
  ∀ c : Dev Cert.KernelIdeal.nD,
    (Cert.Pre_in_ranges.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_KernelIdeal_in_ranges_finite [hPre_in_ranges_finite : Cert.Pre_in_ranges_finite.Facts] (m : (ℓ : Loc Cert.KernelIdeal.nD Cert.KernelIdeal.τ Cert.KernelIdeal.sig) → Buf (Elt Ideal) ℓ) : Prop :=
  ∀ c : Dev Cert.KernelIdeal.nD,
    (Cert.Pre_in_ranges_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_ranges_finite [hPre_in_ranges_finite : Cert.Pre_in_ranges_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_ranges_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def quiescent_Kernel [hKernel : Cert.Kernel.Facts] [hPre_in_ranges : Cert.Pre_in_ranges.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] [hPre_in_ranges : Cert.Pre_in_ranges.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_in_ranges_finite [hKernelIdeal : Cert.KernelIdeal.Facts] [hPre_in_ranges_finite : Cert.Pre_in_ranges_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_ranges_finite m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_in_ranges_finite [hReferenceIdeal : Cert.ReferenceIdeal.Facts] [hPre_in_ranges_finite : Cert.Pre_in_ranges_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_ranges_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def preserves_Kernel_KernelIdeal : Prop :=
  True

def algebraic_KernelIdeal_ReferenceIdeal_pre_in_ranges_finite [hKernelIdeal : Cert.KernelIdeal.Facts] [hReferenceIdeal : Cert.ReferenceIdeal.Facts] [hPre_in_ranges_finite : Cert.Pre_in_ranges_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_ranges_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_in_ranges : Cert.Pre_in_ranges.Facts) (hPre_in_ranges_finite : Cert.Pre_in_ranges_finite.Facts),
    quiescent_Kernel (hKernel := hKernel) (hPre_in_ranges := hPre_in_ranges)
    ∧ quiescent_KernelIdeal (hKernelIdeal := hKernelIdeal) (hPre_in_ranges := hPre_in_ranges)
    ∧ quiescent_KernelIdeal_pre_in_ranges_finite (hKernelIdeal := hKernelIdeal) (hPre_in_ranges_finite := hPre_in_ranges_finite)
    ∧ quiescent_ReferenceIdeal (hReferenceIdeal := hReferenceIdeal)
    ∧ quiescent_ReferenceIdeal_pre_in_ranges_finite (hReferenceIdeal := hReferenceIdeal) (hPre_in_ranges_finite := hPre_in_ranges_finite)
    ∧ preserves_Kernel_KernelIdeal
    ∧ algebraic_KernelIdeal_ReferenceIdeal_pre_in_ranges_finite (hKernelIdeal := hKernelIdeal) (hReferenceIdeal := hReferenceIdeal) (hPre_in_ranges_finite := hPre_in_ranges_finite)
-- ==== Pre_in_ranges.lean ====
abbrev S4096 : Shape := ⟨1, ![4096]⟩
abbrev S4096x128 : Shape := ⟨2, ![4096, 128]⟩
abbrev S4096x200x2 : Shape := ⟨3, ![4096, 200, 2]⟩
abbrev S100000x128 : Shape := ⟨2, ![100000, 128]⟩
abbrev S512x128 : Shape := ⟨2, ![512, 128]⟩
abbrev S512 : Shape := ⟨1, ![512]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x200x2 : S_.BroadcastsInDim S4096x200x2 (![] : Fin 0 → Fin S4096x200x2.rank)
  reducesTo_S4096x200x2_S_d0_1_2 : S4096x200x2.ReducesTo [0, 1, 2] S_

variable [Facts]

def fn {F : FTy → Type} [FloatOps F] (main_arg0 : IVec S4096 32) (main_arg1 : FVec F S4096x128 .f32) (main_arg2 : IVec S4096x200x2 32) (main_arg3 : FVec F S100000x128 .f32) (main_arg4 : FVec F S512x128 .f32) (main_arg5 : FVec F S512x128 .f32) (main_arg6 : FVec F S512 .f32) (main_arg7 : FVec F S512 .f32) (main_arg8 : FVec F S256x256 .f32) (main_arg9 : FVec F S256 .f32) (main_arg10 : FVec F S128x256 .f32) (main_arg11 : FVec F S128 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 1002#32
  let main_v3 : IVec S4096 32 := broadcastInDim S4096 ![] bcast_S_S4096 main_c_1
  let main_v4 : IVec S4096 1 := cmpi .slt main_arg0 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  let main_c_3 : IVec S_ 32 := constantI S_ 32 0#32
  let main_v7 : IVec S4096x200x2 32 := broadcastInDim S4096x200x2 ![] bcast_S_S4096x200x2 main_c_3
  let main_v8 : IVec S4096x200x2 1 := cmpi .sge main_arg2 main_v7
  let main_c_4 : IVec S_ 1 := constantI S_ 1 1#1
  let main_v9 : IVec S_ 1 := (fun x v => Host.reduce IntOp.andi x v reducesTo_S4096x200x2_S_d0_1_2 h_S_) main_v8 main_c_4
  let main_v10 : IVec S_ 1 := andi main_v6 main_v9
  let main_c_5 : IVec S_ 32 := constantI S_ 32 1002#32
  let main_v11 : IVec S4096x200x2 32 := broadcastInDim S4096x200x2 ![] bcast_S_S4096x200x2 main_c_5
  let main_v12 : IVec S4096x200x2 1 := cmpi .slt main_arg2 main_v11
  let main_c_6 : IVec S_ 1 := constantI S_ 1 1#1
  let main_v13 : IVec S_ 1 := (fun x v => Host.reduce IntOp.andi x v reducesTo_S4096x200x2_S_d0_1_2 h_S_) main_v12 main_c_6
  let main_v14 : IVec S_ 1 := andi main_v10 main_v13
  main_v14
-- ==== Pre_in_ranges_finite.lean ====
abbrev S4096 : Shape := ⟨1, ![4096]⟩
abbrev S4096x128 : Shape := ⟨2, ![4096, 128]⟩
abbrev S4096x200x2 : Shape := ⟨3, ![4096, 200, 2]⟩
abbrev S100000x128 : Shape := ⟨2, ![100000, 128]⟩
abbrev S512x128 : Shape := ⟨2, ![512, 128]⟩
abbrev S512 : Shape := ⟨1, ![512]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x200x2 : S_.BroadcastsInDim S4096x200x2 (![] : Fin 0 → Fin S4096x200x2.rank)
  reducesTo_S4096x200x2_S_d0_1_2 : S4096x200x2.ReducesTo [0, 1, 2] S_
  bcast_S_S4096x128 : S_.BroadcastsInDim S4096x128 (![] : Fin 0 → Fin S4096x128.rank)
  reducesTo_S4096x128_S_d0_1 : S4096x128.ReducesTo [0, 1] S_
  bcast_S_S100000x128 : S_.BroadcastsInDim S100000x128 (![] : Fin 0 → Fin S100000x128.rank)
  reducesTo_S100000x128_S_d0_1 : S100000x128.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S128x256 : S_.BroadcastsInDim S128x256 (![] : Fin 0 → Fin S128x256.rank)
  reducesTo_S128x256_S_d0_1 : S128x256.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg10 : FVec F S128x256 .f32) (main_arg11 : FVec F S128 .f32) (main_v29 : IVec S_ 1) (main_v32 : IVec S256 1) : IVec S_ 1 :=
  let main_c_13 : IVec S_ 1 := constantI S_ 1 1#1
  let main_v33 : IVec S_ 1 := (fun x v => Host.reduce IntOp.andi x v reducesTo_S256_S_d0 h_S_) main_v32 main_c_13
  let main_v34 : IVec S_ 1 := andi main_v29 main_v33
  let main_v35 : FVec F S128x256 .f32 := Host.absf main_arg10
  let main_cst_14 : FVec F S_ .f32 := constant S_ .f32 0x7F800000#32
  let main_v36 : FVec F S128x256 .f32 := broadcastInDim S128x256 ![] bcast_S_S128x256 main_cst_14
  let main_v37 : IVec S128x256 1 := cmpf .olt main_v35 main_v36
  let main_c_15 : IVec S_ 1 := constantI S_ 1 1#1
  let main_v38 : IVec S_ 1 := (fun x v => Host.reduce IntOp.andi x v reducesTo_S128x256_S_d0_1 h_S_) main_v37 main_c_15
  let main_v39 : IVec S_ 1 := andi main_v34 main_v38
  let main_v40 : FVec F S128 .f32 := Host.absf main_arg11
  let main_cst_16 : FVec F S_ .f32 := constant S_ .f32 0x7F800000#32
  let main_v41 : FVec F S128 .f32 := broadcastInDim S128 ![] bcast_S_S128 main_cst_16
  let main_v42 : IVec S128 1 := cmpf .olt main_v40 main_v41
  let main_c_17 : IVec S_ 1 := constantI S_ 1 1#1
  let main_v43 : IVec S_ 1 := (fun x v => Host.reduce IntOp.andi x v reducesTo_S128_S_d0 h_S_) main_v42 main_c_17
  let main_v44 : IVec S_ 1 := andi main_v39 main_v43
  main_v44

def fn_part1 {F : FTy → Type} [FloatOps F] (main_arg3 : FVec F S100000x128 .f32) (main_arg8 : FVec F S256x256 .f32) (main_arg9 : FVec F S256 .f32) (main_arg10 : FVec F S128x256 .f32) (main_arg11 : FVec F S128 .f32) (main_v14 : IVec S_ 1) (main_v15 : FVec F S4096x128 .f32) : IVec S_ 1 :=
  let main_cst : FVec F S_ .f32 := constant S_ .f32 0x7F800000#32
  let main_v16 : FVec F S4096x128 .f32 := broadcastInDim S4096x128 ![] bcast_S_S4096x128 main_cst
  let main_v17 : IVec S4096x128 1 := cmpf .olt main_v15 main_v16
  let main_c_7 : IVec S_ 1 := constantI S_ 1 1#1
  let main_v18 : IVec S_ 1 := (fun x v => Host.reduce IntOp.andi x v reducesTo_S4096x128_S_d0_1 h_S_) main_v17 main_c_7
  let main_v19 : IVec S_ 1 := andi main_v14 main_v18
  let main_v20 : FVec F S100000x128 .f32 := Host.absf main_arg3
  let main_cst_8 : FVec F S_ .f32 := constant S_ .f32 0x7F800000#32
  let main_v21 : FVec F S100000x128 .f32 := broadcastInDim S100000x128 ![] bcast_S_S100000x128 main_cst_8
  let main_v22 : IVec S100000x128 1 := cmpf .olt main_v20 main_v21
  let main_c_9 : IVec S_ 1 := constantI S_ 1 1#1
  let main_v23 : IVec S_ 1 := (fun x v => Host.reduce IntOp.andi x v reducesTo_S100000x128_S_d0_1 h_S_) main_v22 main_c_9
  let main_v24 : IVec S_ 1 := andi main_v19 main_v23
  let main_v25 : FVec F S256x256 .f32 := Host.absf main_arg8
  let main_cst_10 : FVec F S_ .f32 := constant S_ .f32 0x7F800000#32
  let main_v26 : FVec F S256x256 .f32 := broadcastInDim S256x256 ![] bcast_S_S256x256 main_cst_10
  let main_v27 : IVec S256x256 1 := cmpf .olt main_v25 main_v26
  let main_c_11 : IVec S_ 1 := constantI S_ 1 1#1
  let main_v28 : IVec S_ 1 := (fun x v => Host.reduce IntOp.andi x v reducesTo_S256x256_S_d0_1 h_S_) main_v27 main_c_11
  let main_v29 : IVec S_ 1 := andi main_v24 main_v28
  let main_v30 : FVec F S256 .f32 := Host.absf main_arg9
  let main_cst_12 : FVec F S_ .f32 := constant S_ .f32 0x7F800000#32
  let main_v31 : FVec F S256 .f32 := broadcastInDim S256 ![] bcast_S_S256 main_cst_12
  let main_v32 : IVec S256 1 := cmpf .olt main_v30 main_v31
  fn_part2 (F := F) main_arg10 main_arg11 main_v29 main_v32

def fn {F : FTy → Type} [FloatOps F] (main_arg0 : IVec S4096 32) (main_arg1 : FVec F S4096x128 .f32) (main_arg2 : IVec S4096x200x2 32) (main_arg3 : FVec F S100000x128 .f32) (main_arg4 : FVec F S512x128 .f32) (main_arg5 : FVec F S512x128 .f32) (main_arg6 : FVec F S512 .f32) (main_arg7 : FVec F S512 .f32) (main_arg8 : FVec F S256x256 .f32) (main_arg9 : FVec F S256 .f32) (main_arg10 : FVec F S128x256 .f32) (main_arg11 : FVec F S128 .f32) : IVec S_ 1 :=
  let main_c : IVec S_ 32 := constantI S_ 32 0#32
  let main_v0 : IVec S4096 32 := broadcastInDim S4096 ![] bcast_S_S4096 main_c
  let main_v1 : IVec S4096 1 := cmpi .sge main_arg0 main_v0
  let main_c_0 : IVec S_ 1 := constantI S_ 1 1#1
  let main_v2 : IVec S_ 1 := (fun x v => Host.reduce IntOp.andi x v reducesTo_S4096_S_d0 h_S_) main_v1 main_c_0
  let main_c_1 : IVec S_ 32 := constantI S_ 32 1002#32
  let main_v3 : IVec S4096 32 := broadcastInDim S4096 ![] bcast_S_S4096 main_c_1
  let main_v4 : IVec S4096 1 := cmpi .slt main_arg0 main_v3
  let main_c_2 : IVec S_ 1 := constantI S_ 1 1#1
  let main_v5 : IVec S_ 1 := (fun x v => Host.reduce IntOp.andi x v reducesTo_S4096_S_d0 h_S_) main_v4 main_c_2
  let main_v6 : IVec S_ 1 := andi main_v2 main_v5
  let main_c_3 : IVec S_ 32 := constantI S_ 32 0#32
  let main_v7 : IVec S4096x200x2 32 := broadcastInDim S4096x200x2 ![] bcast_S_S4096x200x2 main_c_3
  let main_v8 : IVec S4096x200x2 1 := cmpi .sge main_arg2 main_v7
  let main_c_4 : IVec S_ 1 := constantI S_ 1 1#1
  let main_v9 : IVec S_ 1 := (fun x v => Host.reduce IntOp.andi x v reducesTo_S4096x200x2_S_d0_1_2 h_S_) main_v8 main_c_4
  let main_v10 : IVec S_ 1 := andi main_v6 main_v9
  let main_c_5 : IVec S_ 32 := constantI S_ 32 1002#32
  let main_v11 : IVec S4096x200x2 32 := broadcastInDim S4096x200x2 ![] bcast_S_S4096x200x2 main_c_5
  let main_v12 : IVec S4096x200x2 1 := cmpi .slt main_arg2 main_v11
  let main_c_6 : IVec S_ 1 := constantI S_ 1 1#1
  let main_v13 : IVec S_ 1 := (fun x v => Host.reduce IntOp.andi x v reducesTo_S4096x200x2_S_d0_1_2 h_S_) main_v12 main_c_6
  let main_v14 : IVec S_ 1 := andi main_v10 main_v13
  let main_v15 : FVec F S4096x128 .f32 := Host.absf main_arg1
  fn_part1 (F := F) main_arg3 main_arg8 main_arg9 main_arg10 main_arg11 main_v14 main_v15
-- ==== Kernel.lean ====
abbrev S4096 : Shape := ⟨1, ![4096]⟩
abbrev S4096x128 : Shape := ⟨2, ![4096, 128]⟩
abbrev S4096x200x2 : Shape := ⟨3, ![4096, 200, 2]⟩
abbrev S100000x128 : Shape := ⟨2, ![100000, 128]⟩
abbrev S512x128 : Shape := ⟨2, ![512, 128]⟩
abbrev S512 : Shape := ⟨1, ![512]⟩
abbrev S256x256 : Shape := ⟨2, ![256, 256]⟩
abbrev S256 : Shape := ⟨1, ![256]⟩
abbrev S128x256 : Shape := ⟨2, ![128, 256]⟩
abbrev S128 : Shape := ⟨1, ![128]⟩
abbrev S4096x1 : Shape := ⟨2, ![4096, 1]⟩
abbrev S4096x200x1 : Shape := ⟨3, ![4096, 200, 1]⟩
abbrev S4096x200 : Shape := ⟨2, ![4096, 200]⟩
abbrev S1x512 : Shape := ⟨2, ![1, 512]⟩
abbrev S1x256 : Shape := ⟨2, ![1, 256]⟩
abbrev S1x128 : Shape := ⟨2, ![1, 128]⟩
abbrev S2097152 : Shape := ⟨1, ![2097152]⟩
abbrev S512x1 : Shape := ⟨2, ![512, 1]⟩
abbrev S1024x128 : Shape := ⟨2, ![1024, 128]⟩
abbrev S524288 : Shape := ⟨1, ![524288]⟩
abbrev S512x1024 : Shape := ⟨2, ![512, 1024]⟩
abbrev S512x512 : Shape := ⟨2, ![512, 512]⟩
abbrev S512x256 : Shape := ⟨2, ![512, 256]⟩
abbrev S2048x200 : Shape := ⟨2, ![2048, 200]⟩
abbrev S32768 : Shape := ⟨1, ![32768]⟩
abbrev S32x200 : Shape := ⟨2, ![32, 200]⟩
abbrev S_ : Shape := ⟨0, ![]⟩
abbrev S16 : Shape := ⟨1, ![16]⟩
abbrev S1x16 : Shape := ⟨2, ![1, 16]⟩
abbrev S2048 : Shape := ⟨1, ![2048]⟩
abbrev S2048x1 : Shape := ⟨2, ![2048, 1]⟩

abbrev nBuf : Table → Nat
  | .hbm => 26
  | .local .tc .vmem => 32
  | .local .scVector .vmem => 12
  | _ => 0

abbrev bufTy : (tb : Table) → Fin (nBuf tb) → BufTy
  | .hbm, ⟨0, _⟩ => ⟨S4096, .i32⟩
  | .hbm, ⟨1, _⟩ => ⟨S4096x128, .f32⟩
  | .hbm, ⟨2, _⟩ => ⟨S4096x200x2, .i32⟩
  | .hbm, ⟨3, _⟩ => ⟨S100000x128, .f32⟩
  | .hbm, ⟨4, _⟩ => ⟨S512x128, .f32⟩
  | .hbm, ⟨5, _⟩ => ⟨S512x128, .f32⟩
  | .hbm, ⟨6, _⟩ => ⟨S512, .f32⟩
  | .hbm, ⟨7, _⟩ => ⟨S512, .f32⟩
  | .hbm, ⟨8, _⟩ => ⟨S256x256, .f32⟩
  | .hbm, ⟨9, _⟩ => ⟨S256, .f32⟩
  | .hbm, ⟨10, _⟩ => ⟨S128x256, .f32⟩
  | .hbm, ⟨11, _⟩ => ⟨S128, .f32⟩
  | .hbm, ⟨12, _⟩ => ⟨S4096x1, .i32⟩
  | .hbm, ⟨13, _⟩ => ⟨S4096x200x1, .i32⟩
  | .hbm, ⟨14, _⟩ => ⟨S4096x200, .i32⟩
  | .hbm, ⟨15, _⟩ => ⟨S1x512, .f32⟩
  | .hbm, ⟨16, _⟩ => ⟨S1x512, .f32⟩
  | .hbm, ⟨17, _⟩ => ⟨S1x256, .f32⟩
  | .hbm, ⟨18, _⟩ => ⟨S1x128, .f32⟩
  | .hbm, ⟨19, _⟩ => ⟨S2097152, .f32⟩
  | .hbm, ⟨20, _⟩ => ⟨S2048x200, .f32⟩
  | .hbm, ⟨21, _⟩ => ⟨S2097152, .f32⟩
  | .hbm, ⟨22, _⟩ => ⟨S2048x200, .f32⟩
  | .hbm, ⟨23, _⟩ => ⟨S2048x200, .f32⟩
  | .hbm, ⟨24, _⟩ => ⟨S2048x200, .f32⟩
  | .hbm, ⟨25, _⟩ => ⟨S4096x200, .f32⟩
  | .local .tc .vmem, ⟨0, _⟩ => ⟨S512x1, .i32⟩
  | .local .tc .vmem, ⟨1, _⟩ => ⟨S512x1, .i32⟩
  | .local .tc .vmem, ⟨2, _⟩ => ⟨S512x128, .f32⟩
  | .local .tc .vmem, ⟨3, _⟩ => ⟨S512x128, .f32⟩
  | .local .tc .vmem, ⟨4, _⟩ => ⟨S1024x128, .f32⟩
  | .local .tc .vmem, ⟨5, _⟩ => ⟨S512x128, .f32⟩
  | .local .tc .vmem, ⟨6, _⟩ => ⟨S1x512, .f32⟩
  | .local .tc .vmem, ⟨7, _⟩ => ⟨S1x512, .f32⟩
  | .local .tc .vmem, ⟨8, _⟩ => ⟨S256x256, .f32⟩
  | .local .tc .vmem, ⟨9, _⟩ => ⟨S1x256, .f32⟩
  | .local .tc .vmem, ⟨10, _⟩ => ⟨S128x256, .f32⟩
  | .local .tc .vmem, ⟨11, _⟩ => ⟨S1x128, .f32⟩
  | .local .tc .vmem, ⟨12, _⟩ => ⟨S524288, .f32⟩
  | .local .tc .vmem, ⟨13, _⟩ => ⟨S524288, .f32⟩
  | .local .tc .vmem, ⟨14, _⟩ => ⟨S512x1, .i32⟩
  | .local .tc .vmem, ⟨15, _⟩ => ⟨S512x1, .i32⟩
  | .local .tc .vmem, ⟨16, _⟩ => ⟨S512x128, .f32⟩
  | .local .tc .vmem, ⟨17, _⟩ => ⟨S512x128, .f32⟩
  | .local .tc .vmem, ⟨18, _⟩ => ⟨S1024x128, .f32⟩
  | .local .tc .vmem, ⟨19, _⟩ => ⟨S512x128, .f32⟩
  | .local .tc .vmem, ⟨20, _⟩ => ⟨S1x512, .f32⟩
  | .local .tc .vmem, ⟨21, _⟩ => ⟨S1x512, .f32⟩
  | .local .tc .vmem, ⟨22, _⟩ => ⟨S256x256, .f32⟩
  | .local .tc .vmem, ⟨23, _⟩ => ⟨S1x256, .f32⟩
  | .local .tc .vmem, ⟨24, _⟩ => ⟨S128x256, .f32⟩
  | .local .tc .vmem, ⟨25, _⟩ => ⟨S1x128, .f32⟩
  | .local .tc .vmem, ⟨26, _⟩ => ⟨S524288, .f32⟩
  | .local .tc .vmem, ⟨27, _⟩ => ⟨S524288, .f32⟩
  | .local .tc .vmem, ⟨28, _⟩ => ⟨S2048x200, .f32⟩
  | .local .tc .vmem, ⟨29, _⟩ => ⟨S2048x200, .f32⟩
  | .local .tc .vmem, ⟨30, _⟩ => ⟨S2048x200, .f32⟩
  | .local .tc .vmem, ⟨31, _⟩ => ⟨S2048x200, .f32⟩
  | .local .scVector .vmem, ⟨0, _⟩ => ⟨S32768, .f32⟩
  | .local .scVector .vmem, ⟨1, _⟩ => ⟨S32768, .f32⟩
  | .local .scVector .vmem, ⟨2, _⟩ => ⟨S32x200, .i32⟩
  | .local .scVector .vmem, ⟨3, _⟩ => ⟨S32x200, .i32⟩
  | .local .scVector .vmem, ⟨4, _⟩ => ⟨S32x200, .f32⟩
  | .local .scVector .vmem, ⟨5, _⟩ => ⟨S32x200, .f32⟩
  | .local .scVector .vmem, ⟨6, _⟩ => ⟨S32768, .f32⟩
  | .local .scVector .vmem, ⟨7, _⟩ => ⟨S32768, .f32⟩
  | .local .scVector .vmem, ⟨8, _⟩ => ⟨S32x200, .i32⟩
  | .local .scVector .vmem, ⟨9, _⟩ => ⟨S32x200, .i32⟩
  | .local .scVector .vmem, ⟨10, _⟩ => ⟨S32x200, .f32⟩
  | .local .scVector .vmem, ⟨11, _⟩ => ⟨S32x200, .f32⟩
  | _, _ => ⟨S4096, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => false
  | ⟨15, _⟩ => false
  | ⟨16, _⟩ => false
  | ⟨17, _⟩ => false
  | ⟨18, _⟩ => false
  | ⟨19, _⟩ => false
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => false
  | ⟨35, _⟩ => false
  | ⟨36, _⟩ => false
  | ⟨37, _⟩ => false
  | ⟨38, _⟩ => false
  | ⟨39, _⟩ => false
  | ⟨40, _⟩ => true
  | ⟨41, _⟩ => true
  | ⟨42, _⟩ => true
  | ⟨43, _⟩ => true
  | _ => false

abbrev sig : RefSig :=
  ofTables nBuf rfl bufTy 4 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v7_scv : Ref sig .scVector := ⟨.hbm, 19, rfl⟩
abbrev main_v2_scv : Ref sig .scVector := ⟨.hbm, 14, rfl⟩
abbrev main_v8_scv : Ref sig .scVector := ⟨.hbm, 20, rfl⟩
abbrev main_v9_scv : Ref sig .scVector := ⟨.hbm, 21, rfl⟩
abbrev main_v10_scv : Ref sig .scVector := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg4_0 : Ref sig .tc := ⟨.vmem, 20, rfl⟩
abbrev cc2_stg5_0 : Ref sig .tc := ⟨.vmem, 21, rfl⟩
abbrev cc2_stg6_0 : Ref sig .tc := ⟨.vmem, 22, rfl⟩
abbrev cc2_stg7_0 : Ref sig .tc := ⟨.vmem, 23, rfl⟩
abbrev cc2_stg8_0 : Ref sig .tc := ⟨.vmem, 24, rfl⟩
abbrev cc2_stg9_0 : Ref sig .tc := ⟨.vmem, 25, rfl⟩
abbrev cc2_stg10_0 : Ref sig .tc := ⟨.vmem, 26, rfl⟩
abbrev cc2_stg10_1 : Ref sig .tc := ⟨.vmem, 27, rfl⟩
abbrev cc4_stg0_0 : Ref sig .tc := ⟨.vmem, 28, rfl⟩
abbrev cc4_stg1_0 : Ref sig .tc := ⟨.vmem, 29, rfl⟩
abbrev cc5_stg0_0 : Ref sig .tc := ⟨.vmem, 30, rfl⟩
abbrev cc5_stg1_0 : Ref sig .tc := ⟨.vmem, 31, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc1_scratch3 : Ref sig .scVector := ⟨.vmem, 3, rfl⟩
abbrev cc1_scratch4 : Ref sig .scVector := ⟨.vmem, 4, rfl⟩
abbrev cc1_scratch5 : Ref sig .scVector := ⟨.vmem, 5, rfl⟩
abbrev cc3_scratch0 : Ref sig .scVector := ⟨.vmem, 6, rfl⟩
abbrev cc3_scratch1 : Ref sig .scVector := ⟨.vmem, 7, rfl⟩
abbrev cc3_scratch2 : Ref sig .scVector := ⟨.vmem, 8, rfl⟩
abbrev cc3_scratch3 : Ref sig .scVector := ⟨.vmem, 9, rfl⟩
abbrev cc3_scratch4 : Ref sig .scVector := ⟨.vmem, 10, rfl⟩
abbrev cc3_scratch5 : Ref sig .scVector := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem7_0 : DmaSem sig := 29
abbrev cc2_sem8_0 : DmaSem sig := 30
abbrev cc2_sem9_0 : DmaSem sig := 31
abbrev cc2_sem10_0 : DmaSem sig := 32
abbrev cc2_sem10_1 : DmaSem sig := 33
abbrev cc4_sem0_0 : DmaSem sig := 40
abbrev cc4_sem1_0 : DmaSem sig := 41
abbrev cc5_sem0_0 : DmaSem sig := 42
abbrev cc5_sem1_0 : DmaSem sig := 43
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x1 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S524288 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨2, ![2, 16], ![false, false]⟩

def k1_off1 (i : grid1.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c1024_i32 : BitVec 32 := 1024#32
  let v4 : BitVec 32 := Scalar.muli v3 c1024_i32
  ![v4.toNat]
def k1_off2 (i : grid1.Coords) (c0_i32 : BitVec 32) : Fin 2 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let v7 : BitVec 32 := Scalar.addi c0_i32_0 v3
  let c0_i32_1 : BitVec 32 := 0#32
  ![v7.toNat, 0]
@[reducible] def k1_t1_loop : Scf.Loop 32 :=
  let c0_i32_9 : BitVec 32 := 0#32
  let c32_i32_10 : BitVec 32 := 32#32
  let v21 : BitVec 32 := Scalar.addi c0_i32_9 c32_i32_10
  let c1_i32 : BitVec 32 := 1#32
  ⟨c0_i32_9, v21, c1_i32⟩
def k1_off3 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v38 : Index := Scalar.indexCast arg17
  let c0 : Index := 0#32
  ![v38.toNat, 0]

def k1_chk1 (v41 : IVec S16 32) : Prop :=
  (∀ a x, ((![v41] : Fin 1 → IVec S16 32) a x).toNat < S32768.size a)
theorem k1_idx1_inb : ∀ (v41 : IVec S16 32) (k1_hw1 : k1_chk1 v41), ∀ a x, ((![v41] : Fin 1 → IVec S16 32) a x).toNat < S32768.size a := fun v41 k1_hw1 => k1_hw1
def k1_off4 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v43 : Index := Scalar.indexCast arg17
  let c0_29 : Index := 0#32
  ![v43.toNat, 0]
def k1_off5 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v45 : Index := Scalar.indexCast arg17
  let c16 : Index := 16#32
  ![v45.toNat, 16]

def k1_chk2 (v48 : IVec S16 32) : Prop :=
  (∀ a x, ((![v48] : Fin 1 → IVec S16 32) a x).toNat < S32768.size a)
theorem k1_idx2_inb : ∀ (v48 : IVec S16 32) (k1_hw2 : k1_chk2 v48), ∀ a x, ((![v48] : Fin 1 → IVec S16 32) a x).toNat < S32768.size a := fun v48 k1_hw2 => k1_hw2
def k1_off6 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v50 : Index := Scalar.indexCast arg17
  let c16_30 : Index := 16#32
  ![v50.toNat, 16]
def k1_off7 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v52 : Index := Scalar.indexCast arg17
  let c32 : Index := 32#32
  ![v52.toNat, 32]

def k1_chk3 (v55 : IVec S16 32) : Prop :=
  (∀ a x, ((![v55] : Fin 1 → IVec S16 32) a x).toNat < S32768.size a)
theorem k1_idx3_inb : ∀ (v55 : IVec S16 32) (k1_hw3 : k1_chk3 v55), ∀ a x, ((![v55] : Fin 1 → IVec S16 32) a x).toNat < S32768.size a := fun v55 k1_hw3 => k1_hw3
def k1_off8 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v57 : Index := Scalar.indexCast arg17
  let c32_31 : Index := 32#32
  ![v57.toNat, 32]
def k1_off9 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v59 : Index := Scalar.indexCast arg17
  let c48 : Index := 48#32
  ![v59.toNat, 48]

def k1_chk4 (v62 : IVec S16 32) : Prop :=
  (∀ a x, ((![v62] : Fin 1 → IVec S16 32) a x).toNat < S32768.size a)
theorem k1_idx4_inb : ∀ (v62 : IVec S16 32) (k1_hw4 : k1_chk4 v62), ∀ a x, ((![v62] : Fin 1 → IVec S16 32) a x).toNat < S32768.size a := fun v62 k1_hw4 => k1_hw4
def k1_off10 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v64 : Index := Scalar.indexCast arg17
  let c48_32 : Index := 48#32
  ![v64.toNat, 48]
def k1_off11 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v66 : Index := Scalar.indexCast arg17
  let c64 : Index := 64#32
  ![v66.toNat, 64]

def k1_chk5 (v69 : IVec S16 32) : Prop :=
  (∀ a x, ((![v69] : Fin 1 → IVec S16 32) a x).toNat < S32768.size a)
theorem k1_idx5_inb : ∀ (v69 : IVec S16 32) (k1_hw5 : k1_chk5 v69), ∀ a x, ((![v69] : Fin 1 → IVec S16 32) a x).toNat < S32768.size a := fun v69 k1_hw5 => k1_hw5
def k1_off12 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v71 : Index := Scalar.indexCast arg17
  let c64_33 : Index := 64#32
  ![v71.toNat, 64]
def k1_off13 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v73 : Index := Scalar.indexCast arg17
  let c80 : Index := 80#32
  ![v73.toNat, 80]

def k1_chk6 (v76 : IVec S16 32) : Prop :=
  (∀ a x, ((![v76] : Fin 1 → IVec S16 32) a x).toNat < S32768.size a)
theorem k1_idx6_inb : ∀ (v76 : IVec S16 32) (k1_hw6 : k1_chk6 v76), ∀ a x, ((![v76] : Fin 1 → IVec S16 32) a x).toNat < S32768.size a := fun v76 k1_hw6 => k1_hw6
def k1_off14 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v78 : Index := Scalar.indexCast arg17
  let c80_34 : Index := 80#32
  ![v78.toNat, 80]
def k1_off15 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v80 : Index := Scalar.indexCast arg17
  let c96 : Index := 96#32
  ![v80.toNat, 96]

def k1_chk7 (v83 : IVec S16 32) : Prop :=
  (∀ a x, ((![v83] : Fin 1 → IVec S16 32) a x).toNat < S32768.size a)
theorem k1_idx7_inb : ∀ (v83 : IVec S16 32) (k1_hw7 : k1_chk7 v83), ∀ a x, ((![v83] : Fin 1 → IVec S16 32) a x).toNat < S32768.size a := fun v83 k1_hw7 => k1_hw7
def k1_off16 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v85 : Index := Scalar.indexCast arg17
  let c96_35 : Index := 96#32
  ![v85.toNat, 96]
def k1_off17 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v87 : Index := Scalar.indexCast arg17
  let c112 : Index := 112#32
  ![v87.toNat, 112]

def k1_chk8 (v90 : IVec S16 32) : Prop :=
  (∀ a x, ((![v90] : Fin 1 → IVec S16 32) a x).toNat < S32768.size a)
theorem k1_idx8_inb : ∀ (v90 : IVec S16 32) (k1_hw8 : k1_chk8 v90), ∀ a x, ((![v90] : Fin 1 → IVec S16 32) a x).toNat < S32768.size a := fun v90 k1_hw8 => k1_hw8
def k1_off18 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v92 : Index := Scalar.indexCast arg17
  let c112_36 : Index := 112#32
  ![v92.toNat, 112]
def k1_off19 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v94 : Index := Scalar.indexCast arg17
  let c128 : Index := 128#32
  ![v94.toNat, 128]

def k1_chk9 (v97 : IVec S16 32) : Prop :=
  (∀ a x, ((![v97] : Fin 1 → IVec S16 32) a x).toNat < S32768.size a)
theorem k1_idx9_inb : ∀ (v97 : IVec S16 32) (k1_hw9 : k1_chk9 v97), ∀ a x, ((![v97] : Fin 1 → IVec S16 32) a x).toNat < S32768.size a := fun v97 k1_hw9 => k1_hw9
def k1_off20 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v99 : Index := Scalar.indexCast arg17
  let c128_37 : Index := 128#32
  ![v99.toNat, 128]
def k1_off21 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v101 : Index := Scalar.indexCast arg17
  let c144 : Index := 144#32
  ![v101.toNat, 144]

def k1_chk10 (v104 : IVec S16 32) : Prop :=
  (∀ a x, ((![v104] : Fin 1 → IVec S16 32) a x).toNat < S32768.size a)
theorem k1_idx10_inb : ∀ (v104 : IVec S16 32) (k1_hw10 : k1_chk10 v104), ∀ a x, ((![v104] : Fin 1 → IVec S16 32) a x).toNat < S32768.size a := fun v104 k1_hw10 => k1_hw10
def k1_off22 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v106 : Index := Scalar.indexCast arg17
  let c144_38 : Index := 144#32
  ![v106.toNat, 144]
def k1_off23 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v108 : Index := Scalar.indexCast arg17
  let c160 : Index := 160#32
  ![v108.toNat, 160]

def k1_chk11 (v111 : IVec S16 32) : Prop :=
  (∀ a x, ((![v111] : Fin 1 → IVec S16 32) a x).toNat < S32768.size a)
theorem k1_idx11_inb : ∀ (v111 : IVec S16 32) (k1_hw11 : k1_chk11 v111), ∀ a x, ((![v111] : Fin 1 → IVec S16 32) a x).toNat < S32768.size a := fun v111 k1_hw11 => k1_hw11
def k1_off24 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v113 : Index := Scalar.indexCast arg17
  let c160_39 : Index := 160#32
  ![v113.toNat, 160]
def k1_off25 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v115 : Index := Scalar.indexCast arg17
  let c176 : Index := 176#32
  ![v115.toNat, 176]

def k1_chk12 (v118 : IVec S16 32) : Prop :=
  (∀ a x, ((![v118] : Fin 1 → IVec S16 32) a x).toNat < S32768.size a)
theorem k1_idx12_inb : ∀ (v118 : IVec S16 32) (k1_hw12 : k1_chk12 v118), ∀ a x, ((![v118] : Fin 1 → IVec S16 32) a x).toNat < S32768.size a := fun v118 k1_hw12 => k1_hw12
def k1_off26 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v120 : Index := Scalar.indexCast arg17
  let c176_40 : Index := 176#32
  ![v120.toNat, 176]
def k1_off27 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v122 : Index := Scalar.indexCast arg17
  let c184 : Index := 184#32
  ![v122.toNat, 184]

def k1_chk13 (v125 : IVec S16 32) : Prop :=
  (∀ a x, ((![v125] : Fin 1 → IVec S16 32) a x).toNat < S32768.size a)
theorem k1_idx13_inb : ∀ (v125 : IVec S16 32) (k1_hw13 : k1_chk13 v125), ∀ a x, ((![v125] : Fin 1 → IVec S16 32) a x).toNat < S32768.size a := fun v125 k1_hw13 => k1_hw13
def k1_off28 (k1_t1 : Fin k1_t1_loop.trips) : Fin 2 → Nat :=
  let c0_i32_9 : BitVec 32 := 0#32
  let c1_i32 : BitVec 32 := 1#32
  let arg17 : BitVec 32 := Scf.iv c0_i32_9 c1_i32 k1_t1
  let v127 : Index := Scalar.indexCast arg17
  let c184_41 : Index := 184#32
  ![v127.toNat, 184]
def k1_off29 (i : grid1.Coords) (c0_i32_12 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v22 : BitVec 32 := Scalar.addi v2 c0_i32_12
  let c0_i32_13 : BitVec 32 := 0#32
  ![v22.toNat, 0]
@[reducible] def k1_t2_loop : Scf.Loop 32 :=
  let c0_i32_17 : BitVec 32 := 0#32
  let c32_i32_18 : BitVec 32 := 32#32
  let v29 : BitVec 32 := Scalar.addi c0_i32_17 c32_i32_18
  let c1_i32_19 : BitVec 32 := 1#32
  ⟨c0_i32_17, v29, c1_i32_19⟩
def k1_off30 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v38 : Index := Scalar.indexCast arg17
  let c0 : Index := 0#32
  ![v38.toNat, 0]

def k1_chk14 (v41 : IVec S16 32) : Prop :=
  (∀ a x, ((![v41] : Fin 1 → IVec S16 32) a x).toNat < S32768.size a)
theorem k1_idx14_inb : ∀ (v41 : IVec S16 32) (k1_hw14 : k1_chk14 v41), ∀ a x, ((![v41] : Fin 1 → IVec S16 32) a x).toNat < S32768.size a := fun v41 k1_hw14 => k1_hw14
def k1_off31 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v43 : Index := Scalar.indexCast arg17
  let c0_29 : Index := 0#32
  ![v43.toNat, 0]
def k1_off32 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v45 : Index := Scalar.indexCast arg17
  let c16 : Index := 16#32
  ![v45.toNat, 16]

def k1_chk15 (v48 : IVec S16 32) : Prop :=
  (∀ a x, ((![v48] : Fin 1 → IVec S16 32) a x).toNat < S32768.size a)
theorem k1_idx15_inb : ∀ (v48 : IVec S16 32) (k1_hw15 : k1_chk15 v48), ∀ a x, ((![v48] : Fin 1 → IVec S16 32) a x).toNat < S32768.size a := fun v48 k1_hw15 => k1_hw15
def k1_off33 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v50 : Index := Scalar.indexCast arg17
  let c16_30 : Index := 16#32
  ![v50.toNat, 16]
def k1_off34 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v52 : Index := Scalar.indexCast arg17
  let c32 : Index := 32#32
  ![v52.toNat, 32]

def k1_chk16 (v55 : IVec S16 32) : Prop :=
  (∀ a x, ((![v55] : Fin 1 → IVec S16 32) a x).toNat < S32768.size a)
theorem k1_idx16_inb : ∀ (v55 : IVec S16 32) (k1_hw16 : k1_chk16 v55), ∀ a x, ((![v55] : Fin 1 → IVec S16 32) a x).toNat < S32768.size a := fun v55 k1_hw16 => k1_hw16
def k1_off35 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v57 : Index := Scalar.indexCast arg17
  let c32_31 : Index := 32#32
  ![v57.toNat, 32]
def k1_off36 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v59 : Index := Scalar.indexCast arg17
  let c48 : Index := 48#32
  ![v59.toNat, 48]

def k1_chk17 (v62 : IVec S16 32) : Prop :=
  (∀ a x, ((![v62] : Fin 1 → IVec S16 32) a x).toNat < S32768.size a)
theorem k1_idx17_inb : ∀ (v62 : IVec S16 32) (k1_hw17 : k1_chk17 v62), ∀ a x, ((![v62] : Fin 1 → IVec S16 32) a x).toNat < S32768.size a := fun v62 k1_hw17 => k1_hw17
def k1_off37 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v64 : Index := Scalar.indexCast arg17
  let c48_32 : Index := 48#32
  ![v64.toNat, 48]
def k1_off38 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v66 : Index := Scalar.indexCast arg17
  let c64 : Index := 64#32
  ![v66.toNat, 64]

def k1_chk18 (v69 : IVec S16 32) : Prop :=
  (∀ a x, ((![v69] : Fin 1 → IVec S16 32) a x).toNat < S32768.size a)
theorem k1_idx18_inb : ∀ (v69 : IVec S16 32) (k1_hw18 : k1_chk18 v69), ∀ a x, ((![v69] : Fin 1 → IVec S16 32) a x).toNat < S32768.size a := fun v69 k1_hw18 => k1_hw18
def k1_off39 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v71 : Index := Scalar.indexCast arg17
  let c64_33 : Index := 64#32
  ![v71.toNat, 64]
def k1_off40 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v73 : Index := Scalar.indexCast arg17
  let c80 : Index := 80#32
  ![v73.toNat, 80]

def k1_chk19 (v76 : IVec S16 32) : Prop :=
  (∀ a x, ((![v76] : Fin 1 → IVec S16 32) a x).toNat < S32768.size a)
theorem k1_idx19_inb : ∀ (v76 : IVec S16 32) (k1_hw19 : k1_chk19 v76), ∀ a x, ((![v76] : Fin 1 → IVec S16 32) a x).toNat < S32768.size a := fun v76 k1_hw19 => k1_hw19
def k1_off41 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v78 : Index := Scalar.indexCast arg17
  let c80_34 : Index := 80#32
  ![v78.toNat, 80]
def k1_off42 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v80 : Index := Scalar.indexCast arg17
  let c96 : Index := 96#32
  ![v80.toNat, 96]

def k1_chk20 (v83 : IVec S16 32) : Prop :=
  (∀ a x, ((![v83] : Fin 1 → IVec S16 32) a x).toNat < S32768.size a)
theorem k1_idx20_inb : ∀ (v83 : IVec S16 32) (k1_hw20 : k1_chk20 v83), ∀ a x, ((![v83] : Fin 1 → IVec S16 32) a x).toNat < S32768.size a := fun v83 k1_hw20 => k1_hw20
def k1_off43 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v85 : Index := Scalar.indexCast arg17
  let c96_35 : Index := 96#32
  ![v85.toNat, 96]
def k1_off44 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v87 : Index := Scalar.indexCast arg17
  let c112 : Index := 112#32
  ![v87.toNat, 112]

def k1_chk21 (v90 : IVec S16 32) : Prop :=
  (∀ a x, ((![v90] : Fin 1 → IVec S16 32) a x).toNat < S32768.size a)
theorem k1_idx21_inb : ∀ (v90 : IVec S16 32) (k1_hw21 : k1_chk21 v90), ∀ a x, ((![v90] : Fin 1 → IVec S16 32) a x).toNat < S32768.size a := fun v90 k1_hw21 => k1_hw21
def k1_off45 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v92 : Index := Scalar.indexCast arg17
  let c112_36 : Index := 112#32
  ![v92.toNat, 112]
def k1_off46 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v94 : Index := Scalar.indexCast arg17
  let c128 : Index := 128#32
  ![v94.toNat, 128]

def k1_chk22 (v97 : IVec S16 32) : Prop :=
  (∀ a x, ((![v97] : Fin 1 → IVec S16 32) a x).toNat < S32768.size a)
theorem k1_idx22_inb : ∀ (v97 : IVec S16 32) (k1_hw22 : k1_chk22 v97), ∀ a x, ((![v97] : Fin 1 → IVec S16 32) a x).toNat < S32768.size a := fun v97 k1_hw22 => k1_hw22
def k1_off47 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v99 : Index := Scalar.indexCast arg17
  let c128_37 : Index := 128#32
  ![v99.toNat, 128]
def k1_off48 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v101 : Index := Scalar.indexCast arg17
  let c144 : Index := 144#32
  ![v101.toNat, 144]

def k1_chk23 (v104 : IVec S16 32) : Prop :=
  (∀ a x, ((![v104] : Fin 1 → IVec S16 32) a x).toNat < S32768.size a)
theorem k1_idx23_inb : ∀ (v104 : IVec S16 32) (k1_hw23 : k1_chk23 v104), ∀ a x, ((![v104] : Fin 1 → IVec S16 32) a x).toNat < S32768.size a := fun v104 k1_hw23 => k1_hw23
def k1_off49 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v106 : Index := Scalar.indexCast arg17
  let c144_38 : Index := 144#32
  ![v106.toNat, 144]
def k1_off50 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v108 : Index := Scalar.indexCast arg17
  let c160 : Index := 160#32
  ![v108.toNat, 160]

def k1_chk24 (v111 : IVec S16 32) : Prop :=
  (∀ a x, ((![v111] : Fin 1 → IVec S16 32) a x).toNat < S32768.size a)
theorem k1_idx24_inb : ∀ (v111 : IVec S16 32) (k1_hw24 : k1_chk24 v111), ∀ a x, ((![v111] : Fin 1 → IVec S16 32) a x).toNat < S32768.size a := fun v111 k1_hw24 => k1_hw24
def k1_off51 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v113 : Index := Scalar.indexCast arg17
  let c160_39 : Index := 160#32
  ![v113.toNat, 160]
def k1_off52 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v115 : Index := Scalar.indexCast arg17
  let c176 : Index := 176#32
  ![v115.toNat, 176]

def k1_chk25 (v118 : IVec S16 32) : Prop :=
  (∀ a x, ((![v118] : Fin 1 → IVec S16 32) a x).toNat < S32768.size a)
theorem k1_idx25_inb : ∀ (v118 : IVec S16 32) (k1_hw25 : k1_chk25 v118), ∀ a x, ((![v118] : Fin 1 → IVec S16 32) a x).toNat < S32768.size a := fun v118 k1_hw25 => k1_hw25
def k1_off53 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v120 : Index := Scalar.indexCast arg17
  let c176_40 : Index := 176#32
  ![v120.toNat, 176]
def k1_off54 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v122 : Index := Scalar.indexCast arg17
  let c184 : Index := 184#32
  ![v122.toNat, 184]

def k1_chk26 (v125 : IVec S16 32) : Prop :=
  (∀ a x, ((![v125] : Fin 1 → IVec S16 32) a x).toNat < S32768.size a)
theorem k1_idx26_inb : ∀ (v125 : IVec S16 32) (k1_hw26 : k1_chk26 v125), ∀ a x, ((![v125] : Fin 1 → IVec S16 32) a x).toNat < S32768.size a := fun v125 k1_hw26 => k1_hw26
def k1_off55 (k1_t2 : Fin k1_t2_loop.trips) : Fin 2 → Nat :=
  let c0_i32_17 : BitVec 32 := 0#32
  let c1_i32_19 : BitVec 32 := 1#32
  let arg17 : BitVec 32 := Scf.iv c0_i32_17 c1_i32_19 k1_t2
  let v127 : Index := Scalar.indexCast arg17
  let c184_41 : Index := 184#32
  ![v127.toNat, 184]
abbrev grid2 : Pipeline.Grid := ⟨1, ![4], ![false]⟩

def cc2_transform_0 (i : grid2.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc2_transform_1 (i : grid2.Coords) : Fin 2 → Nat :=
  let arg0 : BitVec 32 := BitVec.ofNat 32 (i 0).val
  let c4_i32 : BitVec 32 := 4#32
  let v0 : BitVec 32 := Scalar.addi arg0 c4_i32
  let c0_i32 : BitVec 32 := 0#32
  let c0_i32_0 : BitVec 32 := 0#32
  ![v0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 1 → Nat :=
  let arg0 : BitVec 32 := BitVec.ofNat 32 (i 0).val
  let c0_i32 : BitVec 32 := 0#32
  ![arg0.toNat]

abbrev stage2_0 : Fin 2 → Memref sig .tc .vmem S512x1 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1024x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S512x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x512 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x512 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S256x256 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x256 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128x256 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S524288 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

abbrev grid3 : Pipeline.Grid := ⟨2, ![2, 16], ![false, false]⟩

def k3_off1 (i : grid3.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c1024_i32 : BitVec 32 := 1024#32
  let v4 : BitVec 32 := Scalar.muli v3 c1024_i32
  ![v4.toNat]
def k3_off2 (i : grid3.Coords) (c0_i32 : BitVec 32) : Fin 2 → Nat :=
  let c2048_i32 : BitVec 32 := 2048#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let v7 : BitVec 32 := Scalar.addi c2048_i32 v3
  let c0_i32_0 : BitVec 32 := 0#32
  ![v7.toNat, 0]
@[reducible] def k3_t1_loop : Scf.Loop 32 :=
  let c0_i32_8 : BitVec 32 := 0#32
  let c32_i32_9 : BitVec 32 := 32#32
  let v21 : BitVec 32 := Scalar.addi c0_i32_8 c32_i32_9
  let c1_i32 : BitVec 32 := 1#32
  ⟨c0_i32_8, v21, c1_i32⟩
def k3_off3 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v38 : Index := Scalar.indexCast arg17
  let c0 : Index := 0#32
  ![v38.toNat, 0]

def k3_chk1 (v41 : IVec S16 32) : Prop :=
  (∀ a x, ((![v41] : Fin 1 → IVec S16 32) a x).toNat < S32768.size a)
theorem k3_idx1_inb : ∀ (v41 : IVec S16 32) (k3_hw1 : k3_chk1 v41), ∀ a x, ((![v41] : Fin 1 → IVec S16 32) a x).toNat < S32768.size a := fun v41 k3_hw1 => k3_hw1
def k3_off4 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v43 : Index := Scalar.indexCast arg17
  let c0_28 : Index := 0#32
  ![v43.toNat, 0]
def k3_off5 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v45 : Index := Scalar.indexCast arg17
  let c16 : Index := 16#32
  ![v45.toNat, 16]

def k3_chk2 (v48 : IVec S16 32) : Prop :=
  (∀ a x, ((![v48] : Fin 1 → IVec S16 32) a x).toNat < S32768.size a)
theorem k3_idx2_inb : ∀ (v48 : IVec S16 32) (k3_hw2 : k3_chk2 v48), ∀ a x, ((![v48] : Fin 1 → IVec S16 32) a x).toNat < S32768.size a := fun v48 k3_hw2 => k3_hw2
def k3_off6 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v50 : Index := Scalar.indexCast arg17
  let c16_29 : Index := 16#32
  ![v50.toNat, 16]
def k3_off7 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v52 : Index := Scalar.indexCast arg17
  let c32 : Index := 32#32
  ![v52.toNat, 32]

def k3_chk3 (v55 : IVec S16 32) : Prop :=
  (∀ a x, ((![v55] : Fin 1 → IVec S16 32) a x).toNat < S32768.size a)
theorem k3_idx3_inb : ∀ (v55 : IVec S16 32) (k3_hw3 : k3_chk3 v55), ∀ a x, ((![v55] : Fin 1 → IVec S16 32) a x).toNat < S32768.size a := fun v55 k3_hw3 => k3_hw3
def k3_off8 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v57 : Index := Scalar.indexCast arg17
  let c32_30 : Index := 32#32
  ![v57.toNat, 32]
def k3_off9 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v59 : Index := Scalar.indexCast arg17
  let c48 : Index := 48#32
  ![v59.toNat, 48]

def k3_chk4 (v62 : IVec S16 32) : Prop :=
  (∀ a x, ((![v62] : Fin 1 → IVec S16 32) a x).toNat < S32768.size a)
theorem k3_idx4_inb : ∀ (v62 : IVec S16 32) (k3_hw4 : k3_chk4 v62), ∀ a x, ((![v62] : Fin 1 → IVec S16 32) a x).toNat < S32768.size a := fun v62 k3_hw4 => k3_hw4
def k3_off10 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v64 : Index := Scalar.indexCast arg17
  let c48_31 : Index := 48#32
  ![v64.toNat, 48]
def k3_off11 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v66 : Index := Scalar.indexCast arg17
  let c64 : Index := 64#32
  ![v66.toNat, 64]

def k3_chk5 (v69 : IVec S16 32) : Prop :=
  (∀ a x, ((![v69] : Fin 1 → IVec S16 32) a x).toNat < S32768.size a)
theorem k3_idx5_inb : ∀ (v69 : IVec S16 32) (k3_hw5 : k3_chk5 v69), ∀ a x, ((![v69] : Fin 1 → IVec S16 32) a x).toNat < S32768.size a := fun v69 k3_hw5 => k3_hw5
def k3_off12 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v71 : Index := Scalar.indexCast arg17
  let c64_32 : Index := 64#32
  ![v71.toNat, 64]
def k3_off13 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v73 : Index := Scalar.indexCast arg17
  let c80 : Index := 80#32
  ![v73.toNat, 80]

def k3_chk6 (v76 : IVec S16 32) : Prop :=
  (∀ a x, ((![v76] : Fin 1 → IVec S16 32) a x).toNat < S32768.size a)
theorem k3_idx6_inb : ∀ (v76 : IVec S16 32) (k3_hw6 : k3_chk6 v76), ∀ a x, ((![v76] : Fin 1 → IVec S16 32) a x).toNat < S32768.size a := fun v76 k3_hw6 => k3_hw6
def k3_off14 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v78 : Index := Scalar.indexCast arg17
  let c80_33 : Index := 80#32
  ![v78.toNat, 80]
def k3_off15 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v80 : Index := Scalar.indexCast arg17
  let c96 : Index := 96#32
  ![v80.toNat, 96]

def k3_chk7 (v83 : IVec S16 32) : Prop :=
  (∀ a x, ((![v83] : Fin 1 → IVec S16 32) a x).toNat < S32768.size a)
theorem k3_idx7_inb : ∀ (v83 : IVec S16 32) (k3_hw7 : k3_chk7 v83), ∀ a x, ((![v83] : Fin 1 → IVec S16 32) a x).toNat < S32768.size a := fun v83 k3_hw7 => k3_hw7
def k3_off16 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v85 : Index := Scalar.indexCast arg17
  let c96_34 : Index := 96#32
  ![v85.toNat, 96]
def k3_off17 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v87 : Index := Scalar.indexCast arg17
  let c112 : Index := 112#32
  ![v87.toNat, 112]

def k3_chk8 (v90 : IVec S16 32) : Prop :=
  (∀ a x, ((![v90] : Fin 1 → IVec S16 32) a x).toNat < S32768.size a)
theorem k3_idx8_inb : ∀ (v90 : IVec S16 32) (k3_hw8 : k3_chk8 v90), ∀ a x, ((![v90] : Fin 1 → IVec S16 32) a x).toNat < S32768.size a := fun v90 k3_hw8 => k3_hw8
def k3_off18 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v92 : Index := Scalar.indexCast arg17
  let c112_35 : Index := 112#32
  ![v92.toNat, 112]
def k3_off19 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v94 : Index := Scalar.indexCast arg17
  let c128 : Index := 128#32
  ![v94.toNat, 128]

def k3_chk9 (v97 : IVec S16 32) : Prop :=
  (∀ a x, ((![v97] : Fin 1 → IVec S16 32) a x).toNat < S32768.size a)
theorem k3_idx9_inb : ∀ (v97 : IVec S16 32) (k3_hw9 : k3_chk9 v97), ∀ a x, ((![v97] : Fin 1 → IVec S16 32) a x).toNat < S32768.size a := fun v97 k3_hw9 => k3_hw9
def k3_off20 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v99 : Index := Scalar.indexCast arg17
  let c128_36 : Index := 128#32
  ![v99.toNat, 128]
def k3_off21 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v101 : Index := Scalar.indexCast arg17
  let c144 : Index := 144#32
  ![v101.toNat, 144]

def k3_chk10 (v104 : IVec S16 32) : Prop :=
  (∀ a x, ((![v104] : Fin 1 → IVec S16 32) a x).toNat < S32768.size a)
theorem k3_idx10_inb : ∀ (v104 : IVec S16 32) (k3_hw10 : k3_chk10 v104), ∀ a x, ((![v104] : Fin 1 → IVec S16 32) a x).toNat < S32768.size a := fun v104 k3_hw10 => k3_hw10
def k3_off22 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v106 : Index := Scalar.indexCast arg17
  let c144_37 : Index := 144#32
  ![v106.toNat, 144]
def k3_off23 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v108 : Index := Scalar.indexCast arg17
  let c160 : Index := 160#32
  ![v108.toNat, 160]

def k3_chk11 (v111 : IVec S16 32) : Prop :=
  (∀ a x, ((![v111] : Fin 1 → IVec S16 32) a x).toNat < S32768.size a)
theorem k3_idx11_inb : ∀ (v111 : IVec S16 32) (k3_hw11 : k3_chk11 v111), ∀ a x, ((![v111] : Fin 1 → IVec S16 32) a x).toNat < S32768.size a := fun v111 k3_hw11 => k3_hw11
def k3_off24 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v113 : Index := Scalar.indexCast arg17
  let c160_38 : Index := 160#32
  ![v113.toNat, 160]
def k3_off25 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v115 : Index := Scalar.indexCast arg17
  let c176 : Index := 176#32
  ![v115.toNat, 176]

def k3_chk12 (v118 : IVec S16 32) : Prop :=
  (∀ a x, ((![v118] : Fin 1 → IVec S16 32) a x).toNat < S32768.size a)
theorem k3_idx12_inb : ∀ (v118 : IVec S16 32) (k3_hw12 : k3_chk12 v118), ∀ a x, ((![v118] : Fin 1 → IVec S16 32) a x).toNat < S32768.size a := fun v118 k3_hw12 => k3_hw12
def k3_off26 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v120 : Index := Scalar.indexCast arg17
  let c176_39 : Index := 176#32
  ![v120.toNat, 176]
def k3_off27 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v122 : Index := Scalar.indexCast arg17
  let c184 : Index := 184#32
  ![v122.toNat, 184]

def k3_chk13 (v125 : IVec S16 32) : Prop :=
  (∀ a x, ((![v125] : Fin 1 → IVec S16 32) a x).toNat < S32768.size a)
theorem k3_idx13_inb : ∀ (v125 : IVec S16 32) (k3_hw13 : k3_chk13 v125), ∀ a x, ((![v125] : Fin 1 → IVec S16 32) a x).toNat < S32768.size a := fun v125 k3_hw13 => k3_hw13
def k3_off28 (k3_t1 : Fin k3_t1_loop.trips) : Fin 2 → Nat :=
  let c0_i32_8 : BitVec 32 := 0#32
  let c1_i32 : BitVec 32 := 1#32
  let arg17 : BitVec 32 := Scf.iv c0_i32_8 c1_i32 k3_t1
  let v127 : Index := Scalar.indexCast arg17
  let c184_40 : Index := 184#32
  ![v127.toNat, 184]
def k3_off29 (i : grid3.Coords) (c0_i32_11 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v22 : BitVec 32 := Scalar.addi v2 c0_i32_11
  let c0_i32_12 : BitVec 32 := 0#32
  ![v22.toNat, 0]
@[reducible] def k3_t2_loop : Scf.Loop 32 :=
  let c0_i32_16 : BitVec 32 := 0#32
  let c32_i32_17 : BitVec 32 := 32#32
  let v29 : BitVec 32 := Scalar.addi c0_i32_16 c32_i32_17
  let c1_i32_18 : BitVec 32 := 1#32
  ⟨c0_i32_16, v29, c1_i32_18⟩
def k3_off30 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v38 : Index := Scalar.indexCast arg17
  let c0 : Index := 0#32
  ![v38.toNat, 0]

def k3_chk14 (v41 : IVec S16 32) : Prop :=
  (∀ a x, ((![v41] : Fin 1 → IVec S16 32) a x).toNat < S32768.size a)
theorem k3_idx14_inb : ∀ (v41 : IVec S16 32) (k3_hw14 : k3_chk14 v41), ∀ a x, ((![v41] : Fin 1 → IVec S16 32) a x).toNat < S32768.size a := fun v41 k3_hw14 => k3_hw14
def k3_off31 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v43 : Index := Scalar.indexCast arg17
  let c0_28 : Index := 0#32
  ![v43.toNat, 0]
def k3_off32 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v45 : Index := Scalar.indexCast arg17
  let c16 : Index := 16#32
  ![v45.toNat, 16]

def k3_chk15 (v48 : IVec S16 32) : Prop :=
  (∀ a x, ((![v48] : Fin 1 → IVec S16 32) a x).toNat < S32768.size a)
theorem k3_idx15_inb : ∀ (v48 : IVec S16 32) (k3_hw15 : k3_chk15 v48), ∀ a x, ((![v48] : Fin 1 → IVec S16 32) a x).toNat < S32768.size a := fun v48 k3_hw15 => k3_hw15
def k3_off33 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v50 : Index := Scalar.indexCast arg17
  let c16_29 : Index := 16#32
  ![v50.toNat, 16]
def k3_off34 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v52 : Index := Scalar.indexCast arg17
  let c32 : Index := 32#32
  ![v52.toNat, 32]

def k3_chk16 (v55 : IVec S16 32) : Prop :=
  (∀ a x, ((![v55] : Fin 1 → IVec S16 32) a x).toNat < S32768.size a)
theorem k3_idx16_inb : ∀ (v55 : IVec S16 32) (k3_hw16 : k3_chk16 v55), ∀ a x, ((![v55] : Fin 1 → IVec S16 32) a x).toNat < S32768.size a := fun v55 k3_hw16 => k3_hw16
def k3_off35 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v57 : Index := Scalar.indexCast arg17
  let c32_30 : Index := 32#32
  ![v57.toNat, 32]
def k3_off36 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v59 : Index := Scalar.indexCast arg17
  let c48 : Index := 48#32
  ![v59.toNat, 48]

def k3_chk17 (v62 : IVec S16 32) : Prop :=
  (∀ a x, ((![v62] : Fin 1 → IVec S16 32) a x).toNat < S32768.size a)
theorem k3_idx17_inb : ∀ (v62 : IVec S16 32) (k3_hw17 : k3_chk17 v62), ∀ a x, ((![v62] : Fin 1 → IVec S16 32) a x).toNat < S32768.size a := fun v62 k3_hw17 => k3_hw17
def k3_off37 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v64 : Index := Scalar.indexCast arg17
  let c48_31 : Index := 48#32
  ![v64.toNat, 48]
def k3_off38 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v66 : Index := Scalar.indexCast arg17
  let c64 : Index := 64#32
  ![v66.toNat, 64]

def k3_chk18 (v69 : IVec S16 32) : Prop :=
  (∀ a x, ((![v69] : Fin 1 → IVec S16 32) a x).toNat < S32768.size a)
theorem k3_idx18_inb : ∀ (v69 : IVec S16 32) (k3_hw18 : k3_chk18 v69), ∀ a x, ((![v69] : Fin 1 → IVec S16 32) a x).toNat < S32768.size a := fun v69 k3_hw18 => k3_hw18
def k3_off39 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v71 : Index := Scalar.indexCast arg17
  let c64_32 : Index := 64#32
  ![v71.toNat, 64]
def k3_off40 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v73 : Index := Scalar.indexCast arg17
  let c80 : Index := 80#32
  ![v73.toNat, 80]

def k3_chk19 (v76 : IVec S16 32) : Prop :=
  (∀ a x, ((![v76] : Fin 1 → IVec S16 32) a x).toNat < S32768.size a)
theorem k3_idx19_inb : ∀ (v76 : IVec S16 32) (k3_hw19 : k3_chk19 v76), ∀ a x, ((![v76] : Fin 1 → IVec S16 32) a x).toNat < S32768.size a := fun v76 k3_hw19 => k3_hw19
def k3_off41 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v78 : Index := Scalar.indexCast arg17
  let c80_33 : Index := 80#32
  ![v78.toNat, 80]
def k3_off42 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v80 : Index := Scalar.indexCast arg17
  let c96 : Index := 96#32
  ![v80.toNat, 96]

def k3_chk20 (v83 : IVec S16 32) : Prop :=
  (∀ a x, ((![v83] : Fin 1 → IVec S16 32) a x).toNat < S32768.size a)
theorem k3_idx20_inb : ∀ (v83 : IVec S16 32) (k3_hw20 : k3_chk20 v83), ∀ a x, ((![v83] : Fin 1 → IVec S16 32) a x).toNat < S32768.size a := fun v83 k3_hw20 => k3_hw20
def k3_off43 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v85 : Index := Scalar.indexCast arg17
  let c96_34 : Index := 96#32
  ![v85.toNat, 96]
def k3_off44 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v87 : Index := Scalar.indexCast arg17
  let c112 : Index := 112#32
  ![v87.toNat, 112]

def k3_chk21 (v90 : IVec S16 32) : Prop :=
  (∀ a x, ((![v90] : Fin 1 → IVec S16 32) a x).toNat < S32768.size a)
theorem k3_idx21_inb : ∀ (v90 : IVec S16 32) (k3_hw21 : k3_chk21 v90), ∀ a x, ((![v90] : Fin 1 → IVec S16 32) a x).toNat < S32768.size a := fun v90 k3_hw21 => k3_hw21
def k3_off45 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v92 : Index := Scalar.indexCast arg17
  let c112_35 : Index := 112#32
  ![v92.toNat, 112]
def k3_off46 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v94 : Index := Scalar.indexCast arg17
  let c128 : Index := 128#32
  ![v94.toNat, 128]

def k3_chk22 (v97 : IVec S16 32) : Prop :=
  (∀ a x, ((![v97] : Fin 1 → IVec S16 32) a x).toNat < S32768.size a)
theorem k3_idx22_inb : ∀ (v97 : IVec S16 32) (k3_hw22 : k3_chk22 v97), ∀ a x, ((![v97] : Fin 1 → IVec S16 32) a x).toNat < S32768.size a := fun v97 k3_hw22 => k3_hw22
def k3_off47 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v99 : Index := Scalar.indexCast arg17
  let c128_36 : Index := 128#32
  ![v99.toNat, 128]
def k3_off48 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v101 : Index := Scalar.indexCast arg17
  let c144 : Index := 144#32
  ![v101.toNat, 144]

def k3_chk23 (v104 : IVec S16 32) : Prop :=
  (∀ a x, ((![v104] : Fin 1 → IVec S16 32) a x).toNat < S32768.size a)
theorem k3_idx23_inb : ∀ (v104 : IVec S16 32) (k3_hw23 : k3_chk23 v104), ∀ a x, ((![v104] : Fin 1 → IVec S16 32) a x).toNat < S32768.size a := fun v104 k3_hw23 => k3_hw23
def k3_off49 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v106 : Index := Scalar.indexCast arg17
  let c144_37 : Index := 144#32
  ![v106.toNat, 144]
def k3_off50 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v108 : Index := Scalar.indexCast arg17
  let c160 : Index := 160#32
  ![v108.toNat, 160]

def k3_chk24 (v111 : IVec S16 32) : Prop :=
  (∀ a x, ((![v111] : Fin 1 → IVec S16 32) a x).toNat < S32768.size a)
theorem k3_idx24_inb : ∀ (v111 : IVec S16 32) (k3_hw24 : k3_chk24 v111), ∀ a x, ((![v111] : Fin 1 → IVec S16 32) a x).toNat < S32768.size a := fun v111 k3_hw24 => k3_hw24
def k3_off51 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v113 : Index := Scalar.indexCast arg17
  let c160_38 : Index := 160#32
  ![v113.toNat, 160]
def k3_off52 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v115 : Index := Scalar.indexCast arg17
  let c176 : Index := 176#32
  ![v115.toNat, 176]

def k3_chk25 (v118 : IVec S16 32) : Prop :=
  (∀ a x, ((![v118] : Fin 1 → IVec S16 32) a x).toNat < S32768.size a)
theorem k3_idx25_inb : ∀ (v118 : IVec S16 32) (k3_hw25 : k3_chk25 v118), ∀ a x, ((![v118] : Fin 1 → IVec S16 32) a x).toNat < S32768.size a := fun v118 k3_hw25 => k3_hw25
def k3_off53 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v120 : Index := Scalar.indexCast arg17
  let c176_39 : Index := 176#32
  ![v120.toNat, 176]
def k3_off54 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v122 : Index := Scalar.indexCast arg17
  let c184 : Index := 184#32
  ![v122.toNat, 184]

def k3_chk26 (v125 : IVec S16 32) : Prop :=
  (∀ a x, ((![v125] : Fin 1 → IVec S16 32) a x).toNat < S32768.size a)
theorem k3_idx26_inb : ∀ (v125 : IVec S16 32) (k3_hw26 : k3_chk26 v125), ∀ a x, ((![v125] : Fin 1 → IVec S16 32) a x).toNat < S32768.size a := fun v125 k3_hw26 => k3_hw26
def k3_off55 (k3_t2 : Fin k3_t2_loop.trips) : Fin 2 → Nat :=
  let c0_i32_16 : BitVec 32 := 0#32
  let c1_i32_18 : BitVec 32 := 1#32
  let arg17 : BitVec 32 := Scf.iv c0_i32_16 c1_i32_18 k3_t2
  let v127 : Index := Scalar.indexCast arg17
  let c184_40 : Index := 184#32
  ![v127.toNat, 184]
abbrev grid4 : Pipeline.Grid := ⟨1, ![1], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 1 → Memref sig .tc .vmem S2048x200 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true]

abbrev stage4_1 : Fin 1 → Memref sig .tc .vmem S2048x200 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![true]

abbrev grid5 : Pipeline.Grid := ⟨1, ![1], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 1 → Memref sig .tc .vmem S2048x200 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true]

abbrev stage5_1 : Fin 1 → Memref sig .tc .vmem S2048x200 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![true]

abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S4096 : Shape := ⟨1, ![4096]⟩
abbrev S4096x128 : Shape := ⟨2, ![4096, 128]⟩
abbrev S4096x200x2 : Shape := ⟨3, ![4096, 200, 2]⟩
abbrev S100000x128 : Shape := ⟨2, ![100000, 128]⟩
abbrev S512x128 : Shape := ⟨2, ![512, 128]⟩
abbrev S512 : Shape := ⟨1, ![512]⟩
abbrev S256x256 : Shape := ⟨2, ![256, 256]⟩
abbrev S256 : Shape := ⟨1, ![256]⟩
abbrev S128x256 : Shape := ⟨2, ![128, 256]⟩
abbrev S128 : Shape := ⟨1, ![128]⟩
abbrev S_ : Shape := ⟨0, ![]⟩
abbrev S4096x1 : Shape := ⟨2, ![4096, 1]⟩
abbrev S1 : Shape := ⟨1, ![1]⟩
abbrev S1x1 : Shape := ⟨2, ![1, 1]⟩
abbrev S4096x200x1 : Shape := ⟨3, ![4096, 200, 1]⟩
abbrev S4096x200 : Shape := ⟨2, ![4096, 200]⟩
abbrev S128x512 : Shape := ⟨2, ![128, 512]⟩
abbrev S4096x512 : Shape := ⟨2, ![4096, 512]⟩
abbrev S1x512 : Shape := ⟨2, ![1, 512]⟩
abbrev S1x1x1 : Shape := ⟨3, ![1, 1, 1]⟩
abbrev S4096x200x128 : Shape := ⟨3, ![4096, 200, 128]⟩
abbrev S4096x256 : Shape := ⟨2, ![4096, 256]⟩
abbrev S1x256 : Shape := ⟨2, ![1, 256]⟩
abbrev S256x128 : Shape := ⟨2, ![256, 128]⟩
abbrev S1x128 : Shape := ⟨2, ![1, 128]⟩
abbrev S4096x1x128 : Shape := ⟨3, ![4096, 1, 128]⟩

abbrev nBuf : Space → Nat
  | .hbm => 157
  | .vmem => 0
  | .smem => 0
  | _ => 0

abbrev hbmTy0_0 (i : Nat) : BufTy := match i % 128 with
  | 0 => ⟨S4096, .i32⟩
  | 1 => ⟨S4096x128, .f32⟩
  | 2 => ⟨S4096x200x2, .i32⟩
  | 3 => ⟨S100000x128, .f32⟩
  | 4 => ⟨S512x128, .f32⟩
  | 5 => ⟨S512x128, .f32⟩
  | 6 => ⟨S512, .f32⟩
  | 7 => ⟨S512, .f32⟩
  | 8 => ⟨S256x256, .f32⟩
  | 9 => ⟨S256, .f32⟩
  | 10 => ⟨S128x256, .f32⟩
  | 11 => ⟨S128, .f32⟩
  | 12 => ⟨S_, .i32⟩
  | 13 => ⟨S4096, .i32⟩
  | 14 => ⟨S4096, .i1⟩
  | 15 => ⟨S_, .i32⟩
  | 16 => ⟨S4096, .i32⟩
  | 17 => ⟨S4096, .i32⟩
  | 18 => ⟨S4096, .i32⟩
  | 19 => ⟨S4096x1, .i32⟩
  | 20 => ⟨S1, .i32⟩
  | 21 => ⟨S_, .i32⟩
  | 22 => ⟨S4096x1, .i32⟩
  | 23 => ⟨S4096x1, .i1⟩
  | 24 => ⟨S1x1, .i32⟩
  | 25 => ⟨S4096x1, .i32⟩
  | 26 => ⟨S4096x1, .i1⟩
  | 27 => ⟨S4096x1, .i1⟩
  | 28 => ⟨S_, .i1⟩
  | 29 => ⟨S4096, .i1⟩
  | 30 => ⟨S4096x128, .f32⟩
  | 31 => ⟨S4096x128, .i1⟩
  | 32 => ⟨S_, .f32⟩
  | 33 => ⟨S4096x128, .f32⟩
  | 34 => ⟨S4096x128, .f32⟩
  | 35 => ⟨S4096x200x1, .i32⟩
  | 36 => ⟨S4096x200, .i32⟩
  | 37 => ⟨S_, .i32⟩
  | 38 => ⟨S4096x200, .i32⟩
  | 39 => ⟨S4096x200, .i1⟩
  | 40 => ⟨S_, .i32⟩
  | 41 => ⟨S4096, .i32⟩
  | 42 => ⟨S4096, .i1⟩
  | 43 => ⟨S4096x1, .i1⟩
  | 44 => ⟨S_, .f32⟩
  | 45 => ⟨S4096x128, .f32⟩
  | 46 => ⟨S_, .f32⟩
  | 47 => ⟨S4096x128, .f32⟩
  | 48 => ⟨S128x512, .f32⟩
  | 49 => ⟨S4096x512, .f32⟩
  | 50 => ⟨S1x512, .f32⟩
  | 51 => ⟨S4096x512, .f32⟩
  | 52 => ⟨S4096x512, .f32⟩
  | 53 => ⟨S128x512, .f32⟩
  | 54 => ⟨S4096x512, .f32⟩
  | 55 => ⟨S4096x512, .f32⟩
  | 56 => ⟨S1x512, .f32⟩
  | 57 => ⟨S4096x512, .f32⟩
  | 58 => ⟨S4096x512, .f32⟩
  | 59 => ⟨S4096x128, .f32⟩
  | 60 => ⟨S4096x128, .f32⟩
  | 61 => ⟨S4096x128, .f32⟩
  | 62 => ⟨S_, .f32⟩
  | 63 => ⟨S4096x128, .f32⟩
  | 64 => ⟨S4096x128, .f32⟩
  | 65 => ⟨S_, .f32⟩
  | 66 => ⟨S4096x128, .f32⟩
  | 67 => ⟨S4096x128, .f32⟩
  | 68 => ⟨S4096x128, .f32⟩
  | 69 => ⟨S4096x128, .f32⟩
  | 70 => ⟨S4096x128, .f32⟩
  | 71 => ⟨S_, .f32⟩
  | 72 => ⟨S4096x128, .f32⟩
  | 73 => ⟨S4096x128, .f32⟩
  | 74 => ⟨S_, .f32⟩
  | 75 => ⟨S4096x128, .f32⟩
  | 76 => ⟨S4096x128, .f32⟩
  | 77 => ⟨S4096x128, .f32⟩
  | 78 => ⟨S4096x128, .f32⟩
  | 79 => ⟨S4096x128, .f32⟩
  | 80 => ⟨S4096x128, .f32⟩
  | 81 => ⟨S4096x128, .f32⟩
  | 82 => ⟨S_, .f32⟩
  | 83 => ⟨S4096x128, .f32⟩
  | 84 => ⟨S4096x128, .f32⟩
  | 85 => ⟨S_, .f32⟩
  | 86 => ⟨S4096x128, .f32⟩
  | 87 => ⟨S4096x128, .f32⟩
  | 88 => ⟨S4096x128, .f32⟩
  | 89 => ⟨S4096x128, .f32⟩
  | 90 => ⟨S4096x128, .f32⟩
  | 91 => ⟨S4096x128, .f32⟩
  | 92 => ⟨S4096x128, .f32⟩
  | 93 => ⟨S4096x128, .i1⟩
  | 94 => ⟨S4096x128, .f32⟩
  | 95 => ⟨S4096x200x1, .i32⟩
  | 96 => ⟨S4096x200, .i32⟩
  | 97 => ⟨S_, .i32⟩
  | 98 => ⟨S4096x200, .i32⟩
  | 99 => ⟨S4096x200, .i1⟩
  | 100 => ⟨S_, .i32⟩
  | 101 => ⟨S4096x200, .i32⟩
  | 102 => ⟨S4096x200, .i32⟩
  | 103 => ⟨S4096x200, .i32⟩
  | 104 => ⟨S4096x200x1, .i32⟩
  | 105 => ⟨S1, .i32⟩
  | 106 => ⟨S_, .i32⟩
  | 107 => ⟨S4096x200x1, .i32⟩
  | 108 => ⟨S4096x200x1, .i1⟩
  | 109 => ⟨S1x1x1, .i32⟩
  | 110 => ⟨S4096x200x1, .i32⟩
  | 111 => ⟨S4096x200x1, .i1⟩
  | 112 => ⟨S4096x200x1, .i1⟩
  | 113 => ⟨S_, .i1⟩
  | 114 => ⟨S4096x200, .i1⟩
  | 115 => ⟨S4096x200x128, .f32⟩
  | 116 => ⟨S4096x200x128, .i1⟩
  | 117 => ⟨S_, .f32⟩
  | 118 => ⟨S4096x200x128, .f32⟩
  | 119 => ⟨S4096x200x128, .f32⟩
  | 120 => ⟨S4096x256, .f32⟩
  | 121 => ⟨S256x256, .f32⟩
  | 122 => ⟨S4096x256, .f32⟩
  | 123 => ⟨S1x256, .f32⟩
  | 124 => ⟨S4096x256, .f32⟩
  | 125 => ⟨S4096x256, .f32⟩
  | 126 => ⟨S_, .f32⟩
  | 127 => ⟨S4096x256, .f32⟩
  | _ => ⟨S4096, .i32⟩

abbrev hbmTy0_1 (i : Nat) : BufTy := match i % 128 with
  | 0 => ⟨S4096x256, .f32⟩
  | 1 => ⟨S256x128, .f32⟩
  | 2 => ⟨S4096x128, .f32⟩
  | 3 => ⟨S1x128, .f32⟩
  | 4 => ⟨S4096x128, .f32⟩
  | 5 => ⟨S4096x128, .f32⟩
  | 6 => ⟨S4096x1x128, .f32⟩
  | 7 => ⟨S4096x200x128, .f32⟩
  | 8 => ⟨S4096x200x128, .f32⟩
  | 9 => ⟨S_, .f32⟩
  | 10 => ⟨S4096x200, .f32⟩
  | 11 => ⟨S_, .f32⟩
  | 12 => ⟨S4096x200, .f32⟩
  | 13 => ⟨S4096x200, .f32⟩
  | 14 => ⟨S_, .f32⟩
  | 15 => ⟨S4096, .f32⟩
  | 16 => ⟨S_, .f32⟩
  | 17 => ⟨S4096, .f32⟩
  | 18 => ⟨S4096, .f32⟩
  | 19 => ⟨S4096x1, .f32⟩
  | 20 => ⟨S4096x200, .f32⟩
  | 21 => ⟨S4096x200, .f32⟩
  | 22 => ⟨S4096x200, .f32⟩
  | 23 => ⟨S_, .f32⟩
  | 24 => ⟨S4096, .f32⟩
  | 25 => ⟨S4096x1, .f32⟩
  | 26 => ⟨S4096x1, .f32⟩
  | 27 => ⟨S4096x200, .f32⟩
  | 28 => ⟨S4096x200, .f32⟩
  | _ => ⟨S4096, .i32⟩

abbrev hbmTy (i : Nat) : BufTy := match i / 128 with
  | 0 => hbmTy0_0 i
  | 1 => hbmTy0_1 i
  | _ => ⟨S4096, .i32⟩

abbrev bufTy : (tb : Table) → Fin (tcTables nBuf tb) → BufTy
  | .hbm, ⟨i, _⟩ => hbmTy i
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_c_1 : Ref sig .tc := ⟨.hbm, 20, rfl⟩
abbrev main_call0_c_2 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_3 : Ref sig .tc := ⟨.hbm, 28, rfl⟩
abbrev main_call0_v12 : Ref sig .tc := ⟨.hbm, 29, rfl⟩
abbrev main_call0_v13 : Ref sig .tc := ⟨.hbm, 30, rfl⟩
abbrev main_call0_v14 : Ref sig .tc := ⟨.hbm, 31, rfl⟩
abbrev main_call0_cst : Ref sig .tc := ⟨.hbm, 32, rfl⟩
abbrev main_call0_v15 : Ref sig .tc := ⟨.hbm, 33, rfl⟩
abbrev main_v0 : Ref sig .tc := ⟨.hbm, 34, rfl⟩
abbrev main_v1 : Ref sig .tc := ⟨.hbm, 35, rfl⟩
abbrev main_v2 : Ref sig .tc := ⟨.hbm, 36, rfl⟩
abbrev main_c : Ref sig .tc := ⟨.hbm, 37, rfl⟩
abbrev main_v3 : Ref sig .tc := ⟨.hbm, 38, rfl⟩
abbrev main_v4 : Ref sig .tc := ⟨.hbm, 39, rfl⟩
abbrev main_c_0 : Ref sig .tc := ⟨.hbm, 40, rfl⟩
abbrev main_v5 : Ref sig .tc := ⟨.hbm, 41, rfl⟩
abbrev main_v6 : Ref sig .tc := ⟨.hbm, 42, rfl⟩
abbrev main_v7 : Ref sig .tc := ⟨.hbm, 43, rfl⟩
abbrev main_cst : Ref sig .tc := ⟨.hbm, 44, rfl⟩
abbrev main_v8 : Ref sig .tc := ⟨.hbm, 45, rfl⟩
abbrev main_cst_1 : Ref sig .tc := ⟨.hbm, 46, rfl⟩
abbrev main_v9 : Ref sig .tc := ⟨.hbm, 47, rfl⟩
abbrev main_v10 : Ref sig .tc := ⟨.hbm, 48, rfl⟩
abbrev main_v11 : Ref sig .tc := ⟨.hbm, 49, rfl⟩
abbrev main_v12 : Ref sig .tc := ⟨.hbm, 50, rfl⟩
abbrev main_v13 : Ref sig .tc := ⟨.hbm, 51, rfl⟩
abbrev main_v14 : Ref sig .tc := ⟨.hbm, 52, rfl⟩
abbrev main_v15 : Ref sig .tc := ⟨.hbm, 53, rfl⟩
abbrev main_v16 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_2 : Ref sig .tc := ⟨.hbm, 62, rfl⟩
abbrev main_v24 : Ref sig .tc := ⟨.hbm, 63, rfl⟩
abbrev main_v25 : Ref sig .tc := ⟨.hbm, 64, rfl⟩
abbrev main_cst_3 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_v30 : Ref sig .tc := ⟨.hbm, 70, rfl⟩
abbrev main_cst_4 : Ref sig .tc := ⟨.hbm, 71, rfl⟩
abbrev main_v31 : Ref sig .tc := ⟨.hbm, 72, rfl⟩
abbrev main_v32 : Ref sig .tc := ⟨.hbm, 73, rfl⟩
abbrev main_cst_5 : Ref sig .tc := ⟨.hbm, 74, rfl⟩
abbrev main_v33 : Ref sig .tc := ⟨.hbm, 75, rfl⟩
abbrev main_v34 : Ref sig .tc := ⟨.hbm, 76, rfl⟩
abbrev main_v35 : Ref sig .tc := ⟨.hbm, 77, rfl⟩
abbrev main_v36 : Ref sig .tc := ⟨.hbm, 78, rfl⟩
abbrev main_v37 : Ref sig .tc := ⟨.hbm, 79, rfl⟩
abbrev main_v38 : Ref sig .tc := ⟨.hbm, 80, rfl⟩
abbrev main_v39 : Ref sig .tc := ⟨.hbm, 81, rfl⟩
abbrev main_cst_6 : Ref sig .tc := ⟨.hbm, 82, rfl⟩
abbrev main_v40 : Ref sig .tc := ⟨.hbm, 83, rfl⟩
abbrev main_v41 : Ref sig .tc := ⟨.hbm, 84, rfl⟩
abbrev main_cst_7 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_call1_v0 : Ref sig .tc := ⟨.hbm, 93, rfl⟩
abbrev main_v49 : Ref sig .tc := ⟨.hbm, 94, rfl⟩
abbrev main_v50 : Ref sig .tc := ⟨.hbm, 95, rfl⟩
abbrev main_v51 : Ref sig .tc := ⟨.hbm, 96, rfl⟩
abbrev main_call2_c : Ref sig .tc := ⟨.hbm, 97, rfl⟩
abbrev main_call2_v0 : Ref sig .tc := ⟨.hbm, 98, rfl⟩
abbrev main_call2_v1 : Ref sig .tc := ⟨.hbm, 99, rfl⟩
abbrev main_call2_c_0 : Ref sig .tc := ⟨.hbm, 100, rfl⟩
abbrev main_call2_v2 : Ref sig .tc := ⟨.hbm, 101, rfl⟩
abbrev main_call2_v3 : Ref sig .tc := ⟨.hbm, 102, rfl⟩
abbrev main_call2_v4 : Ref sig .tc := ⟨.hbm, 103, rfl⟩
abbrev main_call2_v5 : Ref sig .tc := ⟨.hbm, 104, rfl⟩
abbrev main_call2_c_1 : Ref sig .tc := ⟨.hbm, 105, rfl⟩
abbrev main_call2_c_2 : Ref sig .tc := ⟨.hbm, 106, rfl⟩
abbrev main_call2_v6 : Ref sig .tc := ⟨.hbm, 107, rfl⟩
abbrev main_call2_v7 : Ref sig .tc := ⟨.hbm, 108, rfl⟩
abbrev main_call2_v8 : Ref sig .tc := ⟨.hbm, 109, rfl⟩
abbrev main_call2_v9 : Ref sig .tc := ⟨.hbm, 110, rfl⟩
abbrev main_call2_v10 : Ref sig .tc := ⟨.hbm, 111, rfl⟩
abbrev main_call2_v11 : Ref sig .tc := ⟨.hbm, 112, rfl⟩
abbrev main_call2_c_3 : Ref sig .tc := ⟨.hbm, 113, rfl⟩
abbrev main_call2_v12 : Ref sig .tc := ⟨.hbm, 114, rfl⟩
abbrev main_call2_v13 : Ref sig .tc := ⟨.hbm, 115, rfl⟩
abbrev main_call2_v14 : Ref sig .tc := ⟨.hbm, 116, rfl⟩
abbrev main_call2_cst : Ref sig .tc := ⟨.hbm, 117, rfl⟩
abbrev main_call2_v15 : Ref sig .tc := ⟨.hbm, 118, rfl⟩
abbrev main_v52 : Ref sig .tc := ⟨.hbm, 119, rfl⟩
abbrev main_v53 : Ref sig .tc := ⟨.hbm, 120, rfl⟩
abbrev main_v54 : Ref sig .tc := ⟨.hbm, 121, rfl⟩
abbrev main_v55 : Ref sig .tc := ⟨.hbm, 122, rfl⟩
abbrev main_v56 : Ref sig .tc := ⟨.hbm, 123, rfl⟩
abbrev main_v57 : Ref sig .tc := ⟨.hbm, 124, rfl⟩
abbrev main_v58 : Ref sig .tc := ⟨.hbm, 125, rfl⟩
abbrev main_call3_cst : Ref sig .tc := ⟨.hbm, 126, rfl⟩
abbrev main_call3_v0 : Ref sig .tc := ⟨.hbm, 127, rfl⟩
abbrev main_v59 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_cst_8 : Ref sig .tc := ⟨.hbm, 137, rfl⟩
abbrev main_v68 : Ref sig .tc := ⟨.hbm, 138, rfl⟩
abbrev main_cst_9 : Ref sig .tc := ⟨.hbm, 139, rfl⟩
abbrev main_call4_v0 : Ref sig .tc := ⟨.hbm, 140, rfl⟩
abbrev main_v69 : Ref sig .tc := ⟨.hbm, 141, rfl⟩
abbrev main_call5_cst : Ref sig .tc := ⟨.hbm, 142, rfl⟩
abbrev main_call5_v0 : Ref sig .tc := ⟨.hbm, 143, rfl⟩
abbrev main_call5_cst_0 : Ref sig .tc := ⟨.hbm, 144, rfl⟩
abbrev main_call5_v1 : Ref sig .tc := ⟨.hbm, 145, rfl⟩
abbrev main_call5_v2 : Ref sig .tc := ⟨.hbm, 146, rfl⟩
abbrev main_call5_v3 : Ref sig .tc := ⟨.hbm, 147, rfl⟩
abbrev main_call5_v4 : Ref sig .tc := ⟨.hbm, 148, rfl⟩
abbrev main_call5_v5 : Ref sig .tc := ⟨.hbm, 149, rfl⟩
abbrev main_call5_v6 : Ref sig .tc := ⟨.hbm, 150, rfl⟩
abbrev main_call5_cst_1 : Ref sig .tc := ⟨.hbm, 151, rfl⟩
abbrev main_call5_v7 : Ref sig .tc := ⟨.hbm, 152, rfl⟩
abbrev main_call5_v8 : Ref sig .tc := ⟨.hbm, 153, rfl⟩
abbrev main_call5_v9 : Ref sig .tc := ⟨.hbm, 154, rfl⟩
abbrev main_call5_v10 : Ref sig .tc := ⟨.hbm, 155, rfl⟩
abbrev main_v70 : Ref sig .tc := ⟨.hbm, 156, rfl⟩

abbrev nD : Nat := 1
abbrev τ : Topo := Topo.v7x

variable {F : FTy → Type} [FloatOps F]
-- ==== Proof.Common.lean ====
/-
  What every module of this proof shares: the program as the SparseCore launch sees it, the launch's side facts, and the
  resource algebra (the launch's handshakes, the pipelines' cells, the transfers' counters).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Tail

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The label signature of the pipelines over the SparseCore bodies. -/
abbrev ΛP : Labels := Pipeline.Sig Λ₀ (Fin 4) fun p => (pcfgs (F := F) p).Adm
/-- The SparseCore calls. -/
abbrev K : SparseCore.Cfg τ sig (ΛP (F := F)) 2 := sc (F := F)
/-- The bodies below the SparseCore launch: the pipelines over the tiles' kernels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds library; -/
abbrev UH : Type := URounds (GSem nD τ sig) ℕ
/-- beside the pipelines' cells and the transfers' counters. -/
abbrev UP : Type := UR sig nD τ × Counters
abbrev UU : Type := UH × UP

/-- Where the handshakes live: the left factor; -/
abbrev EH : Emb UH (MT nD τ sig (HIx 2) (Elt F) ℕ UU ℕ) := embL
/-- the pipelines' cells: the left of the right factor. -/
abbrev EP : Emb (UR sig nD τ) (MT nD τ sig (HIx 2) (Elt F) ℕ UU ℕ) := (Emb.inl : Emb (UR sig nD τ) UP).trans embR

end Cert.Proof.Tail
-- ==== Proof.Tc.lean ====
/-
  The TensorCore's four windowed calls: the two that compute the scores, and the two that normalise a half of the rows.
  Each body is run once over memrefs at any contents, and each call becomes a step of the main program over the
  unscoped buffers held at a valuation, the core owing the SparseCore calls still to come.
-/
module

public import proofs.«01_k».proof.Proof.Common
public import proofs.«01_k».proof.Proof.Gen.KernelIdeal.Points
public import proofs.«01_k».proof.Proof.Gen.KernelIdeal.Skeleton
public import Idealize.ShloMosaic.Lib.Pipeline.RegionArraysS
public import Idealize.ShloMosaic.Lib.Pipeline.FrameBody
public import Idealize.ShloMosaic.Lib.Pipeline.Value
public import Idealize.ShloMosaic.Lib.Tactic

@[expose] public section

noncomputable section

namespace Cert.Proof.Tail

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Pipeline (Dat BodyObligation)

variable {F : FTy → Type} [FloatOps F]

local notation "𝕄" => MT nD τ sig (HIx 2) (Elt F) ℕ UU ℕ

/-! ## The bodies -/

/-- What a block of scores is, from the blocks of the previous relations, the queries, the table's head and the weights. -/
def scoreBlk (x1 : Vec F S512x1 .i32) (x2 : Vec F S512x128 .f32) (x3 : Vec F S1024x128 .f32) (x4 : Vec F S512x128 .f32)
    (x5 x6 : Vec F S1x512 .f32) (x7 : Vec F S256x256 .f32) (x8 : Vec F S1x256 .f32) (x9 : Vec F S128x256 .f32)
    (x10 : Vec F S1x128 .f32) : FVec F S524288 .f32 :=
  k0_pay1 (iota .tc S512x1024 32 [1] iota_S512x1024_d1_w32) x3 (k0_pay2 x1 x3 x4 x5 x6) x2 x7 x8 x9 x10

/-- A load of the whole of a memref reads what it holds. -/
theorem readAt_all {sp : Space} {sh : Shape} {e : EltTy} (v : View sig .tc sp sh e) (f : v.ty.Contents (Elt F))
    {o : Fin sh.rank → ℕ} (ho : o = fun _ => 0) (h : ∀ a, o a + sh.size a ≤ sh.size a) :
    v.readAt (Elt F) (Rect.unit (s := sh) o sh.size h) f = v.read (Elt F) f :=
  (View.readAt_eq_ld v f _).trans (View.ld_unit_zero ho h _)

section Runs

variable (c : Dev nD)

theorem scores_run0 (i : grid0.Coords) {m1 : Memref sig .tc .vmem S512x1 .i32} {m2 : Memref sig .tc .vmem S512x128 .f32} {m3 : Memref sig .tc .vmem S1024x128 .f32}
    {m4 : Memref sig .tc .vmem S512x128 .f32} {m5 m6 : Memref sig .tc .vmem S1x512 .f32} {m7 : Memref sig .tc .vmem S256x256 .f32}
    {m8 : Memref sig .tc .vmem S1x256 .f32} {m9 : Memref sig .tc .vmem S128x256 .f32} {m10 : Memref sig .tc .vmem S1x128 .f32} {m11 : Memref sig .tc .vmem S524288 .f32}
    (h1 : m1.IsWhole) (h2 : m2.IsWhole) (h3 : m3.IsWhole) (h4 : m4.IsWhole) (h5 : m5.IsWhole) (h6 : m6.IsWhole) (h7 : m7.IsWhole)
    (h8 : m8.IsWhole) (h9 : m9.IsWhole) (h10 : m10.IsWhole) (h11 : m11.IsWhole)
    (x1 : Vec F S512x1 .i32) (x2 : Vec F S512x128 .f32) (x3 : Vec F S1024x128 .f32) (x4 : Vec F S512x128 .f32)
    (x5 x6 : Vec F S1x512 .f32) (x7 : Vec F S256x256 .f32) (x8 : Vec F S1x256 .f32) (x9 : Vec F S128x256 .f32)
    (x10 : Vec F S1x128 .f32) (x11 : Vec F S524288 .f32) (Q : PUnit → sProp 𝕄) :
    iprop(owns (T c) m1 fullShare x1 ∗ owns (T c) m2 fullShare x2 ∗ owns (T c) m3 fullShare x3 ∗ owns (T c) m4 fullShare x4
        ∗ owns (T c) m5 fullShare x5 ∗ owns (T c) m6 fullShare x6 ∗ owns (T c) m7 fullShare x7 ∗ owns (T c) m8 fullShare x8
        ∗ owns (T c) m9 fullShare x9 ∗ owns (T c) m10 fullShare x10 ∗ owns (T c) m11 fullShare x11
        ∗ (iprop(owns (T c) m1 fullShare x1 ∗ owns (T c) m2 fullShare x2 ∗ owns (T c) m3 fullShare x3 ∗ owns (T c) m4 fullShare x4
          ∗ owns (T c) m5 fullShare x5 ∗ owns (T c) m6 fullShare x6 ∗ owns (T c) m7 fullShare x7 ∗ owns (T c) m8 fullShare x8
          ∗ owns (T c) m9 fullShare x9 ∗ owns (T c) m10 fullShare x10
          ∗ owns (T c) m11 fullShare (scoreBlk x1 x2 x3 x4 x5 x6 x7 x8 x9 x10)) -∗ Q ⟨⟩))
      ⊢ wp frame (wpE defs₀ 𝒱₀ (T c) none) Set.univ (cc0__scores_body (F := F) i m1 h1 m2 h2 m3 h3 m4 h4 m5 h5 m6 h6 m7 h7 m8 h8 m9 h9 m10 h10 m11 h11) Q := by
  rw [cc0__scores_body_eq_skeleton]
  unfold cc0__scores_body_skel
  rw [k0_part1_eq_skeleton]
  unfold k0_part1_skel owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩,
    ⟨%f9, %e9, H9⟩, ⟨%f10, %e10, H10⟩, ⟨%f11, %e11, H11⟩, Hk⟩
  subst e1 e2 e3 e4 e5 e6 e7 e8 e9 e10 e11
  sl_exec!
  sl_step
  iapply Hk
  isplitl [H1]; · iexists f1; isplitr; swap; (· iexact H1); ipureintro; rfl
  isplitl [H2]; · iexists f2; isplitr; swap; (· iexact H2); ipureintro; rfl
  isplitl [H3]; · iexists f3; isplitr; swap; (· iexact H3); ipureintro; rfl
  isplitl [H4]; · iexists f4; isplitr; swap; (· iexact H4); ipureintro; rfl
  isplitl [H5]; · iexists f5; isplitr; swap; (· iexact H5); ipureintro; rfl
  isplitl [H6]; · iexists f6; isplitr; swap; (· iexact H6); ipureintro; rfl
  isplitl [H7]; · iexists f7; isplitr; swap; (· iexact H7); ipureintro; rfl
  isplitl [H8]; · iexists f8; isplitr; swap; (· iexact H8); ipureintro; rfl
  isplitl [H9]; · iexists f9; isplitr; swap; (· iexact H9); ipureintro; rfl
  isplitl [H10]; · iexists f10; isplitr; swap; (· iexact H10); ipureintro; rfl
  iexists _; isplitr; swap; (· iexact H11)
  ipureintro
  refine (View.read_writes_junk_eq_canon _ _).trans ((View.canon_unit_zero (by funext a; fin_cases a; rfl) _ _).trans ?_)
  have z : (![0, 0] : Fin 2 → ℕ) = fun _ => 0 := by funext a; fin_cases a <;> rfl
  rw [readAt_all m1.view f1 z, readAt_all m2.view f2 z, readAt_all m3.view f3 z, readAt_all m4.view f4 z, readAt_all m5.view f5 z,
    readAt_all m6.view f6 z, readAt_all m7.view f7 z, readAt_all m8.view f8 z, readAt_all m9.view f9 z, readAt_all m10.view f10 z]
  rfl

/-- The body between what frames it, each memref found at something that is its block whatever it held before. -/
theorem scores_step (i : grid0.Coords) {m1 : Memref sig .tc .vmem S512x1 .i32} {m2 : Memref sig .tc .vmem S512x128 .f32} {m3 : Memref sig .tc .vmem S1024x128 .f32}
    {m4 : Memref sig .tc .vmem S512x128 .f32} {m5 m6 : Memref sig .tc .vmem S1x512 .f32} {m7 : Memref sig .tc .vmem S256x256 .f32}
    {m8 : Memref sig .tc .vmem S1x256 .f32} {m9 : Memref sig .tc .vmem S128x256 .f32} {m10 : Memref sig .tc .vmem S1x128 .f32} {m11 : Memref sig .tc .vmem S524288 .f32}
    (h1 : m1.IsWhole) (h2 : m2.IsWhole) (h3 : m3.IsWhole) (h4 : m4.IsWhole) (h5 : m5.IsWhole) (h6 : m6.IsWhole) (h7 : m7.IsWhole)
    (h8 : m8.IsWhole) (h9 : m9.IsWhole) (h10 : m10.IsWhole) (h11 : m11.IsWhole)
    (b1 : Vec F S512x1 .i32 → Vec F S512x1 .i32) (b2 b4 : Vec F S512x128 .f32 → Vec F S512x128 .f32) (b3 : Vec F S1024x128 .f32 → Vec F S1024x128 .f32)
    (b5 b6 : Vec F S1x512 .f32 → Vec F S1x512 .f32) (b7 : Vec F S256x256 .f32 → Vec F S256x256 .f32) (b8 : Vec F S1x256 .f32 → Vec F S1x256 .f32)
    (b9 : Vec F S128x256 .f32 → Vec F S128x256 .f32) (b10 : Vec F S1x128 .f32 → Vec F S1x128 .f32) (b11 : Vec F S524288 .f32 → Vec F S524288 .f32)
    (x1 : Vec F S512x1 .i32) (x2 : Vec F S512x128 .f32) (x3 : Vec F S1024x128 .f32) (x4 : Vec F S512x128 .f32)
    (x5 x6 : Vec F S1x512 .f32) (x7 : Vec F S256x256 .f32) (x8 : Vec F S1x256 .f32) (x9 : Vec F S128x256 .f32)
    (x10 : Vec F S1x128 .f32) (e1 : ∀ d, b1 d = x1) (e2 : ∀ d, b2 d = x2) (e3 : ∀ d, b3 d = x3) (e4 : ∀ d, b4 d = x4) (e5 : ∀ d, b5 d = x5)
    (e6 : ∀ d, b6 d = x6) (e7 : ∀ d, b7 d = x7) (e8 : ∀ d, b8 d = x8) (e9 : ∀ d, b9 d = x9) (e10 : ∀ d, b10 d = x10) (A B : sProp 𝕄) :
    iprop(A ∗ B ∗ (∃ d, owns (T c) m1 fullShare (b1 d)) ∗ (∃ d, owns (T c) m2 fullShare (b2 d)) ∗ (∃ d, owns (T c) m3 fullShare (b3 d)) ∗ (∃ d, owns (T c) m4 fullShare (b4 d)) ∗ (∃ d, owns (T c) m5 fullShare (b5 d)) ∗ (∃ d, owns (T c) m6 fullShare (b6 d)) ∗ (∃ d, owns (T c) m7 fullShare (b7 d)) ∗ (∃ d, owns (T c) m8 fullShare (b8 d)) ∗ (∃ d, owns (T c) m9 fullShare (b9 d)) ∗ (∃ d, owns (T c) m10 fullShare (b10 d)) ∗ (∃ d, owns (T c) m11 fullShare (b11 d)))
      ⊢ wp frame (wpE defs₀ 𝒱₀ (T c) none) Set.univ (cc0__scores_body (F := F) i m1 h1 m2 h2 m3 h3 m4 h4 m5 h5 m6 h6 m7 h7 m8 h8 m9 h9 m10 h10 m11 h11) fun _ =>
        iprop(A ∗ B ∗ owns (T c) m1 fullShare x1 ∗ owns (T c) m2 fullShare x2 ∗ owns (T c) m3 fullShare x3 ∗ owns (T c) m4 fullShare x4 ∗ owns (T c) m5 fullShare x5 ∗ owns (T c) m6 fullShare x6 ∗ owns (T c) m7 fullShare x7 ∗ owns (T c) m8 fullShare x8 ∗ owns (T c) m9 fullShare x9 ∗ owns (T c) m10 fullShare x10 ∗ owns (T c) m11 fullShare (scoreBlk x1 x2 x3 x4 x5 x6 x7 x8 x9 x10)) := by
  iintro ⟨HA, HB, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  rw [e1, e2, e3, e4, e5, e6, e7, e8, e9, e10]
  iapply (scores_run0 c i h1 h2 h3 h4 h5 h6 h7 h8 h9 h10 h11 x1 x2 x3 x4 x5 x6 x7 x8 x9 x10 _ _)
  iframe H1 H2 H3 H4 H5 H6 H7 H8 H9 H10 H11
  iintro ⟨H1, H2, H3, H4, H5, H6, H7, H8, H9, H10, H11⟩
  iframe HA HB H1 H2 H3 H4 H5 H6 H7 H8 H9 H10 H11

/-- The second scores call runs the first's body. -/
theorem scores_body_eq : cc2__scores_body (F := F) = cc0__scores_body (F := F) := rfl

/-- What a half of the rows, normalised, is. -/
abbrev normBlk (x : Vec F S2048x200 .f32) : FVec F S2048x200 .f32 := k4_pay1 x

theorem norm_run (i : grid4.Coords) {m1 m2 : Memref sig .tc .vmem S2048x200 .f32} (h1 : m1.IsWhole) (h2 : m2.IsWhole)
    (x1 x2 : Vec F S2048x200 .f32) (Q : PUnit → sProp 𝕄) :
    iprop(owns (T c) m1 fullShare x1 ∗ owns (T c) m2 fullShare x2
        ∗ (iprop(owns (T c) m1 fullShare x1 ∗ owns (T c) m2 fullShare (normBlk x1)) -∗ Q ⟨⟩))
      ⊢ wp frame (wpE defs₀ 𝒱₀ (T c) none) Set.univ (cc4__softmax_body (F := F) i m1 h1 m2 h2) Q := by
  rw [cc4__softmax_body_eq_skeleton]
  unfold cc4__softmax_body_skel owns
  iintro ⟨⟨%f1, %e1, H1⟩, ⟨%f2, %e2, H2⟩, Hk⟩
  subst e1 e2
  sl_exec!
  sl_step
  iapply Hk
  isplitl [H1]; · iexists f1; isplitr; swap; (· iexact H1); ipureintro; rfl
  iexists _; isplitr; swap; (· iexact H2)
  ipureintro
  have z : (![0, 0] : Fin 2 → ℕ) = fun _ => 0 := by funext a; fin_cases a <;> rfl
  refine (View.read_writes_junk_eq_canon _ _).trans ((View.canon_unit_zero z _ _).trans ?_)
  rw [readAt_all m1.view f1 z]

theorem norm_body_eq : cc5__softmax_body (F := F) = cc4__softmax_body (F := F) := rfl

end Runs

/-! ## The proof data -/

section Data

/-- The pipelines' levels and tallies: the core owes the SparseCore calls from `n` on, and its recorded waits are below them. -/
abbrev owedD (n : ℕ) (c : Dev nD) : CellTallies nD τ sig (HIx 2) := (K (F := F)).Otc c n
abbrev recD (n : ℕ) (c : Dev nD) : Set (SemLoc sig × HIx 2) := {p | (K (F := F)).lev (T c, p.1) p.2 ≤ 8 * n}

/-- What rides between the points: the scoped buffers the call does not stage. -/
abbrev restD {gr W : ℕ} (spec : Fin W → Pipeline.WinSpec sig gr) (c : Dev nD) : sProp 𝕄 :=
  Pipeline.scopedRest (Ix := HIx 2) (Name := ℕ) (U := UU) (Lvl := ℕ) (Val := Elt F) spec c

variable (V : Dev nD → Valuation τ sig (Elt F)) (n : ℕ) (c : Dev nD)

/-- Window `w`'s block of its array at point `t`, as the fetch leaves it in the staging buffer. -/
def blkAt (cfg : Pipeline.Cfg sig Λ₀) (w : Fin cfg.W) (t : Fin cfg.N) : (cfg.win w).block.Idx → Elt F (cfg.win w).elt :=
  (cfg.win w).fill (cfg.grid.coords t) (fun _ => Classical.arbitrary _)
    (((cfg.win w).blk t).view.read (Elt F) (V c (Proc.devRef .tc (Pipeline.arrRef cfg.spec w))))

/-- A call's proof data, from what its body leaves in the staging buffers. -/
def datOf (cfg : Pipeline.Cfg sig Λ₀) (aft : (w : Fin cfg.W) → Fin cfg.N → (cfg.win w).block.Idx → Elt F (cfg.win w).elt) :
    Dat τ (Elt F) (HIx 2) ℕ UU ℕ cfg c where
  A w := V c (Proc.devRef .tc (Pipeline.arrRef cfg.spec w))
  after := aft
  Φ _ := restD cfg.spec c
  q _ := fullShare
  owed _ := owedD (F := F) n c
  recorded _ := recD (F := F) n c

def aft0 (w : Fin 11) (t : Fin cfg0.N) : (cfg0.win w).block.Idx → Elt F (cfg0.win w).elt :=
  match w with
  | ⟨0, _⟩ => blkAt V c cfg0 0 t
  | ⟨1, _⟩ => blkAt V c cfg0 1 t
  | ⟨2, _⟩ => blkAt V c cfg0 2 t
  | ⟨3, _⟩ => blkAt V c cfg0 3 t
  | ⟨4, _⟩ => blkAt V c cfg0 4 t
  | ⟨5, _⟩ => blkAt V c cfg0 5 t
  | ⟨6, _⟩ => blkAt V c cfg0 6 t
  | ⟨7, _⟩ => blkAt V c cfg0 7 t
  | ⟨8, _⟩ => blkAt V c cfg0 8 t
  | ⟨9, _⟩ => blkAt V c cfg0 9 t
  | ⟨10, _⟩ => scoreBlk (blkAt V c cfg0 0 t) (blkAt V c cfg0 1 t) (blkAt V c cfg0 2 t) (blkAt V c cfg0 3 t) (blkAt V c cfg0 4 t)
      (blkAt V c cfg0 5 t) (blkAt V c cfg0 6 t) (blkAt V c cfg0 7 t) (blkAt V c cfg0 8 t) (blkAt V c cfg0 9 t)

def aft2 (w : Fin 11) (t : Fin cfg2.N) : (cfg2.win w).block.Idx → Elt F (cfg2.win w).elt :=
  match w with
  | ⟨0, _⟩ => blkAt V c cfg2 0 t
  | ⟨1, _⟩ => blkAt V c cfg2 1 t
  | ⟨2, _⟩ => blkAt V c cfg2 2 t
  | ⟨3, _⟩ => blkAt V c cfg2 3 t
  | ⟨4, _⟩ => blkAt V c cfg2 4 t
  | ⟨5, _⟩ => blkAt V c cfg2 5 t
  | ⟨6, _⟩ => blkAt V c cfg2 6 t
  | ⟨7, _⟩ => blkAt V c cfg2 7 t
  | ⟨8, _⟩ => blkAt V c cfg2 8 t
  | ⟨9, _⟩ => blkAt V c cfg2 9 t
  | ⟨10, _⟩ => scoreBlk (blkAt V c cfg2 0 t) (blkAt V c cfg2 1 t) (blkAt V c cfg2 2 t) (blkAt V c cfg2 3 t) (blkAt V c cfg2 4 t)
      (blkAt V c cfg2 5 t) (blkAt V c cfg2 6 t) (blkAt V c cfg2 7 t) (blkAt V c cfg2 8 t) (blkAt V c cfg2 9 t)

def aft4 (w : Fin 2) (t : Fin cfg4.N) : (cfg4.win w).block.Idx → Elt F (cfg4.win w).elt :=
  match w with
  | ⟨0, _⟩ => blkAt V c cfg4 0 t
  | ⟨1, _⟩ => normBlk (blkAt V c cfg4 0 t)

def aft5 (w : Fin 2) (t : Fin cfg5.N) : (cfg5.win w).block.Idx → Elt F (cfg5.win w).elt :=
  match w with
  | ⟨0, _⟩ => blkAt V c cfg5 0 t
  | ⟨1, _⟩ => normBlk (blkAt V c cfg5 0 t)

abbrev dat0 := datOf V n c cfg0 (aft0 V c)
abbrev dat2 := datOf V n c cfg2 (aft2 V c)
abbrev dat4 := datOf V n c cfg4 (aft4 V c)
abbrev dat5 := datOf V n c cfg5 (aft5 V c)

/-- An input window holds its block when the body runs, fetched there or not: its block does not reach past the array. -/
theorem before_blk {cfg : Pipeline.Cfg sig Λ₀} (dat : Dat τ (Elt F) (HIx 2) ℕ UU ℕ cfg c) (w : Fin cfg.W)
    (hA : dat.A w = V c (Proc.devRef .tc (Pipeline.arrRef cfg.spec w)))
    (hw : (cfg.win w).isOut = false) (hlive : ∀ i, cfg.idle w i = false) (hclip : ∀ i a, (cfg.win w).clip i a = none)
    (hafter : ∀ t, dat.after w t = blkAt V c cfg w t) (t : Fin cfg.N) (d : (cfg.win w).block.Idx → Elt F (cfg.win w).elt) :
    dat.before w t d = blkAt V c cfg w t := by
  have hb : ∀ t, dat.blockOf w t = ((cfg.win w).blk t).view.read (Elt F) (V c (Proc.devRef .tc (Pipeline.arrRef cfg.spec w))) :=
    fun t => by unfold Dat.blockOf; rw [hA]
  rw [dat.before_in_eq_fetched w hw hlive (fun t t' _ => by funext a; rw [hclip, hclip])
    (fun t => by rw [hafter, hb]; exact (cfg.win w).cut_fill _ _ _) t d]
  unfold Dat.fetched blkAt
  rw [hb]
  exact Pipeline.fill_of_clip_none w _ (hclip _) _ _ _

theorem body0 : BodyObligation (dat0 V n c) (defs₀ (F := F)) 𝒱₀ none Set.univ := fun t => by
  have hb : ∀ (w : Fin 11) (_ : (cfg0.win w).isOut = false) (_ : ∀ i a, (cfg0.win w).clip i a = none)
    (_ : ∀ t, (dat0 V n c).after w t = blkAt V c cfg0 w t) d, (dat0 V n c).before w t d = blkAt V c cfg0 w t :=
    fun w hw hclip ha d => before_blk V c (dat0 V n c) w rfl hw (fun _ => rfl) hclip ha t d
  rw [bigSep_W0, bigSep_W0]
  rw [show (dat0 V n c).Φ t.castSucc = restD cfg0.spec c from rfl, show (dat0 V n c).Φ t.succ = restD cfg0.spec c from rfl,
    show (dat0 V n c).owesAt none t.succ = (dat0 V n c).owesAt none t.castSucc from rfl]
  have hs := scores_step (F := F) c (grid0.coords t) (hstage0_0 ((cfg0.slots t 0).cast nbuf0_0)) (hstage0_1 ((cfg0.slots t 1).cast nbuf0_1)) (hstage0_2 ((cfg0.slots t 2).cast nbuf0_2)) (hstage0_3 ((cfg0.slots t 3).cast nbuf0_3)) (hstage0_4 ((cfg0.slots t 4).cast nbuf0_4)) (hstage0_5 ((cfg0.slots t 5).cast nbuf0_5)) (hstage0_6 ((cfg0.slots t 6).cast nbuf0_6)) (hstage0_7 ((cfg0.slots t 7).cast nbuf0_7)) (hstage0_8 ((cfg0.slots t 8).cast nbuf0_8)) (hstage0_9 ((cfg0.slots t 9).cast nbuf0_9)) (hstage0_10 ((cfg0.slots t 10).cast nbuf0_10))
    ((dat0 V n c).before 0 t) ((dat0 V n c).before 1 t) ((dat0 V n c).before 3 t) ((dat0 V n c).before 2 t) ((dat0 V n c).before 4 t) ((dat0 V n c).before 5 t)
    ((dat0 V n c).before 6 t) ((dat0 V n c).before 7 t) ((dat0 V n c).before 8 t) ((dat0 V n c).before 9 t) ((dat0 V n c).before 10 t)
    _ _ _ _ _ _ _ _ _ _
    (hb 0 rfl (fun _ _ => rfl) fun _ => rfl) (hb 1 rfl (fun _ _ => rfl) fun _ => rfl)
    (hb 2 rfl (fun _ a => by fin_cases a <;> rfl) fun _ => rfl) (hb 3 rfl (fun _ _ => rfl) fun _ => rfl)
    (hb 4 rfl (fun _ _ => rfl) fun _ => rfl) (hb 5 rfl (fun _ _ => rfl) fun _ => rfl) (hb 6 rfl (fun _ _ => rfl) fun _ => rfl)
    (hb 7 rfl (fun _ _ => rfl) fun _ => rfl) (hb 8 rfl (fun _ _ => rfl) fun _ => rfl) (hb 9 rfl (fun _ _ => rfl) fun _ => rfl)
    (restD cfg0.spec c) ((dat0 V n c).owesAt none t.castSucc)
  dsimp only [dat0, datOf, aft0] at hs ⊢
  exact hs

theorem body2 : BodyObligation (dat2 V n c) (defs₀ (F := F)) 𝒱₀ none Set.univ := fun t => by
  have hb : ∀ (w : Fin 11) (_ : (cfg2.win w).isOut = false) (_ : ∀ i a, (cfg2.win w).clip i a = none)
    (_ : ∀ t, (dat2 V n c).after w t = blkAt V c cfg2 w t) d, (dat2 V n c).before w t d = blkAt V c cfg2 w t :=
    fun w hw hclip ha d => before_blk V c (dat2 V n c) w rfl hw (fun _ => rfl) hclip ha t d
  rw [bigSep_W2, bigSep_W2]
  rw [show (dat2 V n c).Φ t.castSucc = restD cfg2.spec c from rfl, show (dat2 V n c).Φ t.succ = restD cfg2.spec c from rfl,
    show (dat2 V n c).owesAt none t.succ = (dat2 V n c).owesAt none t.castSucc from rfl]
  have hs := scores_step (F := F) c (grid2.coords t) (hstage2_0 ((cfg2.slots t 0).cast nbuf2_0)) (hstage2_1 ((cfg2.slots t 1).cast nbuf2_1)) (hstage2_2 ((cfg2.slots t 2).cast nbuf2_2)) (hstage2_3 ((cfg2.slots t 3).cast nbuf2_3)) (hstage2_4 ((cfg2.slots t 4).cast nbuf2_4)) (hstage2_5 ((cfg2.slots t 5).cast nbuf2_5)) (hstage2_6 ((cfg2.slots t 6).cast nbuf2_6)) (hstage2_7 ((cfg2.slots t 7).cast nbuf2_7)) (hstage2_8 ((cfg2.slots t 8).cast nbuf2_8)) (hstage2_9 ((cfg2.slots t 9).cast nbuf2_9)) (hstage2_10 ((cfg2.slots t 10).cast nbuf2_10))
    ((dat2 V n c).before 0 t) ((dat2 V n c).before 1 t) ((dat2 V n c).before 3 t) ((dat2 V n c).before 2 t) ((dat2 V n c).before 4 t) ((dat2 V n c).before 5 t)
    ((dat2 V n c).before 6 t) ((dat2 V n c).before 7 t) ((dat2 V n c).before 8 t) ((dat2 V n c).before 9 t) ((dat2 V n c).before 10 t)
    _ _ _ _ _ _ _ _ _ _
    (hb 0 rfl (fun _ _ => rfl) fun _ => rfl) (hb 1 rfl (fun _ _ => rfl) fun _ => rfl)
    (hb 2 rfl (fun _ a => by fin_cases a <;> rfl) fun _ => rfl) (hb 3 rfl (fun _ _ => rfl) fun _ => rfl)
    (hb 4 rfl (fun _ _ => rfl) fun _ => rfl) (hb 5 rfl (fun _ _ => rfl) fun _ => rfl) (hb 6 rfl (fun _ _ => rfl) fun _ => rfl)
    (hb 7 rfl (fun _ _ => rfl) fun _ => rfl) (hb 8 rfl (fun _ _ => rfl) fun _ => rfl) (hb 9 rfl (fun _ _ => rfl) fun _ => rfl)
    (restD cfg2.spec c) ((dat2 V n c).owesAt none t.castSucc)
  dsimp only [dat2, datOf, aft2] at hs ⊢
  exact hs

theorem norm_step (i : grid4.Coords) {m1 m2 : Memref sig .tc .vmem S2048x200 .f32} (h1 : m1.IsWhole) (h2 : m2.IsWhole)
    (b1 b2 : Vec F S2048x200 .f32 → Vec F S2048x200 .f32) (x1 : Vec F S2048x200 .f32) (e1 : ∀ d, b1 d = x1) (A B : sProp 𝕄) :
    iprop(A ∗ B ∗ (∃ d, owns (T c) m1 fullShare (b1 d)) ∗ (∃ d, owns (T c) m2 fullShare (b2 d)))
      ⊢ wp frame (wpE defs₀ 𝒱₀ (T c) none) Set.univ (cc4__softmax_body (F := F) i m1 h1 m2 h2) fun _ =>
        iprop(A ∗ B ∗ owns (T c) m1 fullShare x1 ∗ owns (T c) m2 fullShare (normBlk x1)) := by
  iintro ⟨HA, HB, ⟨%d1, H1⟩, ⟨%d2, H2⟩⟩
  rw [e1]
  iapply (norm_run c i h1 h2 x1 _ _)
  iframe H1 H2
  iintro ⟨H1, H2⟩
  iframe HA HB H1 H2

theorem body4 : BodyObligation (dat4 V n c) (defs₀ (F := F)) 𝒱₀ none Set.univ := fun t => by
  rw [bigSep_W4, bigSep_W4]
  rw [show (dat4 V n c).Φ t.castSucc = restD cfg4.spec c from rfl, show (dat4 V n c).Φ t.succ = restD cfg4.spec c from rfl,
    show (dat4 V n c).owesAt none t.succ = (dat4 V n c).owesAt none t.castSucc from rfl]
  have hs := norm_step (F := F) c (grid4.coords t) (hstage4_0 ((cfg4.slots t 0).cast nbuf4_0)) (hstage4_1 ((cfg4.slots t 1).cast nbuf4_1))
    ((dat4 V n c).before 0 t) ((dat4 V n c).before 1 t) (blkAt V c cfg4 0 t)
    (before_blk V c (dat4 V n c) 0 rfl rfl (fun _ => rfl) (fun _ _ => rfl) (fun _ => rfl) t)
    (restD cfg4.spec c) ((dat4 V n c).owesAt none t.castSucc)
  dsimp only [dat4, datOf, aft4] at hs ⊢
  exact hs

theorem body5 : BodyObligation (dat5 V n c) (defs₀ (F := F)) 𝒱₀ none Set.univ := fun t => by
  rw [bigSep_W5, bigSep_W5]
  rw [show (dat5 V n c).Φ t.castSucc = restD cfg5.spec c from rfl, show (dat5 V n c).Φ t.succ = restD cfg5.spec c from rfl,
    show (dat5 V n c).owesAt none t.succ = (dat5 V n c).owesAt none t.castSucc from rfl]
  have hs := norm_step (F := F) c (grid5.coords t) (hstage5_0 ((cfg5.slots t 0).cast nbuf5_0)) (hstage5_1 ((cfg5.slots t 1).cast nbuf5_1))
    ((dat5 V n c).before 0 t) ((dat5 V n c).before 1 t) (blkAt V c cfg5 0 t)
    (before_blk V c (dat5 V n c) 0 rfl rfl (fun _ => rfl) (fun _ _ => rfl) (fun _ => rfl) t)
    (restD cfg5.spec c) ((dat5 V n c).owesAt none t.castSucc)
  dsimp only [dat5, datOf, aft5] at hs ⊢
  exact hs

end Data

/-! ## The calls as steps of the main program -/

section Regions

/-- The one admissible choice of the pipelines' tables: none of them has one. -/
abbrev admT : (p : Fin 4) → (pcfgs (F := F) p).Adm := fun p => (cfgs p).toPCfg_adm

variable (V : Dev nD → Valuation τ sig (Elt F)) (n : ℕ)

/-- What each call's body leaves. -/
def aftT (c : Dev nD) : (p : Fin 4) → (w : Fin (Pipeline.pin (pcfgs (F := F)) admT p).W) → Fin (Pipeline.pin (pcfgs (F := F)) admT p).N →
    ((Pipeline.pin (pcfgs (F := F)) admT p).win w).block.Idx → Elt F ((Pipeline.pin (pcfgs (F := F)) admT p).win w).elt
  | ⟨0, _⟩ => aft0 V c
  | ⟨1, _⟩ => aft2 V c
  | ⟨2, _⟩ => aft4 V c
  | ⟨3, _⟩ => aft5 V c

/-- The proof data of the four calls, entered at a valuation while the SparseCore calls from `n` on are owed. -/
def pdatsT (p : Fin 4) (c : Dev nD) : Dat τ (Elt F) (HIx 2) ℕ UU ℕ (Pipeline.pin (pcfgs (F := F)) admT p) c :=
  datOf V n c (Pipeline.pin (pcfgs (F := F)) admT p) (aftT V c p)

theorem pdatsT_body (p : Fin 4) (c : Dev nD) : BodyObligation (pdatsT V n p c) (defs₀ (F := F)) 𝒱₀ none Set.univ :=
  match p with
  | ⟨0, _⟩ => body0 V n c
  | ⟨1, _⟩ => body2 V n c
  | ⟨2, _⟩ => body4 V n c
  | ⟨3, _⟩ => body5 V n c

theorem pdatsT_owed (p : Fin 4) (c : Dev nD) (t) : (pdatsT V n p c).owed t = owedD (F := F) n c := rfl
theorem pdatsT_recorded (p : Fin 4) (c : Dev nD) (t) : (pdatsT V n p c).recorded t = recD (F := F) n c := rfl
theorem pdatsT_Φ (p : Fin 4) (c : Dev nD) (t) : (pdatsT V n p c).Φ t = restD (Pipeline.pin (pcfgs (F := F)) admT p).spec c := rfl
theorem pdatsT_q (p : Fin 4) (c : Dev nD) (w) : (pdatsT V n p c).q w = fullShare := rfl
theorem pdatsT_A (p : Fin 4) (c : Dev nD) (w) :
    (pdatsT V n p c).A w = V c (Proc.devRef .tc (Pipeline.arrRef (Pipeline.pin (pcfgs (F := F)) admT p).spec w)) := rfl

theorem kitT (p : Fin 4) : Pipeline.PLaunchFacts (nD := nD) (τ := τ) (pcfgs (F := F)) p :=
  match p with
  | ⟨0, _⟩ => launch0.toP
  | ⟨1, _⟩ => launch2.toP
  | ⟨2, _⟩ => launch4.toP
  | ⟨3, _⟩ => launch5.toP

theorem preT (p : Fin 4) : (pcfgs (F := F) p).pre.K = 0 := by fin_cases p <;> rfl

/-- The TensorCore's unscoped references. -/
abbrev ucT : Finset (DevRef τ sig) := Pipeline.ucRefs τ sig

/-- What the TensorCore owes between its calls. -/
abbrev owesT (c : Dev nD) : sProp 𝕄 := iprop(∃ W, ⌜(K (F := F)).WBelow (T c) W (8 * n)⌝ ∗ owes (T c) ((K (F := F)).Otc c n) W)

theorem arrT_sub (p : Fin 4) : Pipeline.arrRefs (pcfgs (F := F) p).spec ⊆ ucT :=
  Pipeline.arrRefs_sub_ucRefs _ (kitT p).win.arr_unscoped

/-- A valuation after call `p`: its results at what the write-backs leave. -/
def afterT (p : Fin 4) (c : Dev nD) : Valuation τ sig (Elt F) := Pipeline.afterRegion (pdatsT V n p c) (V c)

set_option backward.isDefEq.respectTransparency.types false in
/-- A windowed call over the unscoped buffers held at a valuation. -/
def regT (p : Fin 4) : Pipeline.RegionSeg (pcfgs (F := F)) admT (pdatsT V n) none defs₀ 𝒱₀ (K (F := F)).L (K (F := F)).lev p where
  win := (kitT (F := F) p).win.to₀
  block_pos := (kitT (F := F) p).block_pos
  stage_whole := (kitT (F := F) p).stage_whole
  K := PEmpty
  osem k := k.elim
  ho := Pipeline.OwnSemFacts.none _
  hbody c := (pdatsT_body V n p c).loose
  hwaits c := Pipeline.cellsWaits_of_cut _ _ _ p c 0 (owedD (F := F) n c) (pdatsT_owed V n p c) (fun _ _ => Finset.mem_univ _)
    (fun _ _ => le_refl 0) fun g i hi => ⟨Finset.mem_univ _, lt_of_lt_of_le (Nat.succ_pos _) ((K (F := F)).lev_of_Otc_pos hi)⟩
  pre c := iprop(StableHlo.held (T c) ucT (V c) ∗ owesT (F := F) n c)
  post c := iprop(StableHlo.held (T c) ucT (afterT V n p c) ∗ owesT (F := F) n c)
  X _ := BI.emp
  Y _ := BI.emp
  Z c := StableHlo.held (T c) (ucT \ Pipeline.arrRefs (pcfgs (F := F) p).spec) (V c)
  hentry c := by
    rw [Pipeline.ownSems0_none, StableHlo.held_sub_split (T c) (arrT_sub (F := F) p) (V c),
      Pipeline.arrays_held (pcfgs (F := F)) admT (pdatsT V n) p (kitT p) c ((pdatsT V n p c).share_full (pdatsT_q V n p c)) ((pdatsT V n p c).arrAt · 0) (V c) (fun w => pdatsT_A V n p c w)]
    iintro ⟨⟨⟨Ha, Hu⟩, %W, %hW, HO⟩, -, -⟩
    imodintro
    isplitl [Ha]; · iexact Ha
    isplitr; · unfold Pipeline.prefHeld; rw [Finset.univ_eq_empty_iff.mpr (preT (F := F) p ▸ (inferInstance : IsEmpty (Fin 0))), BI.bigSep_empty]; iempintro
    isplitl [HO]
    · unfold Pipeline.Dat.owesAt Pipeline.owesWithin Pipeline.Dat.bound
      rw [pdatsT_owed, pdatsT_recorded]
      iexists W; isplitr; · ipureintro; exact fun x hx => Or.inl (hW x hx)
      iexact HO
    isplitr; · iempintro
    iexact Hu
  hin c := by
    rw [pdatsT_Φ]
    iintro ⟨-, -, Hr⟩; iexact Hr
  hout c := by
    rw [Pipeline.ownSems0_none, pdatsT_Φ]
    iintro Hr
    isplitr; · iempintro
    isplitr; · iempintro
    iexact Hr
  hexit c := by
    rw [StableHlo.held_sub_split (T c) (arrT_sub (F := F) p) (afterT V n p c),
      StableHlo.held_congr (T c) (S := ucT \ Pipeline.arrRefs (pcfgs (F := F) p).spec) (V := afterT V n p c) (V' := V c)
        (Pipeline.afterRegion_off (pdatsT V n p c) (V c) ucT),
      Pipeline.arrays_held (pcfgs (F := F)) admT (pdatsT V n) p (kitT p) c ((pdatsT V n p c).share_full (pdatsT_q V n p c)) ((pdatsT V n p c).arrAt · (Pipeline.pin (pcfgs (F := F)) admT p).N) (afterT V n p c)
        (fun w => (Pipeline.afterRegion_arr (pdatsT V n p c) (V c) (kitT (F := F) p).win.arr_inj w).symm)]
    iintro ⟨Ha, HO, -, Hu⟩
    imodintro
    isplitl [Ha Hu]; · isplitl [Ha] <;> iassumption
    unfold Pipeline.Dat.owesAt Pipeline.owesWithin Pipeline.Dat.bound
    rw [pdatsT_owed, pdatsT_recorded]
    icases HO with ⟨%W, %hW, HO⟩
    iexists W; isplitr; swap; (· iexact HO)
    ipureintro
    intro x hx
    rcases hW hx with h | ⟨w, s, rfl⟩
    · exact h
    · exact Nat.zero_le _

end Regions

end Cert.Proof.Tail
end
-- ==== Proof.Score.lean ====
/-
  The scores as plain sums over the extended reals, row by row, and the two TensorCore bodies read as them: what one row
  of a block of scores is, and what one row normalised is.
-/
module

public import proofs.«01_k».proof.Proof.Tc
public import Idealize.ShloMosaic.Lib.MatmulPlain
public import Idealize.ShloMosaic.Lib.KernelVsHost
public import Idealize.ShloMosaic.Lib.ValueLayout
public import Idealize.ShloMosaic.Lib.ValueLayoutCasts
public import Idealize.ShloMosaic.Lib.ValueIdxCoords
public import Idealize.ShloMosaic.Lib.IdealHost
public import Idealize.ShloMosaic.Lib.Pipeline.Value

@[expose] public section

noncomputable section

namespace Cert.Proof.Score

open Idealize.ShloMosaic
open Idealize.ShloMosaic.ValueIdx
open scoped BigOperators

/-! ## The mathematics of a row -/

abbrev Row (n : ℕ) := Fin n → EReal
abbrev Mat (m n : ℕ) := Fin m → Fin n → EReal

/-- An affine map: row `j` of the matrix against the vector, and the offset. -/
def lin {m n : ℕ} (W : Mat n m) (b : Row n) (x : Row m) : Row n := fun j => (∑ k, x k * W j k) + b j

/-- The weights: the cell's input matrix and its two offsets, and the two layers after it. -/
structure Wts where
  Wi : Mat 512 128
  bi : Row 512
  bh : Row 512
  W1 : Mat 256 256
  b1 : Row 256
  W2 : Mat 128 256
  b2 : Row 128

/-- The cell's four gates, from a zero state. -/
def gates (P : Wts) (e : Row 128) : Row 512 := fun j => lin P.Wi P.bi e j + P.bh j

/-- The cell's output, from a zero state: the forget gate has nothing to keep. -/
def cell (g : Row 512) : Row 128 := fun k =>
  Ideal.logistic (g ⟨384 + k.val, by omega⟩)
    * Ideal.tanh (Ideal.logistic (g ⟨0 + k.val, by omega⟩) * Ideal.tanh (g ⟨256 + k.val, by omega⟩))

/-- The cell's output, zero at the start-of-walk word. -/
def hid (P : Wts) (w : BitVec 32) (e : Row 128) : Row 128 := fun k => if w = 1000#32 then 0 else cell (gates P e) k

/-- Two rows, one after the other. -/
def joined (a b : Row 128) : Row 256 := fun k => if h : k.val < 128 then a ⟨k.val, h⟩ else b ⟨k.val - 128, by omega⟩

/-- What scores the relations of a row: the two layers over the cell's output and the query. -/
def feat (P : Wts) (w : BitVec 32) (e q : Row 128) : Row 128 :=
  lin P.W2 P.b2 fun k => max (lin P.W1 P.b1 (joined (hid P w e) q) k) 0

/-- The score of a word: the low constant at the padding word, the product with the word's row elsewhere. -/
def score (u : Row 128) (c : BitVec 32) (t : Row 128) : EReal :=
  if c = 1001#32 then Ideal.ofBits .f32 0xD01502F9#32 else ∑ k, u k * t k

/-- The greatest of a row. -/
def top {n : ℕ} (x : Row n) : EReal := (Finset.univ : Finset (Fin n)).fold max ⊥ x

/-- A row normalised, by the greatest entry and the logarithm of the sum. -/
def lsm {n : ℕ} (x : Row n) : Row n := fun l => x l - (top x + Ideal.log (∑ j, Ideal.exp (x j - top x)))

/-! ## Finite values -/

/-- A real number. -/
def Real' (x : EReal) : Prop := ∃ r : ℝ, x = (r : EReal)

theorem Real'.add {x y : EReal} : Real' x → Real' y → Real' (x + y) := by
  rintro ⟨a, rfl⟩ ⟨b, rfl⟩; exact ⟨a + b, (EReal.coe_add a b).symm⟩
theorem Real'.mul {x y : EReal} : Real' x → Real' y → Real' (x * y) := by
  rintro ⟨a, rfl⟩ ⟨b, rfl⟩; exact ⟨a * b, (EReal.coe_mul a b).symm⟩
theorem Real'.zero : Real' 0 := ⟨0, EReal.coe_zero.symm⟩
theorem Real'.max {x y : EReal} (hx : Real' x) (hy : Real' y) : Real' (max x y) := by
  rcases le_total x y with h | h
  · rw [max_eq_right h]; exact hy
  · rw [max_eq_left h]; exact hx
theorem Real'.sum {n : ℕ} {f : Row n} (h : ∀ k, Real' (f k)) : Real' (∑ k, f k) :=
  Finset.sum_induction f Real' (fun _ _ => Real'.add) Real'.zero fun k _ => h k
theorem Real'.ne_top {x : EReal} : Real' x → x ≠ ⊤ := by rintro ⟨r, rfl⟩; exact EReal.coe_ne_top r
theorem Real'.ne_bot {x : EReal} : Real' x → x ≠ ⊥ := by rintro ⟨r, rfl⟩; exact EReal.coe_ne_bot r
theorem Real'.of {x : EReal} (ht : x ≠ ⊤) (hb : x ≠ ⊥) : Real' x := ⟨x.toReal, (EReal.coe_toReal ht hb).symm⟩

/-- A finite value is itself and nothing left over. -/
theorem Real'.add_sub_self {x : EReal} : Real' x → x + (x - x) = x := by
  rintro ⟨r, rfl⟩; rw [← EReal.coe_sub, sub_self, EReal.coe_zero, add_zero]

theorem Real'.logistic (x : EReal) : Real' (Ideal.logistic x) := by
  induction x with
  | bot => rw [Ideal.logistic_bot]; exact .zero
  | coe r => rw [Ideal.logistic_coe]; exact ⟨_, rfl⟩
  | top => rw [Ideal.logistic_top]; exact ⟨1, EReal.coe_one.symm⟩
theorem Real'.tanh (x : EReal) : Real' (Ideal.tanh x) := by
  induction x with
  | bot => rw [Ideal.tanh_bot]; exact ⟨-1, by rw [EReal.coe_neg, EReal.coe_one]⟩
  | coe r => rw [Ideal.tanh_coe]; exact ⟨_, rfl⟩
  | top => rw [Ideal.tanh_top]; exact ⟨1, EReal.coe_one.symm⟩

theorem Real'.lin {m n : ℕ} {W : Mat n m} {b : Row n} {x : Row m} (hW : ∀ j k, Real' (W j k)) (hb : ∀ j, Real' (b j))
    (hx : ∀ k, Real' (x k)) (j : Fin n) : Real' (lin W b x j) :=
  (Real'.sum fun k => (hx k).mul (hW j k)).add (hb j)

/-- The output of the cell is finite whatever its gates are. -/
theorem Real'.hid (P : Wts) (w : BitVec 32) (e : Row 128) (k : Fin 128) : Real' (hid P w e k) := by
  unfold Score.hid cell
  split
  · exact .zero
  · exact (Real'.logistic _).mul (Real'.tanh _)

theorem Real'.joined {a b : Row 128} (ha : ∀ k, Real' (a k)) (hb : ∀ k, Real' (b k)) (k : Fin 256) : Real' (joined a b k) := by
  unfold Score.joined
  split
  · exact ha _
  · exact hb _

/-- The two layers' weights and offsets are finite. -/
structure Wts.Fin (P : Wts) : Prop where
  W1 : ∀ j k, Real' (P.W1 j k)
  b1 : ∀ j, Real' (P.b1 j)
  W2 : ∀ j k, Real' (P.W2 j k)
  b2 : ∀ j, Real' (P.b2 j)

theorem Real'.feat {P : Wts} (hP : P.Fin) (w : BitVec 32) (e : Row 128) {q : Row 128} (hq : ∀ k, Real' (q k)) (k : Fin 128) :
    Real' (feat P w e q k) :=
  Real'.lin hP.W2 hP.b2 (fun j => (Real'.lin hP.W1 hP.b1 (Real'.joined (Real'.hid P w e) hq) j).max .zero) k

theorem Real'.low : Real' (Ideal.ofBits .f32 0xD01502F9#32) := by
  simp only [Ideal.ofBits, Ideal.ieee]
  exact ⟨_, rfl⟩

theorem Real'.score {u t : Row 128} (hu : ∀ k, Real' (u k)) (ht : ∀ k, Real' (t k)) (c : BitVec 32) : Real' (score u c t) := by
  unfold Score.score
  split
  · exact .low
  · exact Real'.sum fun k => (hu k).mul (ht k)

theorem Real'.top {n : ℕ} {x : Row (n + 1)} (hx : ∀ k, Real' (x k)) : Real' (top x) := by
  refine .of (ne_of_lt ?_) (ne_of_gt ?_)
  · exact (Finset.fold_max_lt _).2 ⟨bot_lt_top, fun k _ => lt_of_le_of_ne le_top (hx k).ne_top⟩
  · exact (Finset.lt_fold_max _).2 (.inr ⟨0, Finset.mem_univ _, lt_of_le_of_ne bot_le (hx 0).ne_bot.symm⟩)

/-- Taking a sum away is taking its two parts away, from a finite value by a finite value first. -/
theorem Real'.sub_add {x m : EReal} (s : EReal) : Real' x → Real' m → x - (m + s) = x - m - s := by
  rintro ⟨a, rfl⟩ ⟨b, rfl⟩
  induction s with
  | bot => rw [EReal.add_bot, ← EReal.coe_sub, EReal.coe_sub_bot, EReal.coe_sub_bot]
  | coe r => norm_cast; rw [_root_.sub_sub]
  | top => rw [EReal.coe_add_top, ← EReal.coe_sub, EReal.sub_top, EReal.sub_top]

/-! ## The bodies, row by row -/

section Bodies

open Cert.KernelIdeal Cert.KernelIdeal.Gen

/-- Row by column against a zero accumulator. -/
theorem mm_plain {M K N : ℕ} {φ₁ φ₂ : FTy} (lhs : FVec Ideal ⟨2, ![M, K]⟩ φ₁) (rhs : FVec Ideal ⟨2, ![K, N]⟩ φ₂) (r : Fin M) (c : Fin N) :
    matmul (DotDims.plain M K N) none lhs rhs (constant ⟨2, ![M, N]⟩ .f32 0x00000000#32) (ix2 r c)
      = ∑ k : Fin K, (lhs (ix2 r k) * rhs (ix2 k c) : EReal) := by
  refine (Ideal.matmul_plain_apply none lhs rhs _ r c).trans ?_
  rw [show (constant ⟨2, ![M, N]⟩ .f32 0x00000000#32 : FVec Ideal _ .f32) (ix2 r c) = (0 : EReal) from Ideal.ofBits_zero_f32]
  exact zero_add _

/-- Row by row against a zero accumulator. -/
theorem mm_rows {M K N : ℕ} {φ₁ φ₂ : FTy} (lhs : FVec Ideal ⟨2, ![M, K]⟩ φ₁) (rhs : FVec Ideal ⟨2, ![N, K]⟩ φ₂) (r : Fin M) (c : Fin N) :
    matmul (DotDims.transposedRhs M K N) none lhs rhs (constant ⟨2, ![M, N]⟩ .f32 0x00000000#32) (ix2 r c)
      = ∑ k : Fin K, (lhs (ix2 r k) * rhs (ix2 c k) : EReal) := by
  refine (Ideal.matmul_transposedRhs_apply none lhs rhs _ r c).trans ?_
  rw [show (constant ⟨2, ![M, N]⟩ .f32 0x00000000#32 : FVec Ideal _ .f32) (ix2 r c) = (0 : EReal) from Ideal.ofBits_zero_f32]
  exact zero_add _

/-- One column broadcast over a matrix. -/
theorem col_at {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Two matrices of 128 columns side by side. -/
theorem joined_at {n : ℕ} (x y : (⟨2, ![n, 128]⟩ : Shape).Idx → EReal)
    (h : Shape.Concatenates [⟨2, ![n, 128]⟩, ⟨2, ![n, 128]⟩] ⟨2, ![n, 256]⟩ 1) (r : Fin n) (k : Fin 256) :
    concatenate ⟨2, ![n, 256]⟩ 1 [⟨⟨2, ![n, 128]⟩, x⟩, ⟨⟨2, ![n, 128]⟩, y⟩] h (ix2 r k)
      = joined (fun k => x (ix2 r k)) (fun k => y (ix2 r k)) k := by
  unfold joined
  split
  · rename_i hk
    exact concatenate_pair_apply_left 1 x y h (ix2 r k) rfl (ix2 r ⟨k.val, hk⟩) fun b => match b with | ⟨0, _⟩ => rfl | ⟨1, _⟩ => rfl
  · rename_i hk
    refine concatenate_pair_apply_right 1 x y h (ix2 r k) rfl rfl (ix2 r ⟨k.val - 128, by omega⟩) (fun b => ?_) ?_
    · match b with
      | ⟨0, _⟩ => exact fun _ => rfl
      | ⟨1, _⟩ => exact fun e => absurd rfl e
    · show k.val - 128 + 128 = k.val
      omega

theorem bit_one (b : BitVec 1) : (((b.setWidth 32).toInt : ℝ) : EReal) = if b = 1#1 then 1 else 0 := by
  rw [toInt_setWidth_bit]
  rcases BitVec.eq_zero_or_eq_one b with rfl | rfl <;> simp

theorem eqBit (a b : BitVec 32) : IntOp.cmpi .eq a b = 1#1 ↔ a = b := by
  unfold IntOp.cmpi
  by_cases h : a = b
  · simp [h]
  · simp [h, beq_eq_false_iff_ne.2 h]

theorem sel {α : Type} (a b : BitVec 32) (x y : α) : Scalar.select (IntOp.cmpi .eq a b) x y = if a = b then x else y := by
  by_cases h : a = b
  · rw [if_pos h, (eqBit a b).2 h]; rfl
  · rw [if_neg h, eq_zero_of_ne_one (fun e => h ((eqBit a b).1 e))]; rfl

/-- The row a one-hot selection picks. -/
theorem pick {w : BitVec 32} (hw : w.toNat < 1024) (f : Fin 1024 → EReal) :
    ∑ c : Fin 1024, (if w = BitVec.ofNat 32 c.val then (1 : EReal) else 0) * f c = f ⟨w.toNat, hw⟩ := by
  rw [Finset.sum_eq_single ⟨w.toNat, hw⟩]
  · rw [if_pos (by simp), one_mul]
  · intro c _ hc
    rw [if_neg, zero_mul]
    intro e
    apply hc
    apply Fin.ext
    show c.val = w.toNat
    rw [e, BitVec.toNat_ofNat]
    have := c.isLt; omega
  · exact fun h => absurd (Finset.mem_univ _) h

variable (x1 : Vec Ideal S512x1 .i32) (x2 : Vec Ideal S512x128 .f32) (x3 : Vec Ideal S1024x128 .f32) (x4 : Vec Ideal S512x128 .f32)
    (x5 x6 : Vec Ideal S1x512 .f32) (x7 : Vec Ideal S256x256 .f32) (x8 : Vec Ideal S1x256 .f32) (x9 : Vec Ideal S128x256 .f32)
    (x10 : Vec Ideal S1x128 .f32)

/-- The weights a body reads. -/
def blkW : Wts where
  Wi j k := x4 (ix2 j k)
  bi j := x5 (ix2 (0 : Fin 1) j)
  bh j := x6 (ix2 (0 : Fin 1) j)
  W1 j k := x7 (ix2 j k)
  b1 j := x8 (ix2 (0 : Fin 1) j)
  W2 j k := x9 (ix2 j k)
  b2 j := x10 (ix2 (0 : Fin 1) j)

set_option maxHeartbeats 1000000 in
/-- The cell's output of a row of a block. -/
theorem pay2_at (r : Fin 512) (k : Fin 128) (hw : (x1 (ix2 r (0 : Fin 1))).toNat < 1024)
    (hf : ∀ k, Real' (x3 (ix2 (⟨_, hw⟩ : Fin 1024) k))) :
    k0_pay2 (F := Ideal) x1 x3 x4 x5 x6 (ix2 r k)
      = hid (blkW x4 x5 x6 x7 x8 x9 x10) (x1 (ix2 r (0 : Fin 1))) (fun k => x3 (ix2 (⟨_, hw⟩ : Fin 1024) k)) k := by
  unfold k0_pay2
  dsimp only
  simp only [shapeCast_self]
  generalize hv6 : (sitofp .f32 (extui 32 (cmpi .eq (broadcastTo S512x1024 x1 broadcasts_S512x1_S512x1024)
    (iota .tc S512x1024 32 [1] iota_S512x1024_d1_w32)) natLt_1_32) : FVec Ideal S512x1024 .f32) = v6
  have h6 : ∀ r c, (v6 (ix2 r c) : EReal) = if x1 (ix2 r (0 : Fin 1)) = BitVec.ofNat 32 c.val then 1 else 0 := by
    intro r c
    subst hv6
    refine (bit_one _).trans ?_
    show (if IntOp.cmpi .eq (broadcastTo S512x1024 x1 broadcasts_S512x1_S512x1024 (ix2 r c)) (iota .tc S512x1024 32 [1] iota_S512x1024_d1_w32 (ix2 r c)) = 1#1
      then (1 : EReal) else 0) = _
    rw [col_at, show iota .tc S512x1024 32 [1] iota_S512x1024_d1_w32 (ix2 r c) = BitVec.ofNat 32 c.val from iota_single_apply ..]
    simp only [eqBit]
  -- the table's row
  have h13 : ∀ (B : FVec Ideal S1024x128 .bf16) (r : Fin 512) (k : Fin 128) (hw : (x1 (ix2 r (0 : Fin 1))).toNat < 1024),
      matmul dot_S512x1024_S1024x128_S512x128_1_0_0_1_n_n none (truncf .bf16 v6 bitsLt_bf16_f32) B (constant S512x128 .f32 0x00000000#32) (ix2 r k)
        = (B (ix2 (⟨_, hw⟩ : Fin 1024) k) : EReal) := by
    intro B r k hw
    refine (mm_plain (φ₁ := .bf16) (φ₂ := .bf16) (M := 512) (K := 1024) (N := 128) _ _ r k).trans ?_
    refine (Finset.sum_congr rfl fun c _ => congrArg (· * (B (ix2 c k) : EReal)) (h6 r c)).trans ?_
    exact pick hw fun c => (B (ix2 c k) : EReal)
  have h15 : ∀ (hf : ∀ k, Real' (x3 (ix2 (⟨_, hw⟩ : Fin 1024) k))) (k : Fin 128),
      addf (matmul dot_S512x1024_S1024x128_S512x128_1_0_0_1_n_n none (truncf .bf16 v6 bitsLt_bf16_f32) (truncf .bf16 x3 bitsLt_bf16_f32) (constant S512x128 .f32 0x00000000#32))
        (matmul dot_S512x1024_S1024x128_S512x128_1_0_0_1_n_n none (truncf .bf16 v6 bitsLt_bf16_f32)
          (truncf .bf16 (subf x3 (extf .f32 (truncf .bf16 x3 bitsLt_bf16_f32) bitsLt_bf16_f32)) bitsLt_bf16_f32) (constant S512x128 .f32 0x00000000#32)) (ix2 r k)
        = (x3 (ix2 (⟨_, hw⟩ : Fin 1024) k) : EReal) := by
    intro hf k
    refine (congrArg₂ (fun a b : EReal => a + b) (h13 _ r k hw) (h13 _ r k hw)).trans ?_
    exact (hf k).add_sub_self
  generalize addf (matmul dot_S512x1024_S1024x128_S512x128_1_0_0_1_n_n none (truncf .bf16 v6 bitsLt_bf16_f32) (truncf .bf16 x3 bitsLt_bf16_f32) (constant S512x128 .f32 0x00000000#32))
        (matmul dot_S512x1024_S1024x128_S512x128_1_0_0_1_n_n none (truncf .bf16 v6 bitsLt_bf16_f32)
          (truncf .bf16 (subf x3 (extf .f32 (truncf .bf16 x3 bitsLt_bf16_f32) bitsLt_bf16_f32)) bitsLt_bf16_f32) (constant S512x128 .f32 0x00000000#32)) = v15 at h15 ⊢
  -- the gates
  have h25 : ∀ j : Fin 512, addf (addf (matmul (φ₁ := .f32) (φ₂ := .f32) dot_S512x128_S512x128_S512x512_1_1_0_0_n_n none v15 x4 (constant S512x512 .f32 0x00000000#32))
      (broadcastTo S512x512 x5 broadcasts_S1x512_S512x512)) (broadcastTo S512x512 x6 broadcasts_S1x512_S512x512) (ix2 r j)
      = gates (blkW x4 x5 x6 x7 x8 x9 x10) (fun k => x3 (ix2 (⟨_, hw⟩ : Fin 1024) k)) j := by
    intro j
    refine congrArg₂ (fun a b : EReal => a + b) (congrArg₂ (fun a b : EReal => a + b) ((mm_rows (φ₁ := .f32) (φ₂ := .f32) (M := 512) (K := 128) (N := 512) _ _ r j).trans ?_)
      (broadcastTo_1b_ab_apply x5 _ r j)) (broadcastTo_1b_ab_apply x6 _ r j)
    exact Finset.sum_congr rfl fun k _ => congrArg (· * (x4 (ix2 j k) : EReal)) (h15 hf k)
  generalize addf (addf (matmul (φ₁ := .f32) (φ₂ := .f32) dot_S512x128_S512x128_S512x512_1_1_0_0_n_n none v15 x4 (constant S512x512 .f32 0x00000000#32))
      (broadcastTo S512x512 x5 broadcasts_S1x512_S512x512)) (broadcastTo S512x512 x6 broadcasts_S1x512_S512x512) = v25 at h25 ⊢
  rw [select_apply, col_at]
  refine (sel _ _ _ _).trans ?_
  unfold hid
  refine congrArg₂ (fun a b : EReal => if x1 (ix2 r (0 : Fin 1)) = 1000#32 then a else b) Ideal.ofBits_zero_f32 ?_
  unfold cell
  have s0 := (slice2_axis1_apply 0 v25 slices_S512x512_o0_0_S512x128 r k ⟨0 + k.val, by omega⟩ rfl).trans (h25 _)
  have s2 := (slice2_axis1_apply 256 v25 slices_S512x512_o0_256_S512x128 r k ⟨256 + k.val, by omega⟩ rfl).trans (h25 _)
  have s3 := (slice2_axis1_apply 384 v25 slices_S512x512_o0_384_S512x128 r k ⟨384 + k.val, by omega⟩ rfl).trans (h25 _)
  rw [← s0, ← s2, ← s3]
  rfl

set_option maxHeartbeats 1000000 in
/-- A row of a block of scores. -/
theorem scoreBlk_at (r : Fin 512) (c : Fin 1024) (n : Fin 524288) (hn : n.val = r.val * 1024 + c.val)
    (hw : (x1 (ix2 r (0 : Fin 1))).toNat < 1024) (hf : ∀ k, Real' (x3 (ix2 (⟨_, hw⟩ : Fin 1024) k))) :
    Tail.scoreBlk (F := Ideal) x1 x2 x3 x4 x5 x6 x7 x8 x9 x10 (ix1 n)
      = score (feat (blkW x4 x5 x6 x7 x8 x9 x10) (x1 (ix2 r (0 : Fin 1))) (fun k => x3 (ix2 (⟨_, hw⟩ : Fin 1024) k)) fun k => x2 (ix2 r k))
          (BitVec.ofNat 32 c.val) fun k => x3 (ix2 c k) := by
  unfold Tail.scoreBlk
  have hp := fun k => pay2_at x1 x3 x4 x5 x6 x7 x8 x9 x10 r k hw hf
  generalize k0_pay2 (F := Ideal) x1 x3 x4 x5 x6 = v40 at hp ⊢
  unfold k0_pay1
  dsimp only
  simp only [shapeCast_self]
  rw [shapeCast_apply _ _ (ix1 n) (ix2 r c) (by rw [Shape.rowMajor_val_two, Shape.rowMajor_val_one]; exact hn.symm)]
  rw [select_apply]
  refine (sel _ _ _ _).trans ?_
  unfold score
  rw [show iota .tc S512x1024 32 [1] iota_S512x1024_d1_w32 (ix2 r c) = BitVec.ofNat 32 c.val from iota_single_apply ..]
  refine congrArg (fun b : EReal => if BitVec.ofNat 32 c.val = 1001#32 then Ideal.ofBits .f32 0xD01502F9#32 else b) ?_
  refine (mm_rows (φ₁ := .f32) (φ₂ := .f32) (M := 512) (K := 128) (N := 1024) _ _ r c).trans (Finset.sum_congr rfl fun k _ => congrArg (· * (x3 (ix2 c k) : EReal)) ?_)
  refine congrArg₂ (fun a b : EReal => a + b) ((mm_rows (φ₁ := .f32) (φ₂ := .f32) (M := 512) (K := 256) (N := 128) _ _ r k).trans ?_) (broadcastTo_1b_ab_apply x10 _ r k)
  refine Finset.sum_congr rfl fun j _ => congrArg (· * (x9 (ix2 k j) : EReal)) ?_
  refine congrArg₂ (fun a b : EReal => max a b) (congrArg₂ (fun a b : EReal => a + b) ((mm_rows (φ₁ := .f32) (φ₂ := .f32) (M := 512) (K := 256) (N := 256) _ _ r j).trans ?_)
    (broadcastTo_1b_ab_apply x8 _ r j)) Ideal.ofBits_zero_f32
  refine Finset.sum_congr rfl fun i _ => congrArg (· * (x7 (ix2 j i) : EReal)) ?_
  refine (joined_at v40 x2 _ r i).trans ?_
  exact congrArg (fun f => joined f (fun k => x2 (ix2 r k)) i) (funext hp)

/-- The index of a row's entry, its column put back. -/
theorem lift2 {n m : ℕ} (h : (⟨2, ![n, m]⟩ : Shape).Reduces [1] (⟨1, ![n]⟩ : Shape)) (r : Fin n) (k : Fin m) :
    h.lift (ix1 r) k = ix2 r k := by
  funext c
  apply Fin.ext
  match c with
  | ⟨0, _⟩ => rfl
  | ⟨1, _⟩ => rfl

theorem low_bot : Ideal.ofBits .f32 0xFF800000#32 = (⊥ : EReal) := by simp [Ideal.ofBits, Ideal.ieee]

/-- A reduction by maximum along the rows is each row's greatest entry. -/
theorem rowTop {n m : ℕ} (x : FVec Ideal ⟨2, ![n, m]⟩ .f32) (h : (⟨2, ![n, m]⟩ : Shape).Reduces [1] (⟨1, ![n]⟩ : Shape))
    (hφ : FKind.Formats .f32) (hacc : 0xFF800000#32 = FKind.maximumf.neutral .f32 hφ) (r : Fin n) :
    multiReduction .maximumf [1] ⟨1, ![n]⟩ x 0xFF800000#32 h hφ hacc (ix1 r) = top fun k => (x (ix2 r k) : EReal) := by
  refine (Ideal.multiReduction_maximumf_single x _ h hφ hacc (ix1 r)).trans ?_
  have hx : (x ∘ h.lift (ix1 r)) = fun k : Fin m => x (ix2 r k) := funext fun k => congrArg x (lift2 h r k)
  rw [hx]
  show Finset.fold max (Ideal.ofBits .f32 0xFF800000#32) _ _ = _
  rw [low_bot]
  rfl

theorem rowSum {n m : ℕ} (x : FVec Ideal ⟨2, ![n, m]⟩ .f32) (h : (⟨2, ![n, m]⟩ : Shape).Reduces [1] (⟨1, ![n]⟩ : Shape))
    (hφ : FKind.Formats .f32) (hacc : 0x00000000#32 = FKind.add.neutral .f32 hφ) (r : Fin n) :
    multiReduction .add [1] ⟨1, ![n]⟩ x 0x00000000#32 h hφ hacc (ix1 r) = ∑ k : Fin m, (x (ix2 r k) : EReal) :=
  (Ideal.multiReduction_add_single x _ h hφ hacc (ix1 r)).trans
    (Finset.sum_congr rfl fun k _ => congrArg x (lift2 h r k))

/-- A row normalised. -/
theorem normBlk_at (x : Vec Ideal S2048x200 .f32) (r : Fin 2048) (l : Fin 200) :
    Tail.normBlk (F := Ideal) x (ix2 r l) = lsm (fun l => x (ix2 r l)) l := by
  unfold Tail.normBlk k4_pay1
  dsimp only
  simp only [shapeCast_self]
  have h2 := rowTop (n := 2048) (m := 200) x reduces_S2048x200_S2048 (.inl rfl) rfl
  generalize multiReduction (F := Ideal) (φ := .f32) .maximumf [1] S2048 x 0xFF800000#32 reduces_S2048x200_S2048 (.inl rfl) rfl = v2 at h2 ⊢
  have h3 : ∀ r : Fin 2048, shapeCast S2048x1 v2 shapeCasts_S2048_S2048x1 (ix2 r (0 : Fin 1)) = top fun k => (x (ix2 r k) : EReal) :=
    fun r => (shapeCast_a_a1_apply v2 _ r 0).trans (h2 r)
  generalize shapeCast S2048x1 v2 shapeCasts_S2048_S2048x1 = v3 at h3 ⊢
  have h4 : ∀ (r : Fin 2048) (k : Fin 200), exp (subf x (broadcastTo S2048x200 v3 broadcasts_S2048x1_S2048x200)) (ix2 r k)
      = Ideal.exp (x (ix2 r k) - top fun k => (x (ix2 r k) : EReal)) := fun r k =>
    congrArg (fun a : EReal => Ideal.exp (x (ix2 r k) - a)) ((col_at v3 _ r k).trans (h3 r))
  have h7 := rowSum (n := 2048) (m := 200) (exp (subf x (broadcastTo S2048x200 v3 broadcasts_S2048x1_S2048x200))) reduces_S2048x200_S2048 (.inl rfl) rfl
  generalize multiReduction (F := Ideal) (φ := .f32) .add [1] S2048 (exp (subf x (broadcastTo S2048x200 v3 broadcasts_S2048x1_S2048x200))) 0x00000000#32 reduces_S2048x200_S2048 (.inl rfl) rfl = v7 at h7 ⊢
  refine congrArg (fun a : EReal => x (ix2 r l) - a) ((col_at _ _ r l).trans ?_)
  refine congrArg₂ (fun a b : EReal => a + b) (h3 r) (congrArg Ideal.log ?_)
  exact ((shapeCast_a_a1_apply v7 _ r 0).trans (h7 r)).trans (Finset.sum_congr rfl fun k _ => h4 r k)

end Bodies

end Cert.Proof.Score
-- ==== Proof.Row.lean ====
/-
  One row of a tile's gather: thirteen chunks of sixteen lanes, each reading sixteen column numbers, gathering the row's
  scores at them and storing the sixteen values. The row's program is stated once over any three buffers; the printed trip of
  each of the four loops is that program, and its effect is proved once.
-/
module

public import proofs.«01_k».proof.Proof.Common

@[expose] public section

noncomputable section

namespace Cert.Proof.Tail

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

section
variable [FloatOps F] {c : Fin τ.nSC} {s : Fin τ.nSub}

/-- Sixteen lanes of row `off 0` from column `off 1`: the column numbers from `ix`, the scores of `sc` at `base` plus each, into `ot`. -/
def chunk (sc : Memref sig .scVector .vmem S32768 .f32) (ix : Memref sig .scVector .vmem S32x200 .i32) (ot : Memref sig .scVector .vmem S32x200 .f32)
    (base : BitVec 32) (off : Fin 2 → ℕ) (inb : ∀ a, off a + S1x16.size a ≤ S32x200.size a) :
    Prog (TpuEff nD τ sig (Elt F) Λ₀ (.scVector c s)) Unit := do
  let v : Vec F S1x16 .i32 ← Prog.lift (.load ix (Rect.unit (s := S32x200) off S1x16.size inb).toLoadRect (View.loadsAt_vmem h_S1x16))
  have w : IVec S16 32 := addi (shapeCast S16 v shapeCasts_S1x16_S16) (broadcast S16 base)
  have hw : k1_chk1 w := (← Prog.lift (TpuEff.assume (k1_chk1 w) (k1_chk1.dec w))).down
  let g : Vec F S16 .f32 ← SparseCore.vectorLoadIdx sc ![w] (k1_idx1_inb w hw) (View.loads_vmem h_S32768)
  let _ : Vec F S1x16 .f32 ← Prog.lift (.load ot (Rect.unit (s := S32x200) off S1x16.size inb).toLoadRect (View.loadsAt_vmem h_S1x16))
  Prog.lift (.store ot (Rect.unit (s := S32x200) off S1x16.size inb) (shapeCast S1x16 g shapeCasts_S16_S1x16) Finset.univ (View.stores_vmem_bits_univ h_S1x16 rfl) (.inl rfl))

theorem off_inb (r : ℕ) (hr : r < 32) (col : ℕ) (hcol : col + 16 ≤ 200) :
    ∀ a, (![r, col] : Fin 2 → ℕ) a + S1x16.size a ≤ S32x200.size a :=
  Fin.forall_fin_two.mpr ⟨show r + 1 ≤ 32 by omega, show col + 16 ≤ 200 from hcol⟩

/-- The word of trip `t`. -/
abbrev ivW (t : Fin 32) : BitVec 32 := Scf.iv 0#32 1#32 t.val

theorem ivW_toNat (t : Fin 32) : (ivW t).toNat = t.val := by revert t; decide

theorem ivW_lt (t : Fin 32) : (Scalar.indexCast (ivW t)).toNat < 32 := by revert t; decide

/-- The chunk of trip `t` at column `col`. -/
def chunkAt (sc : Memref sig .scVector .vmem S32768 .f32) (ix : Memref sig .scVector .vmem S32x200 .i32) (ot : Memref sig .scVector .vmem S32x200 .f32)
    (t : Fin 32) (col : ℕ) (hcol : col + 16 ≤ 200) : Prog (TpuEff nD τ sig (Elt F) Λ₀ (.scVector c s)) Unit :=
  chunk sc ix ot (Scalar.muli (ivW t) 1024#32) ![(Scalar.indexCast (ivW t)).toNat, col] (off_inb _ (ivW_lt t) col hcol)

/-- A row. -/
def rowProg (sc : Memref sig .scVector .vmem S32768 .f32) (ix : Memref sig .scVector .vmem S32x200 .i32) (ot : Memref sig .scVector .vmem S32x200 .f32)
    (t : Fin 32) : Prog (TpuEff nD τ sig (Elt F) Λ₀ (.scVector c s)) Unit := do
  chunkAt sc ix ot t 0 (by decide)
  chunkAt sc ix ot t 16 (by decide)
  chunkAt sc ix ot t 32 (by decide)
  chunkAt sc ix ot t 48 (by decide)
  chunkAt sc ix ot t 64 (by decide)
  chunkAt sc ix ot t 80 (by decide)
  chunkAt sc ix ot t 96 (by decide)
  chunkAt sc ix ot t 112 (by decide)
  chunkAt sc ix ot t 128 (by decide)
  chunkAt sc ix ot t 144 (by decide)
  chunkAt sc ix ot t 160 (by decide)
  chunkAt sc ix ot t 176 (by decide)
  chunkAt sc ix ot t 184 (by decide)

end

section
variable [FloatOps F] (i : grid1.Coords)
  (arg2 : Memref sig .scVector .hbm S2097152 .f32) (harg2 : arg2.IsWhole) (arg3 : Memref sig .scVector .hbm S4096x200 .i32) (harg3 : arg3.IsWhole) (arg4 : Memref sig .scVector .hbm S2048x200 .f32) (harg4 : arg4.IsWhole) (arg5 : Memref sig .scVector .vmem S32768 .f32) (harg5 : arg5.IsWhole) (arg6 : Memref sig .scVector .vmem S32768 .f32) (harg6 : arg6.IsWhole) (arg7 : Memref sig .scVector .vmem S32x200 .i32) (harg7 : arg7.IsWhole) (arg8 : Memref sig .scVector .vmem S32x200 .i32) (harg8 : arg8.IsWhole) (arg9 : Memref sig .scVector .vmem S32x200 .f32) (harg9 : arg9.IsWhole) (arg10 : Memref sig .scVector .vmem S32x200 .f32) (harg10 : arg10.IsWhole) (arg11 : DmaSems sig S_) (arg12 : DmaSems sig S_) (arg13 : DmaSems sig S_) (arg14 : DmaSems sig S_) (arg15 : DmaSems sig S_) (arg16 : DmaSems sig S_)

set_option maxRecDepth 65536 in
set_option maxHeartbeats 4000000 in
theorem t1_eq (t : Fin 32) : k1_t1_body (F := F) i arg2 harg2 arg3 harg3 arg4 harg4 arg5 harg5 arg6 harg6 arg7 harg7 arg8 harg8 arg9 harg9 arg10 harg10 arg11 arg12 arg13 arg14 arg15 arg16 t ⟨⟩ = rowProg arg5 arg7 arg9 t := rfl

set_option maxRecDepth 65536 in
set_option maxHeartbeats 4000000 in
theorem t2_eq (t : Fin 32) : k1_t2_body (F := F) i arg2 harg2 arg3 harg3 arg4 harg4 arg5 harg5 arg6 harg6 arg7 harg7 arg8 harg8 arg9 harg9 arg10 harg10 arg11 arg12 arg13 arg14 arg15 arg16 t ⟨⟩ = rowProg arg6 arg8 arg10 t := rfl

set_option maxRecDepth 65536 in
set_option maxHeartbeats 4000000 in
theorem t3_eq (t : Fin 32) : k3_t1_body (F := F) i arg2 harg2 arg3 harg3 arg4 harg4 arg5 harg5 arg6 harg6 arg7 harg7 arg8 harg8 arg9 harg9 arg10 harg10 arg11 arg12 arg13 arg14 arg15 arg16 t ⟨⟩ = rowProg arg5 arg7 arg9 t := rfl

set_option maxRecDepth 65536 in
set_option maxHeartbeats 4000000 in
theorem t4_eq (t : Fin 32) : k3_t2_body (F := F) i arg2 harg2 arg3 harg3 arg4 harg4 arg5 harg5 arg6 harg6 arg7 harg7 arg8 harg8 arg9 harg9 arg10 harg10 arg11 arg12 arg13 arg14 arg15 arg16 t ⟨⟩ = rowProg arg6 arg8 arg10 t := rfl

end

/-! ## What a row leaves -/

section
variable [FloatOps F]
variable (sc : Memref sig .scVector .vmem S32768 .f32) (ix : Memref sig .scVector .vmem S32x200 .i32) (ot : Memref sig .scVector .vmem S32x200 .f32)

/-- The place a word names in a block of scores (the word itself where it is a place). -/
def sidx (w : BitVec 32) : S32768.Idx := fun a => ⟨w.toNat % S32768.size a, Nat.mod_lt _ (by revert a; decide)⟩

/-- The value gathered at place `y` of a row whose scores start at `base`. -/
abbrev gat (base : BitVec 32) (fi : ix.view.ty.Contents (Elt F)) (fs : sc.view.ty.Contents (Elt F)) (y : S32x200.Idx) : F .f32 :=
  sc.view.read (Elt F) fs (sidx (ix.view.read (Elt F) fi y + base))

/-- The buffer after the chunk through `r`. -/
def chunkOut (base : BitVec 32) (r : Rect S32x200) (fi : ix.view.ty.Contents (Elt F)) (fs : sc.view.ty.Contents (Elt F)) (fo : ot.view.ty.Contents (Elt F)) :
    ot.view.ty.Contents (Elt F) :=
  (ot.access r).write (Elt F) fo (fun x => gat sc ix base fi fs (r.emb x)) Finset.univ

theorem read_chunkOut (base : BitVec 32) (r : Rect S32x200) (fi fs fo) (y : S32x200.Idx) :
    ot.view.read (Elt F) (chunkOut sc ix ot base r fi fs fo) y = if y ∈ r.set then gat sc ix base fi fs y else ot.view.read (Elt F) fo y := by
  split
  · rename_i hy
    obtain ⟨x, rfl⟩ : ∃ x, r.emb x = y := r.exists_idx_of_mem hy
    exact View.read_slice_write_emb r fo _ (Finset.mem_univ x)
  · rename_i hy
    exact View.read_slice_write_of_not_mem r fo _ _ (by rwa [Rect.map_emb_univ])

/-- The rectangle of trip `t` at column `col`. -/
abbrev rAt (t : Fin 32) (col : ℕ) (hcol : col + 16 ≤ 200) : Rect S32x200 :=
  Rect.unit (s := S32x200) ![(Scalar.indexCast (ivW t)).toNat, col] S1x16.size (off_inb _ (ivW_lt t) col hcol)

/-- The buffer after trip `t`. -/
def rowOut (t : Fin 32) (fi : ix.view.ty.Contents (Elt F)) (fs : sc.view.ty.Contents (Elt F)) (fo : ot.view.ty.Contents (Elt F)) : ot.view.ty.Contents (Elt F) :=
  let b := Scalar.muli (ivW t) 1024#32
  let o (col : ℕ) (h : col + 16 ≤ 200) (f : ot.view.ty.Contents (Elt F)) := chunkOut sc ix ot b (rAt t col h) fi fs f
  o 184 (by decide) (o 176 (by decide) (o 160 (by decide) (o 144 (by decide) (o 128 (by decide) (o 112 (by decide) (o 96 (by decide) (o 80 (by decide)
    (o 64 (by decide) (o 48 (by decide) (o 32 (by decide) (o 16 (by decide) (o 0 (by decide) fo))))))))))))

theorem mem_rAt (t : Fin 32) (col : ℕ) (hcol : col + 16 ≤ 200) (y : S32x200.Idx) :
    y ∈ (rAt t col hcol).set ↔ (y 0).val = t.val ∧ col ≤ (y 1).val ∧ (y 1).val < col + 16 := by
  have ht : (Scalar.indexCast (ivW t)).toNat = t.val := by revert t; decide
  rw [Rect.mem_set_unit]
  refine Fin.forall_fin_two.trans ?_
  show (((Scalar.indexCast (ivW t)).toNat ≤ (y 0).val ∧ (y 0).val < (Scalar.indexCast (ivW t)).toNat + 1) ∧ (col ≤ (y 1).val ∧ (y 1).val < col + 16)) ↔ _
  rw [ht]
  omega

theorem read_rowOut (t : Fin 32) (fi fs fo) (y : S32x200.Idx) :
    ot.view.read (Elt F) (rowOut sc ix ot t fi fs fo) y
      = if (y 0).val = t.val then gat sc ix (Scalar.muli (ivW t) 1024#32) fi fs y else ot.view.read (Elt F) fo y := by
  have h1 : (y 1).val < 200 := (y 1).isLt
  unfold rowOut
  simp only [read_chunkOut, mem_rAt]
  by_cases h0 : (y 0).val = t.val
  · rw [if_pos h0]
    simp only [h0, _root_.true_and]
    generalize gat sc ix (Scalar.muli (ivW t) 1024#32) fi fs y = G
    generalize ot.view.read (Elt F) fo y = R
    generalize (y 1).val = n at h1 ⊢
    iterate 13 refine ite_eq_left_iff.mpr fun _ => ?_
    omega
  · rw [if_neg h0]
    simp only [h0, _root_.false_and, if_false]

omit [FloatOps F] in
/-- A chunk at the head of a program, its steps in a row. -/
theorem chunk_bind [FloatOps F] {c : Fin τ.nSC} {s : Fin τ.nSub} (base : BitVec 32) (off : Fin 2 → ℕ) (inb : ∀ a, off a + S1x16.size a ≤ S32x200.size a)
    {β : Type} (k : Unit → Prog (TpuEff nD τ sig (Elt F) Λ₀ (.scVector c s)) β) :
    (chunk (F := F) sc ix ot base off inb >>= k)
      = .op (.load ix (Rect.unit (s := S32x200) off S1x16.size inb).toLoadRect (View.loadsAt_vmem h_S1x16)) fun v =>
        .op (.assume (k1_chk1 (addi (shapeCast S16 v shapeCasts_S1x16_S16) (broadcast S16 base))) (k1_chk1.dec _)) fun hw =>
        SparseCore.vectorLoadIdx (F := F) (t := S16) sc ![addi (shapeCast S16 v shapeCasts_S1x16_S16) (broadcast S16 base)] (k1_idx1_inb _ hw.down) (View.loads_vmem h_S32768) >>= fun g =>
        .op (.load ot (Rect.unit (s := S32x200) off S1x16.size inb).toLoadRect (View.loadsAt_vmem h_S1x16)) fun _ =>
        .op (.store ot (Rect.unit (s := S32x200) off S1x16.size inb) (shapeCast S1x16 g shapeCasts_S16_S1x16) Finset.univ (View.stores_vmem_bits_univ h_S1x16 rfl) (.inl rfl)) k := rfl

/-- One chunk runs: the scores and the column numbers unchanged, the chunk stored. -/
theorem wp_chunk (d : Dev nD) (c : Fin τ.nSC) (s : Fin τ.nSub) (base : BitVec 32) (off : Fin 2 → ℕ) (inb) (fi : Buf (Elt F) (ix.view.loc (V d c s)))
    (fs : Buf (Elt F) (sc.view.loc (V d c s))) (fo : Buf (Elt F) (ot.view.loc (V d c s)))
    (hlt : ∀ y : S32x200.Idx, (ix.view.read (Elt F) fi y + base).toNat < 32768)
    {β : Type} (k : Unit → Prog (TpuEff nD τ sig (Elt F) Λ₀ (.scVector c s)) β) (Q : β → sProp 𝕄) :
    iprop((ix.view.loc (V d c s) ↦{fullShare} fi) ∗ (sc.view.loc (V d c s) ↦{fullShare} fs) ∗ (ot.view.loc (V d c s) ↦{fullShare} fo)
      ∗ (((ix.view.loc (V d c s) ↦{fullShare} fi) ∗ (sc.view.loc (V d c s) ↦{fullShare} fs)
          ∗ (ot.view.loc (V d c s) ↦{fullShare} chunkOut sc ix ot base (Rect.unit (s := S32x200) off S1x16.size inb) fi fs fo))
        -∗ wp frame (wpE defs₀ 𝒱₀ (V d c s) none) Set.univ (k ⟨⟩) Q))
    ⊢ wp frame (wpE defs₀ 𝒱₀ (V d c s) none) Set.univ (chunk sc ix ot base off inb >>= k) Q := by
  iintro ⟨Hi, Hs, Ho, Hk⟩
  rw [chunk_bind]
  iapply (wp_load 𝒱₀ (V d c s) none Set.univ (m := ix) (S := Finset.univ) (Finset.subset_univ _)) $$ Hi; iintro Hi
  have hchk : k1_chk1 (addi (shapeCast S16 (ix.view.readAt (Elt F) (Rect.unit (s := S32x200) off S1x16.size inb).toLoadRect fi) shapeCasts_S1x16_S16) (broadcast S16 base)) := by
    refine Fin.forall_fin_one.mpr fun x => ?_
    exact hlt ((Rect.unit (s := S32x200) off S1x16.size inb).emb (Shape.reshapeEquiv shapeCasts_S1x16_S16 x))
  rw [wp_assume_of _ _ _ _ hchk]
  iapply (SparseCore.wp_vectorLoadIdx 𝒱₀ (V d c s) none Set.univ (base := sc) (S := Finset.univ) (q := fullShare) (Finset.subset_univ _)) $$ Hs; iintro Hs
  iapply (wp_load 𝒱₀ (V d c s) none Set.univ (m := ot) (S := Finset.univ) (Finset.subset_univ _)) $$ Ho; iintro Ho
  iapply (wp_store 𝒱₀ (V d c s) none Set.univ (m := ot) (r := Rect.unit (s := S32x200) off S1x16.size inb) (Mk := Finset.univ) (S := Finset.univ) (Finset.subset_univ _)) $$ Ho; iintro Ho
  iapply Hk
  isplitl [Hi]; · iexact Hi
  isplitl [Hs]; · iexact Hs
  have he : chunkOut sc ix ot base (Rect.unit (s := S32x200) off S1x16.size inb) fi fs fo
      = (ot.access (Rect.unit (s := S32x200) off S1x16.size inb)).write (Elt F) fo
        (shapeCast S1x16 (loadIdx (t := S16) ((sc.access (.whole S32768)).read (Elt F) fs)
          ![addi (shapeCast S16 (ix.view.readAt (Elt F) (Rect.unit (s := S32x200) off S1x16.size inb).toLoadRect fi) shapeCasts_S1x16_S16) (broadcast S16 base)]
          (k1_idx1_inb _ hchk)) shapeCasts_S16_S1x16) Finset.univ := by
    refine congrArg (fun w => (ot.access (Rect.unit (s := S32x200) off S1x16.size inb)).write (Elt F) fo w Finset.univ) (funext fun x => ?_)
    have hz : (Shape.reshapeEquiv shapeCasts_S1x16_S16) (Shape.reshapeEquiv shapeCasts_S16_S1x16 x) = x :=
      (Shape.reshapeEquiv_reshapeEquiv _ _ x).trans (Shape.reshapeEquiv_self _ x)
    show gat sc ix base fi fs _ = sc.view.read (Elt F) fs ((Rect.whole S32768).emb _)
    rw [Rect.emb_whole_apply]
    refine congrArg (sc.view.read (Elt F) fs) (funext fun a => Fin.ext ?_)
    have ha : a = 0 := Subsingleton.elim _ _
    subst ha
    have hv := hlt ((Rect.unit (s := S32x200) off S1x16.size inb).emb x)
    refine (Nat.mod_eq_of_lt hv).trans ?_
    conv_lhs => rw [← hz]
    rfl
  rw [he]
  iexact Ho

theorem base_toNat (t : Fin 32) : (Scalar.muli (ivW t) 1024#32).toNat = t.val * 1024 := by revert t; decide

theorem base_add_lt (t : Fin 32) (w : BitVec 32) (hw : w.toNat < 1024) : (w + Scalar.muli (ivW t) 1024#32).toNat = t.val * 1024 + w.toNat := by
  have := base_toNat t
  have := t.isLt
  rw [BitVec.toNat_add]
  omega

/-- One row runs: the scores and the column numbers unchanged, the row stored. -/
theorem wp_row (d : Dev nD) (c : Fin τ.nSC) (s : Fin τ.nSub) (t : Fin 32) (fi : Buf (Elt F) (ix.view.loc (V d c s)))
    (fs : Buf (Elt F) (sc.view.loc (V d c s))) (fo : Buf (Elt F) (ot.view.loc (V d c s)))
    (hlt : ∀ y : S32x200.Idx, (ix.view.read (Elt F) fi y : BitVec 32).toNat < 1024) (Q : Unit → sProp 𝕄) :
    iprop((ix.view.loc (V d c s) ↦{fullShare} fi) ∗ (sc.view.loc (V d c s) ↦{fullShare} fs) ∗ (ot.view.loc (V d c s) ↦{fullShare} fo)
      ∗ (((ix.view.loc (V d c s) ↦{fullShare} fi) ∗ (sc.view.loc (V d c s) ↦{fullShare} fs)
          ∗ (ot.view.loc (V d c s) ↦{fullShare} rowOut sc ix ot t fi fs fo))
        -∗ Q ⟨⟩))
    ⊢ wp frame (wpE defs₀ 𝒱₀ (V d c s) none) Set.univ (rowProg sc ix ot t) Q := by
  have h : ∀ y : S32x200.Idx, (ix.view.read (Elt F) fi y + Scalar.muli (ivW t) 1024#32).toNat < 32768 := fun y => by
    have := base_add_lt t _ (hlt y)
    have := hlt y
    have := t.isLt
    omega
  iintro ⟨Hi, Hs, Ho, Hk⟩
  unfold rowProg chunkAt
  iterate 12
    iapply (wp_chunk sc ix ot d c s _ _ _ fi fs _ h)
    isplitl [Hi]; · iexact Hi
    isplitl [Hs]; · iexact Hs
    isplitl [Ho]; · iexact Ho
    iintro ⟨Hi, Hs, Ho⟩
  rw [← bind_pure (chunk sc ix ot _ _ _)]
  iapply (wp_chunk sc ix ot d c s _ _ _ fi fs _ h)
  isplitl [Hi]; · iexact Hi
  isplitl [Hs]; · iexact Hs
  isplitl [Ho]; · iexact Ho
  iintro ⟨Hi, Hs, Ho⟩
  iapply (le_wp_ret _ _ _ () Q)
  iapply Hk
  isplitl [Hi]; · iexact Hi
  isplitl [Hs]; · iexact Hs
  iexact Ho

/-- The rows `< n` of `f` are the gathered ones, the rest are `f₀`'s. -/
def RowsDone (n : ℕ) (fi : ix.view.ty.Contents (Elt F)) (fs : sc.view.ty.Contents (Elt F)) (f : ot.view.ty.Contents (Elt F)) : Prop :=
  ∀ y : S32x200.Idx, (y 0).val < n → ot.view.read (Elt F) f y = gat sc ix (BitVec.ofNat 32 ((y 0).val * 1024)) fi fs y

theorem rowsDone_succ (t : Fin 32) (fi : ix.view.ty.Contents (Elt F)) (fs : sc.view.ty.Contents (Elt F)) (f : ot.view.ty.Contents (Elt F)) (h : RowsDone sc ix ot t.val fi fs f) :
    RowsDone sc ix ot (t.val + 1) fi fs (rowOut sc ix ot t fi fs f) := by
  intro y hy
  rw [read_rowOut]
  split
  · rename_i h0
    have e : Scalar.muli (ivW t) 1024#32 = BitVec.ofNat 32 ((y 0).val * 1024) := by
      rw [h0]
      exact (by decide : ∀ t : Fin 32, Scalar.muli (ivW t) 1024#32 = BitVec.ofNat 32 (t.val * 1024)) t
    rw [e]
  · exact h y (by omega)

end

end Cert.Proof.Tail
-- ==== Proof.Tile.lean ====
/-
  One tile's kernel: two blocks of thirty-two rows. The scores and the column numbers of the first block are fetched, then those
  of the second while the first block's rows are gathered, then the second block's rows are gathered while the first block is
  written out. The program is stated once over the slices it moves; the printed kernels of both calls are that program.
-/
module

public import proofs.«01_k».proof.Proof.Row

@[expose] public section

noncomputable section

namespace Cert.Proof.Tail

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

section
variable [FloatOps F]
variable (sa sb : Memref sig .scVector .hbm S32768 .f32) (ia ib : Memref sig .scVector .hbm S32x200 .i32) (oa ob : Memref sig .scVector .hbm S32x200 .f32)
  (a5 : Memref sig .scVector .vmem S32768 .f32) (h5 : a5.IsWhole) (a6 : Memref sig .scVector .vmem S32768 .f32) (h6 : a6.IsWhole)
  (a7 : Memref sig .scVector .vmem S32x200 .i32) (h7 : a7.IsWhole) (a8 : Memref sig .scVector .vmem S32x200 .i32) (h8 : a8.IsWhole)
  (a9 : Memref sig .scVector .vmem S32x200 .f32) (h9 : a9.IsWhole) (a10 : Memref sig .scVector .vmem S32x200 .f32) (h10 : a10.IsWhole)
  (a11 a12 a13 a14 a15 a16 : DmaSems sig S_)

/-- The tile's program over the slices it moves. -/
def tileProg (v : BitVec 32) {c : Fin τ.nSC} {s : Fin τ.nSub} : Prog (TpuEff nD τ sig (Elt F) Λ₀ (.scVector c s)) PUnit := do
  let _ : BitVec 32 ← (do
    Prog.lift (.enqueueDma sa (.here a5) (.dma a11.sem) (View.wordExact_bits rfl) h5.wordExact ⟨Or.inl rfl, trivial⟩)
    Prog.lift (.enqueueDma ia (.here a7) (.dma a13.sem) (View.wordExact_bits rfl) h7.wordExact ⟨Or.inl rfl, trivial⟩)
    Prog.lift (.waitDma2 a11.sem sa a5 (View.wordExact_bits rfl) h5.wordExact)
    Prog.lift (.waitDma2 a13.sem ia a7 (View.wordExact_bits rfl) h7.wordExact)
    Prog.lift (.enqueueDma sb (.here a6) (.dma a12.sem) (View.wordExact_bits rfl) h6.wordExact ⟨Or.inl rfl, trivial⟩)
    Prog.lift (.enqueueDma ib (.here a8) (.dma a14.sem) (View.wordExact_bits rfl) h8.wordExact ⟨Or.inl rfl, trivial⟩)
    Scf.Loop.for k1_t1_loop k1_t1_ok ⟨⟩ (fun t (_ : Unit) => rowProg a5 a7 a9 t)
    Prog.lift (.enqueueDma a9 (.here oa) (.dma a15.sem) h9.wordExact (View.wordExact_bits rfl) ⟨Or.inl rfl, trivial⟩)
    Prog.lift (.waitDma2 a12.sem sb a6 (View.wordExact_bits rfl) h6.wordExact)
    pure v)
  Prog.lift (.waitDma2 a14.sem ib a8 (View.wordExact_bits rfl) h8.wordExact)
  Scf.Loop.for k1_t1_loop k1_t1_ok ⟨⟩ (fun t (_ : Unit) => rowProg a6 a8 a10 t)
  Prog.lift (.enqueueDma a10 (.here ob) (.dma a16.sem) h10.wordExact (View.wordExact_bits rfl) ⟨Or.inl rfl, trivial⟩)
  Prog.lift (.waitDma2 a15.sem a9 oa h9.wordExact (View.wordExact_bits rfl))
  Prog.lift (.waitDma2 a16.sem a10 ob h10.wordExact (View.wordExact_bits rfl))
  pure ⟨⟩

end

section
variable [FloatOps F] (i : grid1.Coords)
  (arg2 : Memref sig .scVector .hbm S2097152 .f32) (harg2 : arg2.IsWhole) (arg3 : Memref sig .scVector .hbm S4096x200 .i32) (harg3 : arg3.IsWhole) (arg4 : Memref sig .scVector .hbm S2048x200 .f32) (harg4 : arg4.IsWhole) (arg5 : Memref sig .scVector .vmem S32768 .f32) (harg5 : arg5.IsWhole) (arg6 : Memref sig .scVector .vmem S32768 .f32) (harg6 : arg6.IsWhole) (arg7 : Memref sig .scVector .vmem S32x200 .i32) (harg7 : arg7.IsWhole) (arg8 : Memref sig .scVector .vmem S32x200 .i32) (harg8 : arg8.IsWhole) (arg9 : Memref sig .scVector .vmem S32x200 .f32) (harg9 : arg9.IsWhole) (arg10 : Memref sig .scVector .vmem S32x200 .f32) (harg10 : arg10.IsWhole) (arg11 : DmaSems sig S_) (arg12 : DmaSems sig S_) (arg13 : DmaSems sig S_) (arg14 : DmaSems sig S_) (arg15 : DmaSems sig S_) (arg16 : DmaSems sig S_)

set_option maxRecDepth 65536 in
set_option maxHeartbeats 4000000 in
theorem body1_eq : cc1__sc_gather_body (F := F) i arg2 harg2 arg3 harg3 arg4 harg4 arg5 harg5 arg6 harg6 arg7 harg7 arg8 harg8 arg9 harg9 arg10 harg10 arg11 arg12 arg13 arg14 arg15 arg16
    = tileProg (arg2.slice (Rect.unit (s := S2097152) (k1_off1 i 0#32) S32768.size (k1_off1_inb i 0)) (fun _ => rfl))
        (arg2.slice (Rect.unit (s := S2097152) (k1_off1 i 32#32) S32768.size (k1_off1_inb i 1)) (fun _ => rfl))
        (arg3.slice (Rect.unit (s := S4096x200) (k1_off2 i 0#32) S32x200.size (k1_off2_inb i 0)) (fun _ => rfl))
        (arg3.slice (Rect.unit (s := S4096x200) (k1_off2 i 32#32) S32x200.size (k1_off2_inb i 1)) (fun _ => rfl))
        (arg4.slice (Rect.unit (s := S2048x200) (k1_off29 i 0#32) S32x200.size (k1_off29_inb i 0)) (fun _ => rfl))
        (arg4.slice (Rect.unit (s := S2048x200) (k1_off29 i 32#32) S32x200.size (k1_off29_inb i 1)) (fun _ => rfl))
        arg5 harg5 arg6 harg6 arg7 harg7 arg8 harg8 arg9 harg9 arg10 harg10 arg11 arg12 arg13 arg14 arg15 arg16 (Scalar.muli (Scalar.addi (Scalar.muli (BitVec.ofNat 32 (i 1).val) 2#32) (BitVec.ofNat 32 (i 0).val)) 64#32) := rfl

set_option maxRecDepth 65536 in
set_option maxHeartbeats 4000000 in
theorem body3_eq : cc3__sc_gather_body (F := F) i arg2 harg2 arg3 harg3 arg4 harg4 arg5 harg5 arg6 harg6 arg7 harg7 arg8 harg8 arg9 harg9 arg10 harg10 arg11 arg12 arg13 arg14 arg15 arg16
    = tileProg (arg2.slice (Rect.unit (s := S2097152) (k3_off1 i 0#32) S32768.size (k3_off1_inb i 0)) (fun _ => rfl))
        (arg2.slice (Rect.unit (s := S2097152) (k3_off1 i 32#32) S32768.size (k3_off1_inb i 1)) (fun _ => rfl))
        (arg3.slice (Rect.unit (s := S4096x200) (k3_off2 i 0#32) S32x200.size (k3_off2_inb i 0)) (fun _ => rfl))
        (arg3.slice (Rect.unit (s := S4096x200) (k3_off2 i 32#32) S32x200.size (k3_off2_inb i 1)) (fun _ => rfl))
        (arg4.slice (Rect.unit (s := S2048x200) (k3_off29 i 0#32) S32x200.size (k3_off29_inb i 0)) (fun _ => rfl))
        (arg4.slice (Rect.unit (s := S2048x200) (k3_off29 i 32#32) S32x200.size (k3_off29_inb i 1)) (fun _ => rfl))
        arg5 harg5 arg6 harg6 arg7 harg7 arg8 harg8 arg9 harg9 arg10 harg10 arg11 arg12 arg13 arg14 arg15 arg16 (Scalar.muli (Scalar.addi (Scalar.muli (BitVec.ofNat 32 (i 1).val) 2#32) (BitVec.ofNat 32 (i 0).val)) 64#32) := rfl

end

section
variable [FloatOps F]
variable (sa sb : Memref sig .scVector .hbm S32768 .f32) (ia ib : Memref sig .scVector .hbm S32x200 .i32) (oa ob : Memref sig .scVector .hbm S32x200 .f32)
  (a5 : Memref sig .scVector .vmem S32768 .f32) (h5 : a5.IsWhole) (a6 : Memref sig .scVector .vmem S32768 .f32) (h6 : a6.IsWhole)
  (a7 : Memref sig .scVector .vmem S32x200 .i32) (h7 : a7.IsWhole) (a8 : Memref sig .scVector .vmem S32x200 .i32) (h8 : a8.IsWhole)
  (a9 : Memref sig .scVector .vmem S32x200 .f32) (h9 : a9.IsWhole) (a10 : Memref sig .scVector .vmem S32x200 .f32) (h10 : a10.IsWhole)
  (a11 a12 a13 a14 a15 a16 : DmaSems sig S_)

/-- Place `y` of a block gathered: the block's scores `A` at row `y 0`'s scores' start plus the column number `I y`. -/
abbrev gatV (A : S32768.Idx → F .f32) (I : S32x200.Idx → BitVec 32) (y : S32x200.Idx) : F .f32 :=
  A (sidx (I y + BitVec.ofNat 32 ((y 0).val * 1024)))

/-- What a loop over the rows holds before trip `n`: the scores and the column numbers, and the rows below `n` gathered. -/
def inv (sc : Memref sig .scVector .vmem S32768 .f32) (ix : Memref sig .scVector .vmem S32x200 .i32) (ot : Memref sig .scVector .vmem S32x200 .f32)
    (d : Dev nD) (c : Fin τ.nSC) (s : Fin τ.nSub) (fi : Buf (Elt F) (ix.view.loc (V d c s)))
    (fs : Buf (Elt F) (sc.view.loc (V d c s))) (n : ℕ) (_ : Unit) : sProp 𝕄 :=
  iprop((ix.view.loc (V d c s) ↦{fullShare} fi) ∗ (sc.view.loc (V d c s) ↦{fullShare} fs)
    ∗ ∃ fo, ⌜RowsDone sc ix ot n fi fs fo⌝ ∗ (ot.view.loc (V d c s) ↦{fullShare} fo))

set_option maxHeartbeats 4000000 in
theorem wp_tile (v : BitVec 32) (d : Dev nD) (c : Fin τ.nSC) (s : Fin τ.nSub) (O : CellTallies nD τ sig (HIx 2)) (W : Waits sig (HIx 2)) (hO : ∀ g, O g none = 0)
    (qs qi : PosShare TreeShare)
    (fsa : Buf (Elt F) (sa.view.loc (V d c s))) (fsb : Buf (Elt F) (sb.view.loc (V d c s)))
    (fia : Buf (Elt F) (ia.view.loc (V d c s))) (fib : Buf (Elt F) (ib.view.loc (V d c s)))
    (foa : Buf (Elt F) (oa.view.loc (V d c s))) (fob : Buf (Elt F) (ob.view.loc (V d c s)))
    (f5 : Buf (Elt F) (a5.view.loc (V d c s))) (f6 : Buf (Elt F) (a6.view.loc (V d c s))) (f7 : Buf (Elt F) (a7.view.loc (V d c s)))
    (f8 : Buf (Elt F) (a8.view.loc (V d c s))) (f9 : Buf (Elt F) (a9.view.loc (V d c s))) (f10 : Buf (Elt F) (a10.view.loc (V d c s)))
    (ha : ∀ y : S32x200.Idx, (ia.view.read (Elt F) fia y : BitVec 32).toNat < 1024)
    (hb : ∀ y : S32x200.Idx, (ib.view.read (Elt F) fib y : BitVec 32).toNat < 1024) :
    (iprop(levAts (K (F := F)).L (K (F := F)).lev
      ∗ (sa.view.loc (V d c s) ↦[sa.view.set]{qs} fsa) ∗ (sb.view.loc (V d c s) ↦[sb.view.set]{qs} fsb)
      ∗ (ia.view.loc (V d c s) ↦[ia.view.set]{qi} fia) ∗ (ib.view.loc (V d c s) ↦[ib.view.set]{qi} fib)
      ∗ (oa.view.loc (V d c s) ↦[oa.view.set]{fullShare} foa) ∗ (ob.view.loc (V d c s) ↦[ob.view.set]{fullShare} fob)
      ∗ (a5.view.loc (V d c s) ↦{fullShare} f5) ∗ (a6.view.loc (V d c s) ↦{fullShare} f6) ∗ (a7.view.loc (V d c s) ↦{fullShare} f7)
      ∗ (a8.view.loc (V d c s) ↦{fullShare} f8) ∗ (a9.view.loc (V d c s) ↦{fullShare} f9) ∗ (a10.view.loc (V d c s) ↦{fullShare} f10)
      ∗ semVal (V d c s, SemLoc.dma a11.sem) 0 ∗ semVal (V d c s, SemLoc.dma a12.sem) 0 ∗ semVal (V d c s, SemLoc.dma a13.sem) 0
      ∗ semVal (V d c s, SemLoc.dma a14.sem) 0 ∗ semVal (V d c s, SemLoc.dma a15.sem) 0 ∗ semVal (V d c s, SemLoc.dma a16.sem) 0
      ∗ owes (V d c s) O W) : sProp 𝕄)
    ⊢ wp frame (wpE (defs₀ (F := F)) 𝒱₀ (V d c s) none) Set.univ
        (tileProg sa sb ia ib oa ob a5 h5 a6 h6 a7 h7 a8 h8 a9 h9 a10 h10 a11 a12 a13 a14 a15 a16 v)
        fun _ => (iprop(
          (sa.view.loc (V d c s) ↦[sa.view.set]{qs} fsa) ∗ (sb.view.loc (V d c s) ↦[sb.view.set]{qs} fsb)
          ∗ (ia.view.loc (V d c s) ↦[ia.view.set]{qi} fia) ∗ (ib.view.loc (V d c s) ↦[ib.view.set]{qi} fib)
          ∗ (∃ g : Buf (Elt F) (oa.view.loc (V d c s)), ⌜∀ y : S32x200.Idx, oa.view.read (Elt F) g y = gatV (sa.view.read (Elt F) fsa) (ia.view.read (Elt F) fia) y⌝
              ∗ oa.view.loc (V d c s) ↦[oa.view.set]{fullShare} g)
          ∗ (∃ g : Buf (Elt F) (ob.view.loc (V d c s)), ⌜∀ y : S32x200.Idx, ob.view.read (Elt F) g y = gatV (sb.view.read (Elt F) fsb) (ib.view.read (Elt F) fib) y⌝
              ∗ ob.view.loc (V d c s) ↦[ob.view.set]{fullShare} g)
          ∗ (∃ f, a5.view.loc (V d c s) ↦{fullShare} f) ∗ (∃ f, a6.view.loc (V d c s) ↦{fullShare} f) ∗ (∃ f, a7.view.loc (V d c s) ↦{fullShare} f)
          ∗ (∃ f, a8.view.loc (V d c s) ↦{fullShare} f) ∗ (∃ f, a9.view.loc (V d c s) ↦{fullShare} f) ∗ (∃ f, a10.view.loc (V d c s) ↦{fullShare} f)
          ∗ semVal (V d c s, SemLoc.dma a11.sem) 0 ∗ semVal (V d c s, SemLoc.dma a12.sem) 0 ∗ semVal (V d c s, SemLoc.dma a13.sem) 0
          ∗ semVal (V d c s, SemLoc.dma a14.sem) 0 ∗ semVal (V d c s, SemLoc.dma a15.sem) 0 ∗ semVal (V d c s, SemLoc.dma a16.sem) 0
          ∗ ∃ W', ⌜∀ p ∈ W', p ∈ W ∨ p.2 = none⌝ ∗ owes (V d c s) O W') : sProp 𝕄) := by
  unfold tileProg
  iintro ⟨#Hlv, Hsa, Hsb, Hia, Hib, Hoa, Hob, H5, H6, H7, H8, H9, H10, S11, S12, S13, S14, S15, S16, HO⟩
  ihave Hmw := (show levAts (K (F := F)).L (K (F := F)).lev ⊢ Transfers.MayWaits (V d c s) (default : HIx 2) O from
    (K (F := F)).mayWaits_none (thr := V d c s) hO) $$ Hlv
  sl_exec
  rw [bind_assoc]
  have e5 : a5.view.read (Elt F) (View.write (Elt F) a5.view f5 (wp_tile.sl.dma0 sa d c s fsa) Finset.univ) = sa.view.read (Elt F) fsa := View.read_write_univ _ _
  have e7 : a7.view.read (Elt F) (View.write (Elt F) a7.view f7 (wp_tile.sl.dma0_1 ia d c s fia) Finset.univ) = ia.view.read (Elt F) fia := View.read_write_univ _ _
  sl_for (inv a5 a7 a9 d c s (View.write (Elt F) a7.view f7 (wp_tile.sl.dma0_1 ia d c s fia) Finset.univ)
    (View.write (Elt F) a5.view f5 (wp_tile.sl.dma0 sa d c s fsa) Finset.univ)) $$ [H7 H5 H9]
  case region =>
    intro k _
    unfold inv
    iintro ⟨H7, H5, %fo, %hfo, H9⟩
    iapply (wp_row a5 a7 a9 d c s k _ _ fo (fun y => by rw [e7]; exact ha y))
    isplitl [H7]; · iexact H7
    isplitl [H5]; · iexact H5
    isplitl [H9]; · iexact H9
    iintro ⟨H7, H5, H9⟩
    isplitl [H7]; · iexact H7
    isplitl [H5]; · iexact H5
    iexists _; isplitr
    · ipureintro; exact rowsDone_succ a5 a7 a9 k _ _ _ hfo
    · iexact H9
  · unfold inv
    isplitl [H7]; · iexact H7
    isplitl [H5]; · iexact H5
    iexists f9; isplitr
    · ipureintro; exact fun y hy => absurd hy (Nat.not_lt_zero _)
    · iexact H9
  iintro %_ HI
  unfold inv
  icases HI with ⟨H7, H5, %g9, %hg9, H9⟩
  sl_exec
  have e6 : a6.view.read (Elt F) (View.write (Elt F) a6.view f6 (wp_tile.sl.dma0_2 sb d c s fsb) Finset.univ) = sb.view.read (Elt F) fsb := View.read_write_univ _ _
  have e8 : a8.view.read (Elt F) (View.write (Elt F) a8.view f8 (wp_tile.sl.dma0_3 ib d c s fib) Finset.univ) = ib.view.read (Elt F) fib := View.read_write_univ _ _
  sl_for (inv a6 a8 a10 d c s (View.write (Elt F) a8.view f8 (wp_tile.sl.dma0_3 ib d c s fib) Finset.univ)
    (View.write (Elt F) a6.view f6 (wp_tile.sl.dma0_2 sb d c s fsb) Finset.univ)) $$ [H8 H6 H10]
  case region =>
    intro k _
    unfold inv
    iintro ⟨H8, H6, %fo, %hfo, H10⟩
    iapply (wp_row a6 a8 a10 d c s k _ _ fo (fun y => by rw [e8]; exact hb y))
    isplitl [H8]; · iexact H8
    isplitl [H6]; · iexact H6
    isplitl [H10]; · iexact H10
    iintro ⟨H8, H6, H10⟩
    isplitl [H8]; · iexact H8
    isplitl [H6]; · iexact H6
    iexists _; isplitr
    · ipureintro; exact rowsDone_succ a6 a8 a10 k _ _ _ hfo
    · iexact H10
  · unfold inv
    isplitl [H8]; · iexact H8
    isplitl [H6]; · iexact H6
    iexists f10; isplitr
    · ipureintro; exact fun y hy => absurd hy (Nat.not_lt_zero _)
    · iexact H10
  iintro %_ HI
  unfold inv
  icases HI with ⟨H8, H6, %g10, %hg10, H10⟩
  sl_exec
  sl_step
  isplitl [Hsa]; · iexact Hsa
  isplitl [Hsb]; · iexact Hsb
  isplitl [Hia]; · iexact Hia
  isplitl [Hib]; · iexact Hib
  isplitl [Hoa]
  · iexists _; isplitr
    rotate_left
    · iexact Hoa
    · ipureintro; intro y
      refine (View.read_writes_cons_hit oa.view foa (Rect.whole S32x200) (wp_tile.sl.dma0_4 a9 g9) [] y y (Rect.emb_whole_apply _ _)).trans ?_
      refine (show wp_tile.sl.dma0_4 a9 g9 y = a9.view.read (Elt F) g9 y from rfl).trans ((hg9 y (y 0).isLt).trans ?_)
      unfold gat gatV
      rw [e5, e7]
  isplitl [Hob]
  · iexists _; isplitr
    rotate_left
    · iexact Hob
    · ipureintro; intro y
      refine (View.read_writes_cons_hit ob.view fob (Rect.whole S32x200) (wp_tile.sl.dma0_5 a10 g10) [] y y (Rect.emb_whole_apply _ _)).trans ?_
      refine (show wp_tile.sl.dma0_5 a10 g10 y = a10.view.read (Elt F) g10 y from rfl).trans ((hg10 y (y 0).isLt).trans ?_)
      unfold gat gatV
      rw [e6, e8]
  isplitl [H5]; · iexists _; iexact H5
  isplitl [H6]; · iexists _; iexact H6
  isplitl [H7]; · iexists _; iexact H7
  isplitl [H8]; · iexists _; iexact H8
  isplitl [H9]; · iexists _; iexact H9
  isplitl [H10]; · iexists _; iexact H10
  isplitl [S11]; · iexact S11
  isplitl [S12]; · iexact S12
  isplitl [S13]; · iexact S13
  isplitl [S14]; · iexact S14
  isplitl [S15]; · iexact S15
  isplitl [S16]; · iexact S16
  iexists _; isplitr
  rotate_left
  · iexact HO
  · ipureintro; intro p hp
    simp only [Finset.mem_insert] at hp
    rcases hp with rfl | rfl | rfl | rfl | rfl | rfl | hp
    · exact .inr rfl
    · exact .inr rfl
    · exact .inr rfl
    · exact .inr rfl
    · exact .inr rfl
    · exact .inr rfl
    · exact .inl hp

end

end Cert.Proof.Tail
-- ==== Proof.Obl.lean ====
/-
  The two SparseCore calls: what their handshakes carry, and that every tile's task turns what it is given into what it
  gives back. A tile takes two blocks of 32 rows of the scores, of the column numbers and of the result, and brings the
  result's back gathered.
-/
module

public import proofs.«01_k».proof.Proof.Tile

@[expose] public section

noncomputable section

namespace Cert.Proof.Tail

open Cert.KernelIdeal Cert.KernelIdeal.Gen

open Idealize.ShloMosaic
open Idealize.ShloMosaic.SparseCore (S V T)
open Idealize.ShloMosaic.SparseCore.Cfg (HIx Pay ownCells ownRefs ownSems0 ownBufs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-! ## A thread's own resources, listed -/

/-- A family over a set is it over a list of members, then over the rest. -/
theorem bigSep_list {I : Type} [DecidableEq I] {A : Finset I} (l : List I) (hl : l.Nodup) (hA : ∀ i ∈ l, i ∈ A) (Φ : I → sProp 𝕄) :
    bigSep A Φ = iprop(bigSepL l Φ ∗ bigSep (A \ l.toFinset) Φ) := by
  rw [BI.bigSep_sdiff_split (t := l.toFinset) (fun i hi => hA i (List.mem_toFinset.mp hi)), bigSep_eq_bigSepL l hl]; rfl

theorem ownSems0_list (thr : Thread nD τ) (l : List (GSem nD τ sig)) (hl : l.Nodup) (hA : ∀ g ∈ l, g ∈ ownCells thr) :
    (ownSems0 thr : sProp 𝕄) = iprop(bigSepL l (fun g => semVal g 0) ∗ bigSep (ownCells thr \ l.toFinset) fun g => semVal g 0) :=
  bigSep_list l hl hA _

theorem ownBufs_list (thr : Thread nD τ) (l : List (DevRef τ sig)) (hl : l.Nodup) (hA : ∀ b ∈ l, b ∈ ownRefs thr.2) :
    (ownBufs thr : sProp 𝕄) = iprop(bigSepL l (fun b => iprop(∃ f : Buf (Elt F) ((thr.1, b) : Loc nD τ sig), ((thr.1, b) : Loc nD τ sig) ↦{fullShare} f))
      ∗ bigSep (ownRefs thr.2 \ l.toFinset) fun b => iprop(∃ f : Buf (Elt F) ((thr.1, b) : Loc nD τ sig), ((thr.1, b) : Loc nD τ sig) ↦{fullShare} f)) :=
  bigSep_list l hl hA _

section
variable [FloatOps F]
variable (sa sb : Memref sig .scVector .hbm S32768 .f32) (ia ib : Memref sig .scVector .hbm S32x200 .i32) (oa ob : Memref sig .scVector .hbm S32x200 .f32)

/-- What a tile is given: its two blocks of the scores and of the column numbers, and of the result at some contents. -/
def goP (d : Dev nD) (c : Fin τ.nSC) (s : Fin τ.nSub)
    (fsa : Buf (Elt F) (sa.view.loc (V d c s))) (fsb : Buf (Elt F) (sb.view.loc (V d c s)))
    (fia : Buf (Elt F) (ia.view.loc (V d c s))) (fib : Buf (Elt F) (ib.view.loc (V d c s))) : sProp 𝕄 :=
  iprop((sa.view.loc (V d c s) ↦[sa.view.set]{fullShare} fsa) ∗ (sb.view.loc (V d c s) ↦[sb.view.set]{fullShare} fsb)
    ∗ (ia.view.loc (V d c s) ↦[ia.view.set]{fullShare} fia) ∗ (ib.view.loc (V d c s) ↦[ib.view.set]{fullShare} fib)
    ∗ (∃ f : Buf (Elt F) (oa.view.loc (V d c s)), oa.view.loc (V d c s) ↦[oa.view.set]{fullShare} f)
    ∗ (∃ f : Buf (Elt F) (ob.view.loc (V d c s)), ob.view.loc (V d c s) ↦[ob.view.set]{fullShare} f))

/-- What it gives back: the same, the result's blocks at `ga` and `gb`. -/
def tdP (d : Dev nD) (c : Fin τ.nSC) (s : Fin τ.nSub)
    (fsa : Buf (Elt F) (sa.view.loc (V d c s))) (fsb : Buf (Elt F) (sb.view.loc (V d c s)))
    (fia : Buf (Elt F) (ia.view.loc (V d c s))) (fib : Buf (Elt F) (ib.view.loc (V d c s)))
    (ga : Buf (Elt F) (oa.view.loc (V d c s))) (gb : Buf (Elt F) (ob.view.loc (V d c s))) : sProp 𝕄 :=
  iprop((sa.view.loc (V d c s) ↦[sa.view.set]{fullShare} fsa) ∗ (sb.view.loc (V d c s) ↦[sb.view.set]{fullShare} fsb)
    ∗ (ia.view.loc (V d c s) ↦[ia.view.set]{fullShare} fia) ∗ (ib.view.loc (V d c s) ↦[ib.view.set]{fullShare} fib)
    ∗ (oa.view.loc (V d c s) ↦[oa.view.set]{fullShare} ga)
    ∗ (ob.view.loc (V d c s) ↦[ob.view.set]{fullShare} gb))

instance goP_storable (d : Dev nD) (c : Fin τ.nSC) (s : Fin τ.nSub) (fsa fsb fia fib) :
    BI.Storable (upEmb : UEmb _ 𝕄) (goP (F := F) sa sb ia ib oa ob d c s fsa fsb fia fib) := by unfold goP; infer_instance
instance tdP_storable (d : Dev nD) (c : Fin τ.nSC) (s : Fin τ.nSub) (fsa fsb fia fib ga gb) :
    BI.Storable (upEmb : UEmb _ 𝕄) (tdP (F := F) sa sb ia ib oa ob d c s fsa fsb fia fib ga gb) := by unfold tdP; infer_instance

/-- Two contents that read alike through a block of the result are alike on its elements. -/
theorem read_congr_set (m : Memref sig .scVector .hbm S32x200 .f32) (f g : m.view.ty.Contents (Elt F))
    (h : ∀ y, m.view.read (Elt F) f y = m.view.read (Elt F) g y) : ∀ i ∈ m.view.set, f i = g i := by
  intro i hi
  obtain ⟨y, -, rfl⟩ := Finset.mem_map.mp hi
  have := h y
  rw [View.read_apply, View.read_apply] at this
  exact (cast_inj _).mp this

variable (a5 : Memref sig .scVector .vmem S32768 .f32) (h5 : a5.IsWhole) (a6 : Memref sig .scVector .vmem S32768 .f32) (h6 : a6.IsWhole)
  (a7 : Memref sig .scVector .vmem S32x200 .i32) (h7 : a7.IsWhole) (a8 : Memref sig .scVector .vmem S32x200 .i32) (h8 : a8.IsWhole)
  (a9 : Memref sig .scVector .vmem S32x200 .f32) (h9 : a9.IsWhole) (a10 : Memref sig .scVector .vmem S32x200 .f32) (h10 : a10.IsWhole)
  (a11 a12 a13 a14 a15 a16 : DmaSems sig S_)

/-- A call's six scratch buffers on a tile, at some contents. -/
abbrev scrP (d : Dev nD) (c : Fin τ.nSC) (s : Fin τ.nSub) : sProp 𝕄 :=
  iprop((∃ f, a5.view.loc (V d c s) ↦{fullShare} f) ∗ (∃ f, a6.view.loc (V d c s) ↦{fullShare} f) ∗ (∃ f, a7.view.loc (V d c s) ↦{fullShare} f)
    ∗ (∃ f, a8.view.loc (V d c s) ↦{fullShare} f) ∗ (∃ f, a9.view.loc (V d c s) ↦{fullShare} f) ∗ (∃ f, a10.view.loc (V d c s) ↦{fullShare} f))

/-- Its six semaphores, at zero. -/
abbrev semP (d : Dev nD) (c : Fin τ.nSC) (s : Fin τ.nSub) : sProp 𝕄 :=
  iprop(semVal (V d c s, SemLoc.dma a11.sem) 0 ∗ semVal (V d c s, SemLoc.dma a12.sem) 0 ∗ semVal (V d c s, SemLoc.dma a13.sem) 0
    ∗ semVal (V d c s, SemLoc.dma a14.sem) 0 ∗ semVal (V d c s, SemLoc.dma a15.sem) 0 ∗ semVal (V d c s, SemLoc.dma a16.sem) 0)

/-- The task: from what the tile is given and its own buffers and semaphores, to what it gives back. -/
theorem tile_run (v : BitVec 32) (d : Dev nD) (c : Fin τ.nSC) (s : Fin τ.nSub) (O : CellTallies nD τ sig (HIx 2)) (W : Waits sig (HIx 2)) (hO : ∀ g, O g none = 0)
    (fsa : Buf (Elt F) (sa.view.loc (V d c s))) (fsb : Buf (Elt F) (sb.view.loc (V d c s)))
    (fia : Buf (Elt F) (ia.view.loc (V d c s))) (fib : Buf (Elt F) (ib.view.loc (V d c s)))
    (ga : Buf (Elt F) (oa.view.loc (V d c s))) (gb : Buf (Elt F) (ob.view.loc (V d c s)))
    (ha : ∀ y : S32x200.Idx, (ia.view.read (Elt F) fia y : BitVec 32).toNat < 1024)
    (hb : ∀ y : S32x200.Idx, (ib.view.read (Elt F) fib y : BitVec 32).toNat < 1024)
    (hga : ∀ y : S32x200.Idx, oa.view.read (Elt F) ga y = gatV (sa.view.read (Elt F) fsa) (ia.view.read (Elt F) fia) y)
    (hgb : ∀ y : S32x200.Idx, ob.view.read (Elt F) gb y = gatV (sb.view.read (Elt F) fsb) (ib.view.read (Elt F) fib) y)
    (RB RS : sProp 𝕄)
    (hB : (scopedBufs (V d c s) : sProp 𝕄) = iprop(scrP (F := F) a5 a6 a7 a8 a9 a10 d c s ∗ RB))
    (hS : (scopedSems0 (V d c s) : sProp 𝕄) = iprop(semP (F := F) a11 a12 a13 a14 a15 a16 d c s ∗ RS)) :
    (iprop(levAts (K (F := F)).L (K (F := F)).lev ∗ emp ∗ goP sa sb ia ib oa ob d c s fsa fsb fia fib
      ∗ scopedBufs (V d c s) ∗ scopedSems0 (V d c s) ∗ owes (V d c s) O W) : sProp 𝕄)
    ⊢ wp frame (wpE (defs₀ (F := F)) 𝒱₀ (V d c s) none) Set.univ
        (tileProg sa sb ia ib oa ob a5 h5 a6 h6 a7 h7 a8 h8 a9 h9 a10 h10 a11 a12 a13 a14 a15 a16 v)
        fun _ => (iprop(tdP sa sb ia ib oa ob d c s fsa fsb fia fib ga gb
          ∗ scopedBufs (V d c s) ∗ scopedSems0 (V d c s)
          ∗ ∃ W', ⌜∀ p ∈ W', p ∈ W ∨ p.2 = none⌝ ∗ owes (V d c s) O W') : sProp 𝕄) := by
  rw [hB, hS]
  unfold goP
  iintro ⟨#Hlv, -, ⟨Hsa, Hsb, Hia, Hib, ⟨%foa, Hoa⟩, ⟨%fob, Hob⟩⟩, ⟨⟨⟨%f5, H5⟩, ⟨%f6, H6⟩, ⟨%f7, H7⟩, ⟨%f8, H8⟩, ⟨%f9, H9⟩, ⟨%f10, H10⟩⟩, HRB⟩, ⟨⟨S1, S2, S3, S4, S5, S6⟩, HRS⟩, HO⟩
  ihave Hwp := (wp_tile sa sb ia ib oa ob a5 h5 a6 h6 a7 h7 a8 h8 a9 h9 a10 h10 a11 a12 a13 a14 a15 a16 v d c s O W hO fullShare fullShare
    fsa fsb fia fib foa fob f5 f6 f7 f8 f9 f10 ha hb) $$ [Hsa Hsb Hia Hib Hoa Hob H5 H6 H7 H8 H9 H10 S1 S2 S3 S4 S5 S6 HO]
  · isplitr; · iexact Hlv
    iframe
  iapply wp_wand $$ Hwp
  iintro %_ ⟨Hsa, Hsb, Hia, Hib, ⟨%g, %hg, Hoa⟩, ⟨%g', %hg', Hob⟩, H5, H6, H7, H8, H9, H10, S1, S2, S3, S4, S5, S6, HO⟩
  ihave Hoa := (Entails.of_eq (pointsTo_congr (read_congr_set oa g ga fun y => (hg y).trans (hga y).symm))) $$ Hoa
  ihave Hob := (Entails.of_eq (pointsTo_congr (read_congr_set ob g' gb fun y => (hg' y).trans (hgb y).symm))) $$ Hob
  unfold tdP scrP semP
  iframe

end

/-! ## The blocks -/

/-- The tile's coordinates in a call's grid. -/
def crd (c : Fin 2) (s : Fin 16) : grid1.Coords :=
  fun | 0 => c | 1 => s | ⟨_ + 2, h⟩ => absurd h (Nat.not_lt.2 (Nat.le_add_left _ _))

/-- The tile as a processor. -/
abbrev cV (c : Fin 2) : Fin τ.nSC := c.castLE hcore1
abbrev sV (s : Fin 16) : Fin τ.nSub := s.castLE hsub1

section
variable (c : Fin 2) (s : Fin 16) (h : Fin 2)

/-- The rows of half `h` of tile `(c, s)`, in the scores, the column numbers and the result of the first call; -/
abbrev sR1 : Rect S2097152 := Rect.unit (s := S2097152) (k1_off1 (crd c s) (BitVec.ofNat 32 (32 * h.val))) S32768.size (k1_off1_inb (crd c s) h)
abbrev iR1 : Rect S4096x200 := Rect.unit (s := S4096x200) (k1_off2 (crd c s) (BitVec.ofNat 32 (32 * h.val))) S32x200.size (k1_off2_inb (crd c s) h)
abbrev oR1 : Rect S2048x200 := Rect.unit (s := S2048x200) (k1_off29 (crd c s) (BitVec.ofNat 32 (32 * h.val))) S32x200.size (k1_off29_inb (crd c s) h)
/-- and of the second. -/
abbrev sR3 : Rect S2097152 := Rect.unit (s := S2097152) (k3_off1 (crd c s) (BitVec.ofNat 32 (32 * h.val))) S32768.size (k3_off1_inb (crd c s) h)
abbrev iR3 : Rect S4096x200 := Rect.unit (s := S4096x200) (k3_off2 (crd c s) (BitVec.ofNat 32 (32 * h.val))) S32x200.size (k3_off2_inb (crd c s) h)
abbrev oR3 : Rect S2048x200 := Rect.unit (s := S2048x200) (k3_off29 (crd c s) (BitVec.ofNat 32 (32 * h.val))) S32x200.size (k3_off29_inb (crd c s) h)

abbrev sB1 : Memref sig .scVector .hbm S32768 .f32 := (Memref.whole main_v7_scv).slice (sR1 c s h) (fun _ => rfl)
abbrev iB1 : Memref sig .scVector .hbm S32x200 .i32 := (Memref.whole main_v2_scv).slice (iR1 c s h) (fun _ => rfl)
abbrev oB1 : Memref sig .scVector .hbm S32x200 .f32 := (Memref.whole main_v8_scv).slice (oR1 c s h) (fun _ => rfl)
abbrev sB3 : Memref sig .scVector .hbm S32768 .f32 := (Memref.whole main_v9_scv).slice (sR3 c s h) (fun _ => rfl)
abbrev iB3 : Memref sig .scVector .hbm S32x200 .i32 := (Memref.whole main_v2_scv).slice (iR3 c s h) (fun _ => rfl)
abbrev oB3 : Memref sig .scVector .hbm S32x200 .f32 := (Memref.whole main_v10_scv).slice (oR3 c s h) (fun _ => rfl)

/-- The number of a tile's half among the 64 of a call. -/
abbrev num : ℕ := 4 * s.val + 2 * c.val + h.val

theorem mem_sR1 (i : S2097152.Idx) : i ∈ (sR1 c s h).set ↔ (i 0).val / 32768 = num c s h := by
  have e : k1_off1 (crd c s) (BitVec.ofNat 32 (32 * h.val)) 0 = 131072 * s.val + 65536 * c.val + 32768 * h.val := congrFun (k1_off1_eq (crd c s) h) 0
  rw [Rect.mem_set_unit]
  constructor
  · intro H; have := H 0; rw [e] at this; change _ ∧ _ < _ + 32768 at this; unfold num; omega
  · intro H a; obtain rfl : a = 0 := Subsingleton.elim _ _
    rw [e]; change _ ∧ _ < _ + 32768; unfold num at H; omega

theorem mem_sR3 (i : S2097152.Idx) : i ∈ (sR3 c s h).set ↔ (i 0).val / 32768 = num c s h := by
  have e : k3_off1 (crd c s) (BitVec.ofNat 32 (32 * h.val)) 0 = 131072 * s.val + 65536 * c.val + 32768 * h.val := congrFun (k3_off1_eq (crd c s) h) 0
  rw [Rect.mem_set_unit]
  constructor
  · intro H; have := H 0; rw [e] at this; change _ ∧ _ < _ + 32768 at this; unfold num; omega
  · intro H a; obtain rfl : a = 0 := Subsingleton.elim _ _
    rw [e]; change _ ∧ _ < _ + 32768; unfold num at H; omega

/-- Thirty-two whole rows of a two-dimensional array. -/
theorem mem_rows {R : ℕ} (off : Fin 2 → ℕ) (inb) (b : ℕ) (h0 : off 0 = 32 * b) (h1 : off 1 = 0) (i : Shape.Idx ⟨2, ![R, 200]⟩) :
    i ∈ (Rect.unit (s := ⟨2, ![R, 200]⟩) off S32x200.size inb).set ↔ (i 0).val / 32 = b := by
  rw [Rect.mem_set_unit]
  constructor
  · intro H; have := H 0; rw [h0] at this; change _ ∧ _ < _ + 32 at this; omega
  · intro H a
    match a with
    | 0 => rw [h0]; change _ ∧ _ < _ + 32; omega
    | 1 => rw [h1]; exact ⟨Nat.zero_le _, by have := (i 1).isLt; change _ < 0 + 200; change _ < 200 at this; omega⟩

theorem mem_iR1 (i : S4096x200.Idx) : i ∈ (iR1 c s h).set ↔ (i 0).val / 32 = num c s h :=
  mem_rows _ _ _ ((congrFun (k1_off2_eq (crd c s) h) 0).trans (by show 128 * s.val + 64 * c.val + 32 * h.val = _; unfold num; omega)) (congrFun (k1_off2_eq (crd c s) h) 1) i
theorem mem_oR1 (i : S2048x200.Idx) : i ∈ (oR1 c s h).set ↔ (i 0).val / 32 = num c s h :=
  mem_rows _ _ _ ((congrFun (k1_off29_eq (crd c s) h) 0).trans (by show 128 * s.val + 64 * c.val + 32 * h.val = _; unfold num; omega)) (congrFun (k1_off29_eq (crd c s) h) 1) i
theorem mem_iR3 (i : S4096x200.Idx) : i ∈ (iR3 c s h).set ↔ (i 0).val / 32 = 64 + num c s h :=
  mem_rows _ _ _ ((congrFun (k3_off2_eq (crd c s) h) 0).trans (by show 128 * s.val + 64 * c.val + 32 * h.val + 2048 = _; unfold num; omega)) (congrFun (k3_off2_eq (crd c s) h) 1) i
theorem mem_oR3 (i : S2048x200.Idx) : i ∈ (oR3 c s h).set ↔ (i 0).val / 32 = num c s h :=
  mem_rows _ _ _ ((congrFun (k3_off29_eq (crd c s) h) 0).trans (by show 128 * s.val + 64 * c.val + 32 * h.val = _; unfold num; omega)) (congrFun (k3_off29_eq (crd c s) h) 1) i

end

/-! ## What a call gathers -/

/-- Row `o + y 0`, column `y 1` of the column numbers. -/
def ixAt (o : ℕ) (y : S2048x200.Idx) : S4096x200.Idx :=
  fun | 0 => ⟨(o + (y 0).val) % 4096, Nat.mod_lt _ (by decide)⟩ | 1 => y 1 | ⟨_ + 2, h⟩ => absurd h (Nat.not_lt.2 (Nat.le_add_left _ _))

/-- Place `n` of the scores. -/
def atS (n : ℕ) : S2097152.Idx := fun a => ⟨n % S2097152.size a, Nat.mod_lt _ (by revert a; decide)⟩

/-- The result of a call on the rows from `o`: row `y 0`'s score in the column row `o + y 0` names at `y 1`. -/
def gatAll (o : ℕ) (s : S2097152.Idx → F .f32) (ix : S4096x200.Idx → BitVec 32) : S2048x200.Idx → F .f32 :=
  fun y => s (atS ((y 0).val * 1024 + (ix (ixAt o y)).toNat))

/-- A block's gather is the call's, read on the block. -/
theorem gat_block {sO : Fin 1 → ℕ} {iO oO : Fin 2 → ℕ} {hs hi ho} (o b : ℕ) (hso : sO = ![1024 * b]) (hio : iO = ![b + o, 0]) (hoo : oO = ![b, 0])
    (s : S2097152.Idx → F .f32) (ix : S4096x200.Idx → BitVec 32) (hix : ∀ y, (ix y).toNat < 1024) (y : S32x200.Idx) :
    gatAll o s ix ((Rect.unit (s := S2048x200) oO S32x200.size ho).emb y)
      = gatV (fun x => s ((Rect.unit (s := S2097152) sO S32768.size hs).emb x)) (fun x => ix ((Rect.unit (s := S4096x200) iO S32x200.size hi).emb x)) y := by
  subst hso hio hoo
  have hy : (y 0).val < 32 := (y 0).isLt
  have hb : b + 32 ≤ 2048 := ho 0
  have hbo : b + o + 32 ≤ 4096 := hi 0
  have e : ixAt o ((Rect.unit (s := S2048x200) ![b, 0] S32x200.size ho).emb y) = (Rect.unit (s := S4096x200) ![b + o, 0] S32x200.size hi).emb y := by
    funext a
    match a with
    | 0 =>
      apply Fin.ext
      show (o + (b + 1 * (y 0).val)) % 4096 = b + o + 1 * (y 0).val
      omega
    | 1 => exact Fin.ext rfl
  unfold gatAll gatV
  rw [e]
  refine congrArg s (funext fun a => Fin.ext ?_)
  obtain rfl : a = 0 := Subsingleton.elim _ _
  set w := ix ((Rect.unit (s := S4096x200) ![b + o, 0] S32x200.size hi).emb y) with hw
  have hw' : w.toNat < 1024 := hix _
  show ((b + 1 * (y 0).val) * 1024 + w.toNat) % 2097152 = 1024 * b + 1 * ((w + BitVec.ofNat 32 ((y 0).val * 1024)).toNat % 32768)
  have : (w + BitVec.ofNat 32 ((y 0).val * 1024)).toNat = w.toNat + (y 0).val * 1024 := by
    rw [BitVec.toNat_add, BitVec.toNat_ofNat]; omega
  rw [this]; omega

/-! ## What a tile owns -/

/-- The scratch buffers and the semaphores of the first call, -/
abbrev scrL1 : List (Ref sig .scVector) := [cc1_scratch0, cc1_scratch1, cc1_scratch2, cc1_scratch3, cc1_scratch4, cc1_scratch5]
abbrev semL1 : List (SemLoc sig) := [.dma cc1_scratch6.sem, .dma cc1_scratch7.sem, .dma cc1_scratch8.sem, .dma cc1_scratch9.sem, .dma cc1_scratch10.sem, .dma cc1_scratch11.sem]
/-- and of the second. -/
abbrev scrL3 : List (Ref sig .scVector) := [cc3_scratch0, cc3_scratch1, cc3_scratch2, cc3_scratch3, cc3_scratch4, cc3_scratch5]
abbrev semL3 : List (SemLoc sig) := [.dma cc3_scratch6.sem, .dma cc3_scratch7.sem, .dma cc3_scratch8.sem, .dma cc3_scratch9.sem, .dma cc3_scratch10.sem, .dma cc3_scratch11.sem]

section
variable (d : Dev nD) (c : Fin τ.nSC) (s : Fin τ.nSub)

theorem own_bufs (l : List (Ref sig .scVector)) (hl : l.Nodup) (hv : ∀ r ∈ l, ((Proc.scVector c s).devRef r : DevRef τ sig).owner = .proc (.scVector c s)) :
    ∃ R : sProp 𝕄, (scopedBufs (V d c s) : sProp 𝕄)
      = iprop(bigSepL (l.map (Proc.scVector c s).devRef) (fun b => iprop(∃ f : Buf (Elt F) ((d, b) : Loc nD τ sig), ((d, b) : Loc nD τ sig) ↦{fullShare} f)) ∗ R) := by
  rw [(K (F := F)).scopedBufs_V facts d c s, ownBufs_list (V d c s) (l.map (Proc.scVector c s).devRef) (hl.map (Proc.devRef_injective _))
    (fun b hb => by obtain ⟨r, hr, rfl⟩ := List.mem_map.mp hb; exact mem_ownRefs_of_owner (hv r hr))]
  exact ⟨_, rfl⟩

theorem own_sems (l : List (SemLoc sig)) (hl : l.Nodup) (hv : ∀ r ∈ l, r.isScoped .scVector = true) :
    ∃ R : sProp 𝕄, (scopedSems0 (V d c s) : sProp 𝕄) = iprop(bigSepL (l.map fun r => ((V d c s, r) : GSem nD τ sig)) (fun g => semVal g 0) ∗ R) := by
  rw [SparseCore.Cfg.scopedSems0_V (Val := Elt F) d c s, ownSems0_list (V d c s) (l.map fun r => ((V d c s, r) : GSem nD τ sig)) (hl.map fun a b e => (Prod.ext_iff.mp e).2)
    (fun g hg => by obtain ⟨r, hr, rfl⟩ := List.mem_map.mp hg; exact mem_ownCells.mpr ⟨rfl, hv r hr⟩)]
  exact ⟨_, rfl⟩

theorem own_bufs1 : ∃ R : sProp 𝕄, (scopedBufs (V d c s) : sProp 𝕄) = iprop(scrP (F := F) (Memref.whole cc1_scratch0) (Memref.whole cc1_scratch1)
    (Memref.whole cc1_scratch2) (Memref.whole cc1_scratch3) (Memref.whole cc1_scratch4) (Memref.whole cc1_scratch5) d c s ∗ R) :=
  own_bufs d c s scrL1 (by decide) (by intro r hr; simp only [List.mem_cons, List.not_mem_nil, or_false] at hr; rcases hr with rfl | rfl | rfl | rfl | rfl | rfl <;> rfl)
theorem own_bufs3 : ∃ R : sProp 𝕄, (scopedBufs (V d c s) : sProp 𝕄) = iprop(scrP (F := F) (Memref.whole cc3_scratch0) (Memref.whole cc3_scratch1)
    (Memref.whole cc3_scratch2) (Memref.whole cc3_scratch3) (Memref.whole cc3_scratch4) (Memref.whole cc3_scratch5) d c s ∗ R) :=
  own_bufs d c s scrL3 (by decide) (by intro r hr; simp only [List.mem_cons, List.not_mem_nil, or_false] at hr; rcases hr with rfl | rfl | rfl | rfl | rfl | rfl <;> rfl)
theorem own_sems1 : ∃ R : sProp 𝕄, (scopedSems0 (V d c s) : sProp 𝕄) = iprop(semP (F := F) cc1_scratch6 cc1_scratch7 cc1_scratch8 cc1_scratch9 cc1_scratch10 cc1_scratch11 d c s ∗ R) :=
  own_sems d c s semL1 (by decide) (by decide)
theorem own_sems3 : ∃ R : sProp 𝕄, (scopedSems0 (V d c s) : sProp 𝕄) = iprop(semP (F := F) cc3_scratch6 cc3_scratch7 cc3_scratch8 cc3_scratch9 cc3_scratch10 cc3_scratch11 d c s ∗ R) :=
  own_sems d c s semL3 (by decide) (by decide)

end

/-! ## The handshakes and the obligations -/

section
variable [FloatOps F]
variable (s7 s9 : Dev nD → S2097152.Idx → F .f32) (ix : Dev nD → S4096x200.Idx → BitVec 32)

abbrev go1 (d : Dev nD) (c : Fin 2) (s : Fin 16) : sProp 𝕄 :=
  goP (sB1 c s 0) (sB1 c s 1) (iB1 c s 0) (iB1 c s 1) (oB1 c s 0) (oB1 c s 1) d (cV c) (sV s) (s7 d) (s7 d) (ix d) (ix d)
abbrev td1 (d : Dev nD) (c : Fin 2) (s : Fin 16) : sProp 𝕄 :=
  tdP (sB1 c s 0) (sB1 c s 1) (iB1 c s 0) (iB1 c s 1) (oB1 c s 0) (oB1 c s 1) d (cV c) (sV s) (s7 d) (s7 d) (ix d) (ix d)
    (gatAll 0 (s7 d) (ix d)) (gatAll 0 (s7 d) (ix d))
abbrev go3 (d : Dev nD) (c : Fin 2) (s : Fin 16) : sProp 𝕄 :=
  goP (sB3 c s 0) (sB3 c s 1) (iB3 c s 0) (iB3 c s 1) (oB3 c s 0) (oB3 c s 1) d (cV c) (sV s) (s9 d) (s9 d) (ix d) (ix d)
abbrev td3 (d : Dev nD) (c : Fin 2) (s : Fin 16) : sProp 𝕄 :=
  tdP (sB3 c s 0) (sB3 c s 1) (iB3 c s 0) (iB3 c s 1) (oB3 c s 0) (oB3 c s 1) d (cV c) (sV s) (s9 d) (s9 d) (ix d) (ix d)
    (gatAll 2048 (s9 d) (ix d)) (gatAll 2048 (s9 d) (ix d))

/-- What the handshakes of the two calls carry: each tile its blocks, there and back. -/
def P : (K (F := F)).Pay (nD := nD) (Val := Elt F) (Name := ℕ) (U := UU) where
  st := fun q d c => match q with
    | 0 => bigSep Finset.univ fun i : Fin 16 => go1 s7 ix d c i
    | 1 => bigSep Finset.univ fun i : Fin 16 => go3 s9 ix d c i
  dn := fun q d c => match q with
    | 0 => bigSep Finset.univ fun i : Fin 16 => td1 s7 ix d c i
    | 1 => bigSep Finset.univ fun i : Fin 16 => td3 s9 ix d c i
  go := fun q d c i => match q with
    | 0 => go1 s7 ix d c i
    | 1 => go3 s9 ix d c i
  td := fun q d c i => match q with
    | 0 => td1 s7 ix d c i
    | 1 => td3 s9 ix d c i
  x := fun _ _ => iprop(emp)

instance P_storable : (P s7 s9 ix).IsStorable where
  st q d c := match q with
    | 0 => (inferInstance : BI.Storable (upEmb : UEmb _ 𝕄) (bigSep Finset.univ fun i : Fin 16 => go1 s7 ix d c i))
    | 1 => (inferInstance : BI.Storable (upEmb : UEmb _ 𝕄) (bigSep Finset.univ fun i : Fin 16 => go3 s9 ix d c i))
  dn q d c := match q with
    | 0 => (inferInstance : BI.Storable (upEmb : UEmb _ 𝕄) (bigSep Finset.univ fun i : Fin 16 => td1 s7 ix d c i))
    | 1 => (inferInstance : BI.Storable (upEmb : UEmb _ 𝕄) (bigSep Finset.univ fun i : Fin 16 => td3 s9 ix d c i))
  go q d c i := match q with
    | 0 => (inferInstance : BI.Storable (upEmb : UEmb _ 𝕄) (go1 s7 ix d c i))
    | 1 => (inferInstance : BI.Storable (upEmb : UEmb _ 𝕄) (go3 s9 ix d c i))
  td q d c i := match q with
    | 0 => (inferInstance : BI.Storable (upEmb : UEmb _ 𝕄) (td1 s7 ix d c i))
    | 1 => (inferInstance : BI.Storable (upEmb : UEmb _ 𝕄) (td3 s9 ix d c i))

theorem vecSplit (q : Fin 2) : (K (F := F)).VecSplit' (P s7 s9 ix) q := by
  intro d c
  match q with
  | 0 =>
    show (bigSep Finset.univ fun i : Fin 16 => go1 s7 ix d c i) ⊢ |={Set.univ}=> iprop((bigSep Finset.univ fun i : Fin 16 => go1 s7 ix d c i)
      ∗ ((bigSep Finset.univ fun i : Fin 16 => td1 s7 ix d c i) -∗ bigSep Finset.univ fun i : Fin 16 => td1 s7 ix d c i))
    iintro H
    imodintro
    isplitl [H]; · iexact H
    iintro H; iexact H
  | 1 =>
    show (bigSep Finset.univ fun i : Fin 16 => go3 s9 ix d c i) ⊢ |={Set.univ}=> iprop((bigSep Finset.univ fun i : Fin 16 => go3 s9 ix d c i)
      ∗ ((bigSep Finset.univ fun i : Fin 16 => td3 s9 ix d c i) -∗ bigSep Finset.univ fun i : Fin 16 => td3 s9 ix d c i))
    iintro H
    imodintro
    isplitl [H]; · iexact H
    iintro H; iexact H

theorem defs₀_call1 (c : Fin τ.nSC) (s : Fin τ.nSub) :
    defs₀ (F := F) (.scVector c s) 1 ()
      = SparseCore.onTile hcore1 hsub1 (fun c s => cc1__sc_gather_body (F := F) (crd c s)
          (Memref.whole main_v7_scv) (Memref.isWhole_whole _) (Memref.whole main_v2_scv) (Memref.isWhole_whole _) (Memref.whole main_v8_scv) (Memref.isWhole_whole _)
          (Memref.whole cc1_scratch0) (Memref.isWhole_whole _) (Memref.whole cc1_scratch1) (Memref.isWhole_whole _) (Memref.whole cc1_scratch2) (Memref.isWhole_whole _)
          (Memref.whole cc1_scratch3) (Memref.isWhole_whole _) (Memref.whole cc1_scratch4) (Memref.isWhole_whole _) (Memref.whole cc1_scratch5) (Memref.isWhole_whole _)
          cc1_scratch6 cc1_scratch7 cc1_scratch8 cc1_scratch9 cc1_scratch10 cc1_scratch11) ⟨⟩ c s := rfl

theorem defs₀_call3 (c : Fin τ.nSC) (s : Fin τ.nSub) :
    defs₀ (F := F) (.scVector c s) 3 ()
      = SparseCore.onTile hcore3 hsub3 (fun c s => cc3__sc_gather_body (F := F) (crd c s)
          (Memref.whole main_v9_scv) (Memref.isWhole_whole _) (Memref.whole main_v2_scv) (Memref.isWhole_whole _) (Memref.whole main_v10_scv) (Memref.isWhole_whole _)
          (Memref.whole cc3_scratch0) (Memref.isWhole_whole _) (Memref.whole cc3_scratch1) (Memref.isWhole_whole _) (Memref.whole cc3_scratch2) (Memref.isWhole_whole _)
          (Memref.whole cc3_scratch3) (Memref.isWhole_whole _) (Memref.whole cc3_scratch4) (Memref.isWhole_whole _) (Memref.whole cc3_scratch5) (Memref.isWhole_whole _)
          cc3_scratch6 cc3_scratch7 cc3_scratch8 cc3_scratch9 cc3_scratch10 cc3_scratch11) ⟨⟩ c s := rfl

/-- What the task's end allows its waits to be. -/
theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (hix : ∀ d y, (ix d y).toNat < 1024)

set_option maxRecDepth 16384 in
include hix in
theorem tileObl1 : (K (F := F)).TileObl (D (F := F)) 𝒱 (P s7 s9 ix) v₀ 0 := by
  intro d c i O W hO _ _
  simp only [show (P s7 s9 ix).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_call1]; simp only [SparseCore.onTile, hci, and_self, ↓reduceDIte]
  rw [body1_eq]
  have e (h : Fin 2) : 131072 * (crd c i 1).val + 65536 * (crd c i 0).val + 32768 * h.val
      = 1024 * (128 * (crd c i 1).val + 64 * (crd c i 0).val + 32 * h.val) := by omega
  obtain ⟨RB, hB⟩ := own_bufs1 (F := F) d (cV c) (sV i)
  obtain ⟨RS, hS⟩ := own_sems1 (F := F) d (cV c) (sV i)
  exact (tile_run (sB1 c i 0) (sB1 c i 1) (iB1 c i 0) (iB1 c i 1) (oB1 c i 0) (oB1 c i 1) _ _ _ _ _ _ _ _ _ _ _ _ _ _ _ _ _ _ _ d (cV c) (sV i) O W hO
    (s7 d) (s7 d) (ix d) (ix d) (gatAll 0 (s7 d) (ix d)) (gatAll 0 (s7 d) (ix d))
    (fun y => hix d _) (fun y => hix d _)
    (fun y => gat_block 0 _ ((k1_off1_eq (crd c i) 0).trans (congrArg (fun n => ![n]) (e 0))) ((k1_off2_eq (crd c i) 0).trans rfl) (k1_off29_eq (crd c i) 0) (s7 d) (ix d) (hix d) y)
    (fun y => gat_block 0 _ ((k1_off1_eq (crd c i) 1).trans (congrArg (fun n => ![n]) (e 1))) ((k1_off2_eq (crd c i) 1).trans rfl) (k1_off29_eq (crd c i) 1) (s7 d) (ix d) (hix d) y)
    RB RS hB hS).trans (wp_mono frame _ _ fun _ => obl_post)

set_option maxRecDepth 16384 in
include hix in
theorem tileObl3 : (K (F := F)).TileObl (D (F := F)) 𝒱 (P s7 s9 ix) v₀ 1 := by
  intro d c i O W hO _ _
  simp only [show (P s7 s9 ix).ox = fun _ _ => 0 from rfl, add_zero]
  have hci : ((K (F := F)).core 1 c).val < grid3.bound 0 ∧ ((K (F := F)).sub 1 i).val < grid3.bound 1 := ⟨c.isLt, i.isLt⟩
  change _ ⊢ wp _ _ _ (Pipeline.liftProg (defs₀ (F := F) (.scVector ((K (F := F)).core 1 c) ((K (F := F)).sub 1 i)) 3 ())) _
  refine BI.Entails.trans ?_ (Pipeline.wp_liftProg (D (F := F)) (Pipeline.defs_kernel pcfgs defs₀) 𝒱₀ _ Set.univ none _ _)
  rw [defs₀_call3]; simp only [SparseCore.onTile, hci, and_self, ↓reduceDIte]
  rw [body3_eq]
  have e (h : Fin 2) : 131072 * (crd c i 1).val + 65536 * (crd c i 0).val + 32768 * h.val
      = 1024 * (128 * (crd c i 1).val + 64 * (crd c i 0).val + 32 * h.val) := by omega
  obtain ⟨RB, hB⟩ := own_bufs3 (F := F) d (cV c) (sV i)
  obtain ⟨RS, hS⟩ := own_sems3 (F := F) d (cV c) (sV i)
  exact (tile_run (sB3 c i 0) (sB3 c i 1) (iB3 c i 0) (iB3 c i 1) (oB3 c i 0) (oB3 c i 1) _ _ _ _ _ _ _ _ _ _ _ _ _ _ _ _ _ _ _ d (cV c) (sV i) O W hO
    (s9 d) (s9 d) (ix d) (ix d) (gatAll 2048 (s9 d) (ix d)) (gatAll 2048 (s9 d) (ix d))
    (fun y => hix d _) (fun y => hix d _)
    (fun y => gat_block 2048 _ ((k3_off1_eq (crd c i) 0).trans (congrArg (fun n => ![n]) (e 0))) ((k3_off2_eq (crd c i) 0).trans rfl) (k3_off29_eq (crd c i) 0) (s9 d) (ix d) (hix d) y)
    (fun y => gat_block 2048 _ ((k3_off1_eq (crd c i) 1).trans (congrArg (fun n => ![n]) (e 1))) ((k3_off2_eq (crd c i) 1).trans rfl) (k3_off29_eq (crd c i) 1) (s9 d) (ix d) (hix d) y)
    RB RS hB hS).trans (wp_mono frame _ _ fun _ => obl_post)

end

end Cert.Proof.Tail
-- ==== Proof.Blocks.lean ====
/-
  A whole array and the tiles' blocks of it. Each tile has two blocks; together the tiles' blocks are 64 in a row, so an
  array split into blocks of one size is the tiles' blocks of it, and of the column numbers the blocks are one half.
-/
module

public import proofs.«01_k».proof.Proof.Obl

@[expose] public section

noncomputable section

namespace Cert.Proof.Tail

open Cert.KernelIdeal Cert.KernelIdeal.Gen

open Idealize.ShloMosaic
open Idealize.ShloMosaic.SparseCore (S V T)
open Idealize.ShloMosaic.SparseCore.Cfg (HIx Pay ownCells ownRefs ownSems0 ownBufs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 2) (Elt F) ℕ UU ℕ

/-- Elements sorted by a block number `key`: those of blocks `o … o + 63` are the tiles' two blocks each. -/
theorem pts_blocks {ℓ : Loc nD τ sig} (B : Fin 2 → Fin 16 → Fin 2 → Finset (Idx ℓ)) (key : Idx ℓ → ℕ) (o : ℕ)
    (hB : ∀ c s h i, i ∈ B c s h ↔ key i = o + num c s h) (U : Finset (Idx ℓ)) (hU : ∀ i, i ∈ U ↔ o ≤ key i ∧ key i < o + 64)
    (f : Buf (Elt F) ℓ) :
    (ℓ ↦[U]{fullShare} f : sProp 𝕄)
      = bigSep Finset.univ fun c : Fin 2 => bigSep Finset.univ fun s : Fin 16 =>
          iprop((ℓ ↦[B c s 0]{fullShare} f) ∗ ℓ ↦[B c s 1]{fullShare} f) := by
  classical
  have hU' : U = (Finset.univ : Finset (Fin 2 × Fin 16 × Fin 2)).biUnion fun t => B t.1 t.2.1 t.2.2 := by
    ext i
    simp only [Finset.mem_biUnion, Finset.mem_univ, _root_.true_and, hU, hB]
    constructor
    · rintro ⟨h1, h2⟩
      refine ⟨(⟨(key i - o) / 2 % 2, by omega⟩, ⟨(key i - o) / 4, by omega⟩, ⟨(key i - o) % 2, by omega⟩), ?_⟩
      show key i = o + (4 * ((key i - o) / 4) + 2 * ((key i - o) / 2 % 2) + (key i - o) % 2)
      omega
    · rintro ⟨⟨c, s, h⟩, e⟩
      have := c.isLt; have := s.isLt; have := h.isLt
      have e' : key i = o + (4 * s.val + 2 * c.val + h.val) := e
      omega
  rw [hU', pointsTo_biUnion]
  · rw [bigSep_univ_prod]
    refine bigSep_congr fun c _ => ?_
    rw [bigSep_univ_prod]
    refine bigSep_congr fun s _ => ?_
    rw [BI.bigSep_fin_two]; rfl
  · rintro ⟨c, s, h⟩ - ⟨c', s', h'⟩ - hne
    rw [Finset.disjoint_left]
    intro i hi hi'
    rw [hB] at hi hi'
    apply hne
    have e : 4 * s.val + 2 * c.val + h.val = 4 * s'.val + 2 * c'.val + h'.val := Nat.add_left_cancel (hi.symm.trans hi')
    have := c.isLt; have := c'.isLt; have := h.isLt; have := h'.isLt
    refine Prod.ext (Fin.ext ?_) (Prod.ext (Fin.ext ?_) (Fin.ext ?_)) <;> (dsimp only; omega)

section
variable [FloatOps F]
variable (s7 s9 : Dev nD → S2097152.Idx → F .f32) (ix : Dev nD → S4096x200.Idx → BitVec 32)

/-- The rows of the column numbers whose block is `o … o + 63`. -/
def rowsFrom (o : ℕ) : Finset S4096x200.Idx := Finset.univ.filter fun i => o ≤ (i 0).val / 32 ∧ (i 0).val / 32 < o + 64

abbrev L7 (d : Dev nD) : Loc nD τ sig := (SparseCore.T d).loc main_v7
abbrev L2 (d : Dev nD) : Loc nD τ sig := (SparseCore.T d).loc main_v2
abbrev L8 (d : Dev nD) : Loc nD τ sig := (SparseCore.T d).loc main_v8
abbrev L9 (d : Dev nD) : Loc nD τ sig := (SparseCore.T d).loc main_v9
abbrev L10 (d : Dev nD) : Loc nD τ sig := (SparseCore.T d).loc main_v10

variable (d : Dev nD)

omit [FloatOps F] in
theorem blocks7 (f : Buf (Elt F) (L7 d)) : (L7 d ↦{fullShare} f : sProp 𝕄)
    = bigSep Finset.univ fun c : Fin 2 => bigSep Finset.univ fun s : Fin 16 =>
        iprop(((sB1 c s 0).view.loc (V d (cV c) (sV s)) ↦[(sB1 c s 0).view.set]{fullShare} f)
          ∗ (sB1 c s 1).view.loc (V d (cV c) (sV s)) ↦[(sB1 c s 1).view.set]{fullShare} f) :=
  pts_blocks (ℓ := L7 d) (fun c s h => (sB1 c s h).view.set) (fun i : S2097152.Idx => (i 0).val / 32768) 0
    (fun c s h i => by
      rw [show (sB1 c s h).view.set = (sR1 c s h).set from View.set_slice_whole _ _, Nat.zero_add]; exact mem_sR1 c s h i)
    Finset.univ (fun i => iff_of_true (Finset.mem_univ _) ⟨Nat.zero_le _, by
      have : ((i : S2097152.Idx) 0).val < 2097152 := ((i : S2097152.Idx) 0).isLt
      show ((i : S2097152.Idx) 0).val / 32768 < 0 + 64
      omega⟩) f

omit [FloatOps F] in
theorem blocks9 (f : Buf (Elt F) (L9 d)) : (L9 d ↦{fullShare} f : sProp 𝕄)
    = bigSep Finset.univ fun c : Fin 2 => bigSep Finset.univ fun s : Fin 16 =>
        iprop(((sB3 c s 0).view.loc (V d (cV c) (sV s)) ↦[(sB3 c s 0).view.set]{fullShare} f)
          ∗ (sB3 c s 1).view.loc (V d (cV c) (sV s)) ↦[(sB3 c s 1).view.set]{fullShare} f) :=
  pts_blocks (ℓ := L9 d) (fun c s h => (sB3 c s h).view.set) (fun i : S2097152.Idx => (i 0).val / 32768) 0
    (fun c s h i => by
      rw [show (sB3 c s h).view.set = (sR3 c s h).set from View.set_slice_whole _ _, Nat.zero_add]; exact mem_sR3 c s h i)
    Finset.univ (fun i => iff_of_true (Finset.mem_univ _) ⟨Nat.zero_le _, by
      have : ((i : S2097152.Idx) 0).val < 2097152 := ((i : S2097152.Idx) 0).isLt
      show ((i : S2097152.Idx) 0).val / 32768 < 0 + 64
      omega⟩) f

omit [FloatOps F] in
theorem blocks8 (f : Buf (Elt F) (L8 d)) : (L8 d ↦{fullShare} f : sProp 𝕄)
    = bigSep Finset.univ fun c : Fin 2 => bigSep Finset.univ fun s : Fin 16 =>
        iprop(((oB1 c s 0).view.loc (V d (cV c) (sV s)) ↦[(oB1 c s 0).view.set]{fullShare} f)
          ∗ (oB1 c s 1).view.loc (V d (cV c) (sV s)) ↦[(oB1 c s 1).view.set]{fullShare} f) :=
  pts_blocks (ℓ := L8 d) (fun c s h => (oB1 c s h).view.set) (fun i : S2048x200.Idx => (i 0).val / 32) 0
    (fun c s h i => by
      rw [show (oB1 c s h).view.set = (oR1 c s h).set from View.set_slice_whole _ _, Nat.zero_add]; exact mem_oR1 c s h i)
    Finset.univ (fun i => iff_of_true (Finset.mem_univ _) ⟨Nat.zero_le _, by
      have : ((i : S2048x200.Idx) 0).val < 2048 := ((i : S2048x200.Idx) 0).isLt
      show ((i : S2048x200.Idx) 0).val / 32 < 0 + 64
      omega⟩) f

omit [FloatOps F] in
theorem blocks10 (f : Buf (Elt F) (L10 d)) : (L10 d ↦{fullShare} f : sProp 𝕄)
    = bigSep Finset.univ fun c : Fin 2 => bigSep Finset.univ fun s : Fin 16 =>
        iprop(((oB3 c s 0).view.loc (V d (cV c) (sV s)) ↦[(oB3 c s 0).view.set]{fullShare} f)
          ∗ (oB3 c s 1).view.loc (V d (cV c) (sV s)) ↦[(oB3 c s 1).view.set]{fullShare} f) :=
  pts_blocks (ℓ := L10 d) (fun c s h => (oB3 c s h).view.set) (fun i : S2048x200.Idx => (i 0).val / 32) 0
    (fun c s h i => by
      rw [show (oB3 c s h).view.set = (oR3 c s h).set from View.set_slice_whole _ _, Nat.zero_add]; exact mem_oR3 c s h i)
    Finset.univ (fun i => iff_of_true (Finset.mem_univ _) ⟨Nat.zero_le _, by
      have : ((i : S2048x200.Idx) 0).val < 2048 := ((i : S2048x200.Idx) 0).isLt
      show ((i : S2048x200.Idx) 0).val / 32 < 0 + 64
      omega⟩) f

omit [FloatOps F] in
theorem blocks2a (f : Buf (Elt F) (L2 d)) : (L2 d ↦[rowsFrom 0]{fullShare} f : sProp 𝕄)
    = bigSep Finset.univ fun c : Fin 2 => bigSep Finset.univ fun s : Fin 16 =>
        iprop(((iB1 c s 0).view.loc (V d (cV c) (sV s)) ↦[(iB1 c s 0).view.set]{fullShare} f)
          ∗ (iB1 c s 1).view.loc (V d (cV c) (sV s)) ↦[(iB1 c s 1).view.set]{fullShare} f) :=
  pts_blocks (ℓ := L2 d) (fun c s h => (iB1 c s h).view.set) (fun i : S4096x200.Idx => (i 0).val / 32) 0
    (fun c s h i => by
      rw [show (iB1 c s h).view.set = (iR1 c s h).set from View.set_slice_whole _ _, Nat.zero_add]; exact mem_iR1 c s h i)
    (rowsFrom 0) (fun i => (Finset.mem_filter (a := (i : S4096x200.Idx))).trans (and_iff_right (Finset.mem_univ _))) f

omit [FloatOps F] in
theorem blocks2b (f : Buf (Elt F) (L2 d)) : (L2 d ↦[rowsFrom 64]{fullShare} f : sProp 𝕄)
    = bigSep Finset.univ fun c : Fin 2 => bigSep Finset.univ fun s : Fin 16 =>
        iprop(((iB3 c s 0).view.loc (V d (cV c) (sV s)) ↦[(iB3 c s 0).view.set]{fullShare} f)
          ∗ (iB3 c s 1).view.loc (V d (cV c) (sV s)) ↦[(iB3 c s 1).view.set]{fullShare} f) :=
  pts_blocks (ℓ := L2 d) (fun c s h => (iB3 c s h).view.set) (fun i : S4096x200.Idx => (i 0).val / 32) 64
    (fun c s h i => by
      rw [show (iB3 c s h).view.set = (iR3 c s h).set from View.set_slice_whole _ _]; exact mem_iR3 c s h i)
    (rowsFrom 64) (fun i => (Finset.mem_filter (a := (i : S4096x200.Idx))).trans (and_iff_right (Finset.mem_univ _))) f

/-- A call's handshake carries, over the two cores, three arrays' blocks; regrouped, three arrays. -/
theorem regroup (A B C : Fin 2 → Fin 16 → sProp 𝕄) :
    iprop((bigSep Finset.univ fun c : Fin 2 => bigSep Finset.univ fun s : Fin 16 => A c s)
      ∗ (bigSep Finset.univ fun c : Fin 2 => bigSep Finset.univ fun s : Fin 16 => B c s)
      ∗ (bigSep Finset.univ fun c : Fin 2 => bigSep Finset.univ fun s : Fin 16 => C c s))
      = bigSep Finset.univ fun c : Fin 2 => bigSep Finset.univ fun s : Fin 16 => iprop(A c s ∗ B c s ∗ C c s) := by
  simp only [bigSep_sep']

/-- Before the first call: scores, the first half of the column numbers, and the result at any contents. -/
theorem take1 (f8 : Buf (Elt F) (L8 d)) :
    (iprop((L7 d ↦{fullShare} (s7 d : Buf (Elt F) (L7 d))) ∗ (L2 d ↦[rowsFrom 0]{fullShare} (ix d : Buf (Elt F) (L2 d))) ∗ (L8 d ↦{fullShare} f8)) : sProp 𝕄)
      ⊢ bigSep Finset.univ fun c : Fin ((K (F := F)).nCore 0) => (P s7 s9 ix).st 0 d c := by
  rw [blocks7, blocks2a, blocks8, regroup]
  refine BI.bigSep_mono fun c _ => BI.bigSep_mono fun s _ => ?_
  show _ ⊢ go1 s7 ix d c s
  unfold go1 goP
  iintro ⟨⟨Ha, Hb⟩, ⟨Hc, Hd⟩, He, Hf⟩
  isplitl [Ha]; · iexact Ha
  isplitl [Hb]; · iexact Hb
  isplitl [Hc]; · iexact Hc
  isplitl [Hd]; · iexact Hd
  isplitl [He]; · iexists f8; iexact He
  iexists f8; iexact Hf

/-- After it: the result gathered. -/
theorem give1 :
    (bigSep Finset.univ fun c : Fin ((K (F := F)).nCore 0) => (P s7 s9 ix).dn 0 d c)
      ⊢ (iprop((L7 d ↦{fullShare} (s7 d : Buf (Elt F) (L7 d))) ∗ (L2 d ↦[rowsFrom 0]{fullShare} (ix d : Buf (Elt F) (L2 d)))
          ∗ (L8 d ↦{fullShare} (gatAll 0 (s7 d) (ix d) : Buf (Elt F) (L8 d)))) : sProp 𝕄) := by
  rw [blocks7, blocks2a, blocks8, regroup]
  show (bigSep Finset.univ fun c : Fin 2 => bigSep Finset.univ fun s : Fin 16 => td1 s7 ix d c s) ⊢ _
  refine BI.bigSep_mono fun c _ => BI.bigSep_mono fun s _ => ?_
  show (td1 s7 ix d c s : sProp 𝕄) ⊢ _
  unfold td1 tdP
  iintro ⟨Ha, Hb, Hc, Hd, He, Hf⟩
  isplitl [Ha Hb]; · isplitl [Ha] <;> iassumption
  isplitl [Hc Hd]; · isplitl [Hc] <;> iassumption
  isplitl [He] <;> iassumption

/-- Before the second call: the other scores, the second half of the column numbers, and the result at any contents. -/
theorem take3 (f10 : Buf (Elt F) (L10 d)) :
    (iprop((L9 d ↦{fullShare} (s9 d : Buf (Elt F) (L9 d))) ∗ (L2 d ↦[rowsFrom 64]{fullShare} (ix d : Buf (Elt F) (L2 d))) ∗ (L10 d ↦{fullShare} f10)) : sProp 𝕄)
      ⊢ bigSep Finset.univ fun c : Fin ((K (F := F)).nCore 1) => (P s7 s9 ix).st 1 d c := by
  rw [blocks9, blocks2b, blocks10, regroup]
  refine BI.bigSep_mono fun c _ => BI.bigSep_mono fun s _ => ?_
  show _ ⊢ go3 s9 ix d c s
  unfold go3 goP
  iintro ⟨⟨Ha, Hb⟩, ⟨Hc, Hd⟩, He, Hf⟩
  isplitl [Ha]; · iexact Ha
  isplitl [Hb]; · iexact Hb
  isplitl [Hc]; · iexact Hc
  isplitl [Hd]; · iexact Hd
  isplitl [He]; · iexists f10; iexact He
  iexists f10; iexact Hf

/-- After it: the result gathered. -/
theorem give3 :
    (bigSep Finset.univ fun c : Fin ((K (F := F)).nCore 1) => (P s7 s9 ix).dn 1 d c)
      ⊢ (iprop((L9 d ↦{fullShare} (s9 d : Buf (Elt F) (L9 d))) ∗ (L2 d ↦[rowsFrom 64]{fullShare} (ix d : Buf (Elt F) (L2 d)))
          ∗ (L10 d ↦{fullShare} (gatAll 2048 (s9 d) (ix d) : Buf (Elt F) (L10 d)))) : sProp 𝕄) := by
  rw [blocks9, blocks2b, blocks10, regroup]
  show (bigSep Finset.univ fun c : Fin 2 => bigSep Finset.univ fun s : Fin 16 => td3 s9 ix d c s) ⊢ _
  refine BI.bigSep_mono fun c _ => BI.bigSep_mono fun s _ => ?_
  show (td3 s9 ix d c s : sProp 𝕄) ⊢ _
  unfold td3 tdP
  iintro ⟨Ha, Hb, Hc, Hd, He, Hf⟩
  isplitl [Ha Hb]; · isplitl [Ha] <;> iassumption
  isplitl [Hc Hd]; · isplitl [Hc] <;> iassumption
  isplitl [He] <;> iassumption

end
end Cert.Proof.Tail
end
-- ==== Proof.Main.lean ====
/-
  The program on the TensorCore: the host's reshapes, the four windowed calls and the two SparseCore calls in order, each
  taking the unscoped arrays from one valuation to the next. The last valuation is what the program leaves.
-/
module

public import proofs.«01_k».proof.Proof.Tc
public import proofs.«01_k».proof.Proof.Blocks
public import Idealize.ShloMosaic.Lib.Pipeline.Sound

@[expose] public section

noncomputable section

namespace Cert.Proof.Tail

open Cert.KernelIdeal Cert.KernelIdeal.Gen

open Idealize.ShloMosaic
open Idealize.ShloMosaic.SparseCore (S V T)
open Idealize.ShloMosaic.SparseCore.Cfg (HIx Pay ownCells ownRefs ownSems0 ownBufs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Rounds

variable {F : FTy → Type} [FloatOps F]

local notation "𝕄" => MT nD τ sig (HIx 2) (Elt F) ℕ UU ℕ

/-! ## The valuations -/

abbrev op0 : HloOp τ sig (Elt F) := StableHlo.reshape main_arg0 main_v0 (rfl : (.i32 : EltTy) = .i32) shapeCasts_S4096_S4096x1
abbrev op1 : HloOp τ sig (Elt F) := StableHlo.unary main_arg2 main_v1 ((extractStridedSlice S4096x200x1 ![0, 0, 0] · slices_S4096x200x2_S4096x200x1_0_0_0) : (⟨S4096x200x2, .i32⟩ : BufTy).Contents (Elt F) → (⟨S4096x200x1, .i32⟩ : BufTy).Contents (Elt F))
abbrev op2 : HloOp τ sig (Elt F) := StableHlo.reshape main_v1 main_v2 (rfl : (.i32 : EltTy) = .i32) shapeCasts_S4096x200x1_S4096x200
abbrev op3 : HloOp τ sig (Elt F) := StableHlo.reshape main_arg6 main_v3 (rfl : (.f32 : EltTy) = .f32) shapeCasts_S512_S1x512
abbrev op4 : HloOp τ sig (Elt F) := StableHlo.reshape main_arg7 main_v4 (rfl : (.f32 : EltTy) = .f32) shapeCasts_S512_S1x512
abbrev op5 : HloOp τ sig (Elt F) := StableHlo.reshape main_arg9 main_v5 (rfl : (.f32 : EltTy) = .f32) shapeCasts_S256_S1x256
abbrev op6 : HloOp τ sig (Elt F) := StableHlo.reshape main_arg11 main_v6 (rfl : (.f32 : EltTy) = .f32) shapeCasts_S128_S1x128
abbrev opCat : HloOp τ sig (Elt F) := StableHlo.binary main_v11 main_v12 main_v13 ((fun a b => concatenate S4096x200 0 [⟨S2048x200, a⟩, ⟨S2048x200, b⟩] concatenates_S2048x200_S2048x200_S4096x200_d0) : (⟨S2048x200, .f32⟩ : BufTy).Contents (Elt F) → (⟨S2048x200, .f32⟩ : BufTy).Contents (Elt F) → (⟨S4096x200, .f32⟩ : BufTy).Contents (Elt F))

abbrev dr (b : Ref sig .tc) : DevRef τ sig := Proc.devRef .tc b

section Vals
variable (m : (ℓ : Loc nD τ sig) → Buf (Elt F) ℓ)

/-- The launch contents; -/
def V0 (d : Dev nD) : Valuation τ sig (Elt F) := fun b => m (d, b)
/-- after the reshapes; -/
def VA (d : Dev nD) : Valuation τ sig (Elt F) :=
  (op6 (F := F)).result ((op5 (F := F)).result ((op4 (F := F)).result ((op3 (F := F)).result ((op2 (F := F)).result ((op1 (F := F)).result ((op0 (F := F)).result (V0 m d)))))))
/-- after the first scores; -/
def VB : Dev nD → Valuation τ sig (Elt F) := afterT (VA m) 0 0
def ixm (d : Dev nD) : S4096x200.Idx → BitVec 32 := VB m d (dr main_v2)
def s7m (d : Dev nD) : S2097152.Idx → F .f32 := VB m d (dr main_v7)
/-- after the first gather; -/
def VC (d : Dev nD) : Valuation τ sig (Elt F) := Function.update (VB m d) (dr main_v8) (gatAll 0 (s7m m d) (ixm m d) : S2048x200.Idx → F .f32)
/-- after the second scores; -/
def VD : Dev nD → Valuation τ sig (Elt F) := afterT (VC m) 1 1
def s9m (d : Dev nD) : S2097152.Idx → F .f32 := VD m d (dr main_v9)
/-- after the second gather; -/
def VE (d : Dev nD) : Valuation τ sig (Elt F) := Function.update (VD m d) (dr main_v10) (gatAll 2048 (s9m m d) (ixm m d) : S2048x200.Idx → F .f32)
/-- after each half normalised; -/
def VF : Dev nD → Valuation τ sig (Elt F) := afterT (VE m) 2 2
def VG : Dev nD → Valuation τ sig (Elt F) := afterT (VF m) 2 3
/-- and after the two halves are joined. -/
def VH (d : Dev nD) : Valuation τ sig (Elt F) := (opCat (F := F)).result (VG m d)

theorem VD_ix (d : Dev nD) : VD m d (dr main_v2) = ixm m d := by
  unfold VD afterT
  rw [Pipeline.afterRegion_of_not_arr _ _ (b := main_v2) (fun w => (show ∀ w : Fin cfg2.W, main_v2 ≠ Pipeline.arrRef cfg2.spec w by decide) w)]
  exact Function.update_of_ne (show dr main_v2 ≠ dr main_v8 by decide) _ _

abbrev Pm := P (F := F) (s7m m) (s9m m) (ixm m)

/-! ## The steps -/

section Steps
variable (d : Dev nD) (κ : GSem nD τ sig → ℕ)

theorem tcSt_open (n : ℕ) :
    ((K (F := F)).tcSt EH d n : sProp 𝕄) ⊢ iprop(owesT (F := F) n d ∗ (owesT (F := F) n d -∗ (K (F := F)).tcSt EH d n)) := by
  unfold SparseCore.Cfg.tcSt
  iintro ⟨HO, Hr⟩
  isplitl [HO]; · iexact HO
  iintro HO
  isplitl [HO]; · iexact HO
  iexact Hr

theorem hlo_step (op : HloOp τ sig (Elt F)) (hop : op.bufs ⊆ StableHlo.tcRefs τ sig) (hf : op.fresh = ∅) (W : Valuation τ sig (Elt F)) (Q : PUnit → sProp 𝕄) :
    iprop(boundary (SparseCore.T d) ∗ StableHlo.held (SparseCore.T d) ucT W
      ∗ ((boundary (SparseCore.T d) ∗ StableHlo.held (SparseCore.T d) ucT (op.result W)) -∗ Q ⟨⟩))
      ⊢ wp frame (wpE ((K (F := F)).defs (D (F := F))) 𝒱 (SparseCore.T d) none) Set.univ (hlo rfl op fun _ => .ret ⟨⟩) Q := by
  iintro ⟨Hb, Hh, Hk⟩
  iapply (StableHlo.wp_hlo_within 𝒱 (SparseCore.T d) none Set.univ (op := op) (S := ucT) (Pipeline.sub_ucRefs op hop) (V := W) (hf := hf)) $$ [Hb Hh]
  · isplitl [Hb] <;> iassumption
  iintro ⟨Hb, Hh⟩
  rw [wp_ret]; imodintro
  iapply Hk
  isplitl [Hb] <;> iassumption

abbrev ghostT (p : Fin 4) : sProp 𝕄 := iprop(Pipeline.cellsGhost (Pipeline.pin (pcfgs (F := F)) admT) EP p d ∗ Pipeline.toksInit (Pipeline.pin (pcfgs (F := F)) admT) EP p d)

theorem region_step [∀ e, Nonempty (Elt F e)] (W : Dev nD → Valuation τ sig (Elt F)) (n : ℕ) (p : Fin 4) (Q : PUnit → sProp 𝕄) :
    iprop((K (F := F)).ctx EH (Pm m) κ ∗ (K (F := F)).tcSt EH d n ∗ boundary (SparseCore.T d) ∗ StableHlo.held (SparseCore.T d) ucT (W d)
      ∗ ghostT (F := F) d p
      ∗ (((K (F := F)).tcSt EH d n ∗ boundary (SparseCore.T d) ∗ StableHlo.held (SparseCore.T d) ucT (afterT W n p d)) -∗ Q ⟨⟩))
      ⊢ wp frame (wpE ((K (F := F)).defs (D (F := F))) 𝒱 (SparseCore.T d) none) Set.univ
          (Prog.lift (.customCall (SparseCore.inner (Pipeline.entry p)) ())) Q := by
  have h : (iprop(((boundary (SparseCore.T d) ∗ StableHlo.held (SparseCore.T d) ucT (afterT W n p d) ∗ owesT (F := F) n d)
        -∗ wp frame (wpE (D (F := F)) 𝒱 (SparseCore.T d) none) Set.univ (.ret ⟨⟩) Q)
      ∗ boundary (SparseCore.T d) ∗ (StableHlo.held (SparseCore.T d) ucT (W d) ∗ owesT (F := F) n d) ∗ levAts (K (F := F)).L (K (F := F)).lev
      ∗ Pipeline.cellsGhost (Pipeline.pin (pcfgs (F := F)) admT) EP p d ∗ Pipeline.toksInit (Pipeline.pin (pcfgs (F := F)) admT) EP p d) : sProp 𝕄)
      ⊢ wp frame (wpE ((K (F := F)).defs (D (F := F))) 𝒱 (SparseCore.T d) none) Set.univ
          (Prog.lift (.customCall (SparseCore.inner (Pipeline.entry p)) ())) Q :=
    ((regT (F := F) W n p).wp (pcfgs (F := F)) admT (pdatsT W n) none ((kitT (F := F) p).cellOf_inj admT) EP defs₀ 𝒱₀ (K (F := F)).L (K (F := F)).lev d none
      (fun _ h => nomatch h) (fun x => .ret x) Q).trans
      ((K (F := F)).wp_liftProg (D (F := F)) 𝒱 (SparseCore.T d) Set.univ none (Prog.lift (.customCall (Pipeline.entry p) ())) Q)
  iintro ⟨#Hctx, Hst, Hb, Hh, ⟨Hg, Ht⟩, Hk⟩
  ihave Ho := (tcSt_open d n) $$ Hst
  icases Ho with ⟨HO, Hcl⟩
  iapply h
  isplitl [Hk Hcl]
  · iintro ⟨Hb, Hh, HO⟩
    rw [wp_ret]; imodintro
    iapply Hk
    isplitl [Hcl HO]; · iapply Hcl; iexact HO
    isplitl [Hb] <;> iassumption
  isplitl [Hb]; · iexact Hb
  isplitl [Hh HO]; · isplitl [Hh]; · iexact Hh
                     iexact HO
  isplitr; · iapply (SparseCore.Cfg.ctx_levAts (K := K (F := F)) κ) $$ Hctx
  isplitl [Hg] <;> iassumption

/-- The scores, the column numbers and the result of a call, out of the unscoped arrays. -/
abbrev S1c : Finset (DevRef τ sig) := {dr main_v7, dr main_v2, dr main_v8}
abbrev S3c : Finset (DevRef τ sig) := {dr main_v9, dr main_v2, dr main_v10}

omit [FloatOps F] in
theorem held_S1c (W : Valuation τ sig (Elt F)) : (StableHlo.held (SparseCore.T d) S1c W : sProp 𝕄)
    = iprop((L7 d ↦{fullShare} W (dr main_v7)) ∗ (L2 d ↦{fullShare} W (dr main_v2)) ∗ (L8 d ↦{fullShare} W (dr main_v8))) := by
  unfold StableHlo.held
  rw [SparseCore.bigSep_insert' (by decide), SparseCore.bigSep_insert' (by decide), bigSep_singleton]

omit [FloatOps F] in
theorem held_S3c (W : Valuation τ sig (Elt F)) : (StableHlo.held (SparseCore.T d) S3c W : sProp 𝕄)
    = iprop((L9 d ↦{fullShare} W (dr main_v9)) ∗ (L2 d ↦{fullShare} W (dr main_v2)) ∗ (L10 d ↦{fullShare} W (dr main_v10))) := by
  unfold StableHlo.held
  rw [SparseCore.bigSep_insert' (by decide), SparseCore.bigSep_insert' (by decide), bigSep_singleton]

theorem sub3 (a b c : Ref sig .tc) (ha : a.isScoped = false) (hb : b.isScoped = false) (hc : c.isScoped = false) :
    ({dr a, dr b, dr c} : Finset (DevRef τ sig)) ⊆ ucT := by
  intro x hx
  simp only [Finset.mem_insert, Finset.mem_singleton] at hx
  rcases hx with rfl | rfl | rfl
  · exact Pipeline.devRef_mem_ucRefs ha
  · exact Pipeline.devRef_mem_ucRefs hb
  · exact Pipeline.devRef_mem_ucRefs hc

theorem call1_step (Q : PUnit → sProp 𝕄) :
    iprop((K (F := F)).ctx EH (Pm m) κ ∗ (K (F := F)).tcSt EH d 0 ∗ StableHlo.held (SparseCore.T d) ucT (VB m d)
      ∗ (((K (F := F)).tcSt EH d 1 ∗ StableHlo.held (SparseCore.T d) ucT (VC m d)) -∗ Q ⟨⟩))
      ⊢ wp frame (wpE ((K (F := F)).defs (D (F := F))) 𝒱 (SparseCore.T d) none) Set.univ ((K (F := F)).run d 0) Q := by
  rw [StableHlo.held_sub_split (SparseCore.T d) (sub3 main_v7 main_v2 main_v8 rfl rfl rfl) (VB m d), held_S1c,
    StableHlo.held_sub_split (SparseCore.T d) (sub3 main_v7 main_v2 main_v8 rfl rfl rfl) (VC m d), held_S1c,
    show VC m d (dr main_v7) = VB m d (dr main_v7) from Function.update_of_ne (show dr main_v7 ≠ dr main_v8 by decide) _ _,
    show VC m d (dr main_v2) = VB m d (dr main_v2) from Function.update_of_ne (show dr main_v2 ≠ dr main_v8 by decide) _ _,
    show VC m d (dr main_v8) = (gatAll 0 (s7m m d) (ixm m d) : S2048x200.Idx → F .f32) from Function.update_self _ _ _,
    StableHlo.held_congr (SparseCore.T d) (S := ucT \ S1c) (V := VC m d) (V' := VB m d) (fun b hb => Function.update_of_ne (fun e => by
      rw [e] at hb; exact (Finset.mem_sdiff.mp hb).2 (by decide)) _ _)]
  iintro ⟨#Hctx, Hst, ⟨⟨H7, H2, H8⟩, Hrest⟩, Hk⟩
  ihave H2' := (pointsTo_split_subset (ℓ := L2 d) (I := rowsFrom 0) (S := Finset.univ) (q := fullShare) (f := VB m d (dr main_v2)) (Finset.subset_univ _)).1 $$ H2
  icases H2' with ⟨H2, H2r⟩
  iapply ((K (F := F)).wp_run (D (F := F)) 𝒱 (EH := EH) (P := Pm m) κ d 0) $$ [Hst H7 H2 H8 Hrest H2r Hk]
  isplitr; · iexact Hctx
  isplitl [Hst]; · iexact Hst
  isplitl [H7 H2 H8]
  · iapply (take1 (F := F) (s7m m) (s9m m) (ixm m) d (VB m d (dr main_v8)))
    isplitl [H7]; · iexact H7
    isplitl [H2]; · iexact H2
    iexact H8
  iintro ⟨Hst, Hdn⟩
  ihave Hd := (give1 (F := F) (s7m m) (s9m m) (ixm m) d) $$ Hdn
  icases Hd with ⟨H7, H2, H8⟩
  iapply Hk
  isplitl [Hst]; · iexact Hst
  isplitr [Hrest]; swap; (· iexact Hrest)
  isplitl [H7]; · iexact H7
  isplitr [H8]; swap; (· iexact H8)
  iapply (pointsTo_split_subset (ℓ := L2 d) (I := rowsFrom 0) (S := Finset.univ) (q := fullShare) (f := VB m d (dr main_v2)) (Finset.subset_univ _)).2
  isplitl [H2]; · iexact H2
  iexact H2r

theorem call3_step (Q : PUnit → sProp 𝕄) :
    iprop((K (F := F)).ctx EH (Pm m) κ ∗ (K (F := F)).tcSt EH d 1 ∗ StableHlo.held (SparseCore.T d) ucT (VD m d)
      ∗ (((K (F := F)).tcSt EH d 2 ∗ StableHlo.held (SparseCore.T d) ucT (VE m d)) -∗ Q ⟨⟩))
      ⊢ wp frame (wpE ((K (F := F)).defs (D (F := F))) 𝒱 (SparseCore.T d) none) Set.univ ((K (F := F)).run d 1) Q := by
  rw [StableHlo.held_sub_split (SparseCore.T d) (sub3 main_v9 main_v2 main_v10 rfl rfl rfl) (VD m d), held_S3c,
    StableHlo.held_sub_split (SparseCore.T d) (sub3 main_v9 main_v2 main_v10 rfl rfl rfl) (VE m d), held_S3c,
    show VE m d (dr main_v9) = VD m d (dr main_v9) from Function.update_of_ne (show dr main_v9 ≠ dr main_v10 by decide) _ _,
    show VE m d (dr main_v2) = VD m d (dr main_v2) from Function.update_of_ne (show dr main_v2 ≠ dr main_v10 by decide) _ _,
    show VE m d (dr main_v10) = (gatAll 2048 (s9m m d) (ixm m d) : S2048x200.Idx → F .f32) from Function.update_self _ _ _,
    StableHlo.held_congr (SparseCore.T d) (S := ucT \ S3c) (V := VE m d) (V' := VD m d) (fun b hb => Function.update_of_ne (fun e => by
      rw [e] at hb; exact (Finset.mem_sdiff.mp hb).2 (by decide)) _ _),
    VD_ix]
  iintro ⟨#Hctx, Hst, ⟨⟨H9, H2, H10⟩, Hrest⟩, Hk⟩
  ihave H2' := (pointsTo_split_subset (ℓ := L2 d) (I := rowsFrom 64) (S := Finset.univ) (q := fullShare) (f := ixm m d) (Finset.subset_univ _)).1 $$ H2
  icases H2' with ⟨H2, H2r⟩
  iapply ((K (F := F)).wp_run (D (F := F)) 𝒱 (EH := EH) (P := Pm m) κ d 1) $$ [Hst H9 H2 H10 Hrest H2r Hk]
  isplitr; · iexact Hctx
  isplitl [Hst]; · iexact Hst
  isplitl [H9 H2 H10]
  · iapply (take3 (F := F) (s7m m) (s9m m) (ixm m) d (VD m d (dr main_v10)))
    isplitl [H9]; · iexact H9
    isplitl [H2] <;> iassumption
  iintro ⟨Hst, Hdn⟩
  ihave Hd := (give3 (F := F) (s7m m) (s9m m) (ixm m) d) $$ Hdn
  icases Hd with ⟨H9, H2, H10⟩
  iapply Hk
  isplitl [Hst]; · iexact Hst
  isplitr [Hrest]; swap; (· iexact Hrest)
  isplitl [H9]; · iexact H9
  isplitr [H10]; swap; (· iexact H10)
  iapply (pointsTo_split_subset (ℓ := L2 d) (I := rowsFrom 64) (S := Finset.univ) (q := fullShare) (f := ixm m d) (Finset.subset_univ _)).2
  isplitl [H2] <;> iassumption

end Steps

/-! ## The launch element: the handshakes' rounds and the pipelines' cells -/

theorem hinjT : Function.Injective (Pipeline.cellOf (nD := nD) (τ := τ) (Pipeline.pin (pcfgs (F := F)) admT)) := (kitT (F := F) 0).cellOf_inj admT

def u₀ : UU := (initOf (K (F := F)).hsCells (K (F := F)).hsToks,
  (initOf (Pipeline.cells (Pipeline.pin (pcfgs (F := F)) admT) hinjT) (Pipeline.launchToks (Pipeline.pin (pcfgs (F := F)) admT) hinjT), 1))

/-- Each device's pipelines' cells and tokens. -/
abbrev GT (d : Dev nD) : sProp 𝕄 := iprop((bigSep Finset.univ fun p : Fin 4 => Pipeline.cellsGhost (Pipeline.pin (pcfgs (F := F)) admT) EP p d)
  ∗ bigSep Finset.univ fun p : Fin 4 => Pipeline.toksInit (Pipeline.pin (pcfgs (F := F)) admT) EP p d)

omit [FloatOps F] in
theorem no_parts {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => GT (F := F) d)
        ∗ bigSep Finset.univ fun thr : Thread nD τ => bigSep Finset.univ fun q : Fin 2 => (Pm m).x q thr) := by
  unfold u₀
  iintro Hu
  ihave H := (ownU_pair _ _) $$ Hu
  icases H with ⟨HH, HP⟩
  ihave H := (own_pair_emb embR _ _) $$ HP
  icases H with ⟨HP, -⟩
  imod (Pipeline.fund_ghost (Pipeline.pin (pcfgs (F := F)) admT) EP hinjT) $$ HP with ⟨Hc, Ht⟩
  imodintro
  isplitl [HH]; · iexact HH
  isplitl [Hc Ht]
  · rw [bigSep_sep']
    isplitl [Hc] <;> iassumption
  unfold Pm P; dsimp only
  rw [show (bigSep Finset.univ fun _ : Thread nD τ => bigSep Finset.univ fun _ : Fin 2 => (iprop(emp) : sProp 𝕄)) = iprop(emp) from by
    rw [bigSep_congr fun _ _ => no_parts _, no_parts]]
  iempintro

/-! ## @main -/

theorem unscoped_held (d : Dev nD) : (unscopedBufs d (fun b => m ((SparseCore.T d).loc b)) : sProp 𝕄) = StableHlo.held (SparseCore.T d) ucT (V0 m d) := by
  unfold unscopedBufs StableHlo.held ucT Pipeline.ucRefs StableHlo.tcRefs
  rw [Finset.filter_map, bigSep_map]; rfl

abbrev FIN (d : Dev nD) : sProp 𝕄 := StableHlo.held (SparseCore.T d) ucT (VH m d)

theorem ghost_take (d : Dev nD) : (GT (F := F) d : sProp 𝕄) ⊢ iprop(ghostT (F := F) d 0 ∗ ghostT (F := F) d 1 ∗ ghostT (F := F) d 2 ∗ ghostT (F := F) d 3) := by
  unfold GT
  rw [← bigSep_sep', show (Finset.univ : Finset (Fin 4)) = {0, 1, 2, 3} by decide, SparseCore.bigSep_insert' (by decide),
    SparseCore.bigSep_insert' (by decide), SparseCore.bigSep_insert' (by decide), bigSep_singleton]

variable (ρ : Dev nD → PrngReg)

theorem hmain [∀ e, Nonempty (Elt F e)] (κ : GSem nD τ sig → ℕ) (d : Dev nD) :
    iprop((K (F := F)).ctx EH (Pm m) κ ∗ (K (F := F)).tcSt EH d 0 ∗ (K (F := F)).tcRes m ρ d ∗ GT (F := F) d)
      ⊢ wp frame (wpE ((K (F := F)).defs (D (F := F))) 𝒱 (SparseCore.T d) none) Set.univ (main d)
          fun _ => iprop((K (F := F)).tcSt EH d 2 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hh, Hts, -⟩, HG⟩
  ihave Hg := (ghost_take d) $$ HG
  icases Hg with ⟨HG0, HG1, HG2, HG3⟩
  iapply (hlo_step d (op0 (F := F)) (by simp) rfl)
  isplitl [Hb]; · iexact Hb
  isplitl [Hh]; · iexact Hh
  iintro ⟨Hb, Hh⟩
  iapply (hlo_step d (op1 (F := F)) (by simp) rfl)
  isplitl [Hb]; · iexact Hb
  isplitl [Hh]; · iexact Hh
  iintro ⟨Hb, Hh⟩
  iapply (hlo_step d (op2 (F := F)) (by simp) rfl)
  isplitl [Hb]; · iexact Hb
  isplitl [Hh]; · iexact Hh
  iintro ⟨Hb, Hh⟩
  iapply (hlo_step d (op3 (F := F)) (by simp) rfl)
  isplitl [Hb]; · iexact Hb
  isplitl [Hh]; · iexact Hh
  iintro ⟨Hb, Hh⟩
  iapply (hlo_step d (op4 (F := F)) (by simp) rfl)
  isplitl [Hb]; · iexact Hb
  isplitl [Hh]; · iexact Hh
  iintro ⟨Hb, Hh⟩
  iapply (hlo_step d (op5 (F := F)) (by simp) rfl)
  isplitl [Hb]; · iexact Hb
  isplitl [Hh]; · iexact Hh
  iintro ⟨Hb, Hh⟩
  iapply (hlo_step d (op6 (F := F)) (by simp) rfl)
  isplitl [Hb]; · iexact Hb
  isplitl [Hh]; · iexact Hh
  iintro ⟨Hb, Hh⟩
  iapply (region_step m d κ (VA m) 0 0)
  isplitr; · iexact Hctx
  isplitl [Hst]; · iexact Hst
  isplitl [Hb]; · iexact Hb
  isplitl [Hh]; · iexact Hh
  isplitl [HG0]; · iexact HG0
  iintro ⟨Hst, Hb, Hh⟩
  iapply (call1_step m d κ)
  isplitr; · iexact Hctx
  isplitl [Hst]; · iexact Hst
  isplitl [Hh]; · iexact Hh
  iintro ⟨Hst, Hh⟩
  iapply (region_step m d κ (VC m) 1 1)
  isplitr; · iexact Hctx
  isplitl [Hst]; · iexact Hst
  isplitl [Hb]; · iexact Hb
  isplitl [Hh]; · iexact Hh
  isplitl [HG1]; · iexact HG1
  iintro ⟨Hst, Hb, Hh⟩
  iapply (call3_step m d κ)
  isplitr; · iexact Hctx
  isplitl [Hst]; · iexact Hst
  isplitl [Hh]; · iexact Hh
  iintro ⟨Hst, Hh⟩
  iapply (region_step m d κ (VE m) 2 2)
  isplitr; · iexact Hctx
  isplitl [Hst]; · iexact Hst
  isplitl [Hb]; · iexact Hb
  isplitl [Hh]; · iexact Hh
  isplitl [HG2]; · iexact HG2
  iintro ⟨Hst, Hb, Hh⟩
  iapply (region_step m d κ (VF m) 2 3)
  isplitr; · iexact Hctx
  isplitl [Hst]; · iexact Hst
  isplitl [Hb]; · iexact Hb
  isplitl [Hh]; · iexact Hh
  isplitl [HG3]; · iexact HG3
  iintro ⟨Hst, Hb, Hh⟩
  iapply (hlo_step d (opCat (F := F)) (by simp) rfl)
  isplitl [Hb]; · iexact Hb
  isplitl [Hh]; · iexact Hh
  iintro ⟨Hb, Hh⟩
  imodintro
  isplitl [Hst]; · iexact Hst
  isplitl [Hh]; · iexact Hh
  isplitl [Hb] <;> iassumption

def fq (d : Dev nD) (s' : Phys nD τ sig (Elt F)) : Prop := ∀ b : Ref sig .tc, b.isScoped = false → s'.mem.mem ((SparseCore.T d).loc b) = VH m d (dr b)

theorem hfin (d : Dev nD) (s' : Phys nD τ sig (Elt F)) : iprop(FIN m d ∗ SI s') ⊢ (⌜fq m d s'⌝ : sProp 𝕄) := by
  have h1 (b : Ref sig .tc) (hb : b.isScoped = false) : iprop(FIN m d ∗ SI s') ⊢ (⌜s'.mem.mem ((SparseCore.T d).loc b) = VH m d (dr b)⌝ : sProp 𝕄) := by
    have hb' : (StableHlo.held (SparseCore.T d) ucT (VH m d) : sProp 𝕄) ⊢ ((SparseCore.T d).loc b ↦{fullShare} VH m d (dr b)) :=
      BI.bigSep_elim (Pipeline.devRef_mem_ucRefs hb)
    iintro ⟨Hh, HSI⟩
    ihave Hx := hb' $$ Hh
    ihave H := (SI_pointsTo_agree (st := s') (ℓ := (SparseCore.T d).loc b) (I := Finset.univ) (q := fullShare) (f := VH m d (dr b))) $$ [HSI Hx]
    · isplitl [HSI] <;> iassumption
    icases H with %hx
    ipureintro; exact funext fun i => hx i (Finset.mem_univ i)
  unfold fq
  refine BI.Entails.trans ?_ (pure_forall (PROP := sProp 𝕄)).2
  refine BI.BIClass.forall_intro (PROP := sProp 𝕄) fun b => ?_
  refine BI.Entails.trans ?_ (pure_forall (PROP := sProp 𝕄)).2
  exact BI.BIClass.forall_intro (PROP := sProp 𝕄) fun hb => h1 b hb

/-! ## The program's run -/

/-- Every unscoped array ends at the last valuation, every counter at zero. -/
def QC : PUnit × MemSt nD τ sig (Elt F) → Prop := fun r =>
  (∀ (d : Dev nD) (b : Ref sig .tc), b.isScoped = false → r.2.mem ((SparseCore.T d).loc b) = VH m d (dr b)) ∧ r.2.sem = fun _ => 0

theorem run_main [∀ e, Nonempty (Elt F e)] (hix : ∀ d y, (ixm m d y).toNat < 1024) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := Pm m) (A := ∅) facts v₀
    (fun q hq => match q with | 0 => nomatch hq | 1 => nomatch hq)
    (fun q _ => match q with
      | 0 => tileObl1 (s7m m) (s9m m) (ixm m) hix
      | 1 => tileObl3 (s7m m) (s9m m) (ixm m) hix)
    (fun q _ => SparseCore.Cfg.VecSplit.of_plain (vecSplit (s7m m) (s9m m) (ixm m) q))
    m ρ main (GT (F := F)) (FIN m) (u₀ (F := F)) (sep_elim_left.trans (hu₀ m)) (hmain m ρ) (fq m) (hfin m) (QC m) (fun _ h hz => ⟨h, hz⟩)

end Vals

end Cert.Proof.Tail
end
-- ==== Proof.Same.lean ====
/-
  The program as printed and its ideal form have one text, so over any float values they have one body table. The two
  SparseCore bodies are compared apart, each once.
-/
module

public import proofs.«01_k».proof.Defs
public import proofs.«01_k».proof.Proof.Gen.KernelIdeal
public import proofs.«01_k».proof.Proof.Gen.Kernel

@[expose] public section

noncomputable section

namespace Cert.Proof.Same

open Cert.KernelIdeal.Gen
open Idealize.ShloMosaic

variable {F : FTy → Type} [FloatOps F]

/-- The first SparseCore body; -/
theorem body1 : Cert.Kernel.cc1__sc_gather_body (F := F) = Cert.KernelIdeal.cc1__sc_gather_body (F := F) := rfl
/-- and the second. -/
theorem body3 : Cert.Kernel.cc3__sc_gather_body (F := F) = Cert.KernelIdeal.cc3__sc_gather_body (F := F) := rfl

set_option maxHeartbeats 2000000 in
theorem tile1 (c : Fin Cert.KernelIdeal.τ.nSC) (s : Fin Cert.KernelIdeal.τ.nSub) (a : Cert.KernelIdeal.Λ₀.Args 1) :
    Cert.Kernel.defs₀ (F := F) (.scVector c s) 1 a = Cert.KernelIdeal.defs₀ (F := F) (.scVector c s) 1 a := by
  unfold Cert.Kernel.defs₀ Cert.KernelIdeal.defs₀ SparseCore.onTile
  dsimp only
  refine dite_congr rfl (fun _ => ?_) (fun _ => rfl)
  exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body1 _) _) _) _) _) _) _) _) _) _) _) _) _) _) _) _) _) _) _) _) _) _) _) _) _

set_option maxHeartbeats 2000000 in
theorem tile3 (c : Fin Cert.KernelIdeal.τ.nSC) (s : Fin Cert.KernelIdeal.τ.nSub) (a : Cert.KernelIdeal.Λ₀.Args 3) :
    Cert.Kernel.defs₀ (F := F) (.scVector c s) 3 a = Cert.KernelIdeal.defs₀ (F := F) (.scVector c s) 3 a := by
  unfold Cert.Kernel.defs₀ Cert.KernelIdeal.defs₀ SparseCore.onTile
  dsimp only
  refine dite_congr rfl (fun _ => ?_) (fun _ => rfl)
  exact congrFun (congrFun (congrFun (congrFun (congrFun (congrFun (congrFun (congrFun (congrFun (congrFun (congrFun (congrFun (congrFun (congrFun (congrFun (congrFun (congrFun (congrFun (congrFun (congrFun (congrFun (congrFun (congrFun (congrFun (congrFun body3 _) _) _) _) _) _) _) _) _) _) _) _) _) _) _) _) _) _) _) _) _) _) _) _) _

set_option maxHeartbeats 4000000 in
/-- The kernels' body tables; -/
theorem defs₀_eq : Cert.Kernel.defs₀ (F := F) = Cert.KernelIdeal.defs₀ (F := F) := by
  funext p l a
  cases p with
  | tc => match l with
    | 0 | 1 | 2 | 3 | 4 | 5 => rfl
  | scScalar c => match l with
    | 0 | 1 | 2 | 3 | 4 | 5 => rfl
  | scVector c s => match l with
    | 0 | 2 | 4 | 5 => rfl
    | 1 => exact tile1 c s a
    | 3 => exact tile3 c s a

set_option maxHeartbeats 4000000 in
/-- and the whole ones. -/
theorem defs_eq : Cert.Kernel.defs (F := F) = Cert.KernelIdeal.defs (F := F) :=
  congrArg (fun D => Cert.KernelIdeal.sc.defs (Pipeline.defs Cert.KernelIdeal.pcfgs D)) defs₀_eq

end Cert.Proof.Same

end
-- ==== Proof.Frames.lean ====
/-
  What the preconditions say of the words and the floats, what the run leaves of the arguments, and the claims that say
  each program runs through with its arguments as they were and every counter at zero.
-/
module

public import proofs.«01_k».proof.Defs
public import proofs.«01_k».proof.Proof.Main
public import proofs.«01_k».proof.Proof.Same
public import proofs.«01_k».proof.Proof.Gen.Kernel
public import proofs.«01_k».proof.Proof.Gen.Pre_in_ranges
public import proofs.«01_k».proof.Proof.Gen.ReferenceIdeal.Run
public import Idealize.ShloMosaic.Lib.ReduceAll
public import Idealize.ShloMosaic.Lib.Quiescent

@[expose] public section

noncomputable section

namespace Cert.Proof.Tail

open Cert.KernelIdeal Cert.KernelIdeal.Gen

open Idealize.ShloMosaic
open Idealize.SL.Sem

variable {F : FTy → Type} [FloatOps F]

/-! ## The preconditions read back -/

instance : Subsingleton Cert.Pre_in_ranges.S_.Idx := ⟨fun _ _ => funext fun a => a.elim0⟩

/-- A word at least 0 and below 1002, compared as signed, is below 1002 as a natural. -/
theorem word_lt (x : BitVec 32) (h0 : IntOp.cmpi .sge x 0#32 = 1#1) (h1 : IntOp.cmpi .slt x 1002#32 = 1#1) : x.toNat < 1002 := by
  have h0' : BitVec.sle 0#32 x = true := by
    rw [IntOp.cmpi] at h0; exact (by revert h0; cases BitVec.sle 0#32 x <;> decide : BitVec.sle 0#32 x = true)
  have h1' : BitVec.slt x 1002#32 = true := by
    rw [IntOp.cmpi] at h1; exact (by revert h1; cases BitVec.slt x 1002#32 <;> decide : BitVec.slt x 1002#32 = true)
  simp only [BitVec.sle_eq_decide, BitVec.slt_eq_decide, BitVec.toInt_eq_toNat_cond, BitVec.toNat_ofNat, decide_eq_true_eq] at h0' h1'
  have := x.isLt
  omega

theorem ranges {a0 : IVec S4096 32} {a1 : FVec F S4096x128 .f32} {a2 : IVec S4096x200x2 32} {a3 : FVec F S100000x128 .f32}
    {a4 a5 : FVec F S512x128 .f32} {a6 a7 : FVec F S512 .f32} {a8 : FVec F S256x256 .f32} {a9 : FVec F S256 .f32}
    {a10 : FVec F S128x256 .f32} {a11 : FVec F S128 .f32}
    (h : Cert.Pre_in_ranges.fn a0 a1 a2 a3 a4 a5 a6 a7 a8 a9 a10 a11 = fun _ => 1#1) :
    (∀ i, (a0 i).toNat < 1002) ∧ ∀ i, (a2 i).toNat < 1002 := by
  have e := congrFun h (Shape.Idx.first Cert.Pre_in_ranges.Facts.h_S_)
  obtain ⟨e, e4⟩ := IntOp.andi_eq_one.1 e
  obtain ⟨e, e3⟩ := IntOp.andi_eq_one.1 e
  obtain ⟨e1, e2⟩ := IntOp.andi_eq_one.1 e
  exact ⟨fun i => word_lt _ (Host.reduce_andi_all _ _ _ _ _ e1 i) (Host.reduce_andi_all _ _ _ _ _ e2 i),
    fun i => word_lt _ (Host.reduce_andi_all _ _ _ _ _ e3 i) (Host.reduce_andi_all _ _ _ _ _ e4 i)⟩

/-! ## The arrays no step writes -/

theorem out0 (w : Fin cfg0.W) : (cfg0.win w).isOut = false ∨ Pipeline.arrRef cfg0.spec w = main_v7 := by revert w; decide
theorem out2 (w : Fin cfg2.W) : (cfg2.win w).isOut = false ∨ Pipeline.arrRef cfg2.spec w = main_v9 := by revert w; decide
theorem out4 (w : Fin cfg4.W) : (cfg4.win w).isOut = false ∨ Pipeline.arrRef cfg4.spec w = main_v11 := by revert w; decide
theorem out5 (w : Fin cfg5.W) : (cfg5.win w).isOut = false ∨ Pipeline.arrRef cfg5.spec w = main_v12 := by revert w; decide

/-- A windowed call leaves every array but its output's. -/
theorem afterT_keeps (V : Dev nD → Valuation τ sig (Elt F)) (n : ℕ) (p : Fin 4) (d : Dev nD) (b : Ref sig .tc)
    (h : b ∉ ({main_v7, main_v9, main_v11, main_v12} : Finset (Ref sig .tc))) : afterT V n p d (dr b) = V d (dr b) := by
  simp only [Finset.mem_insert, Finset.mem_singleton, not_or] at h
  obtain ⟨h7, h9, h11, h12⟩ := h
  refine Pipeline.afterRegion_keeps (pdatsT V n p d) (V d) (kitT (F := F) p).win.arr_inj (pdatsT_A V n p d) b ?_
  match p with
  | 0 => exact fun w hw => (out0 w).resolve_right fun e => h7 (hw.symm.trans e)
  | 1 => exact fun w hw => (out2 w).resolve_right fun e => h9 (hw.symm.trans e)
  | 2 => exact fun w hw => (out4 w).resolve_right fun e => h11 (hw.symm.trans e)
  | 3 => exact fun w hw => (out5 w).resolve_right fun e => h12 (hw.symm.trans e)

section Keeps
variable (m : (ℓ : Loc nD τ sig) → Buf (Elt F) ℓ) (d : Dev nD)

theorem VB_keeps (b : Ref sig .tc) (h : b ∉ ({main_v7, main_v9, main_v11, main_v12} : Finset (Ref sig .tc))) :
    VB m d (dr b) = VA m d (dr b) := afterT_keeps _ _ _ _ _ h

theorem VC_keeps (b : Ref sig .tc) (h : b ∉ ({main_v7, main_v9, main_v11, main_v12} : Finset (Ref sig .tc))) (h8 : b ≠ main_v8) :
    VC m d (dr b) = VA m d (dr b) :=
  (Function.update_of_ne (StableHlo.devRef_ne_of_ne h8) _ _).trans (VB_keeps m d b h)

theorem VD_keeps (b : Ref sig .tc) (h : b ∉ ({main_v7, main_v9, main_v11, main_v12} : Finset (Ref sig .tc))) (h8 : b ≠ main_v8) :
    VD m d (dr b) = VA m d (dr b) := (afterT_keeps _ _ _ _ _ h).trans (VC_keeps m d b h h8)

/-- An array no step writes ends as it began. -/
theorem VH_keeps (b : Ref sig .tc)
    (h : b ∉ ({main_v0, main_v1, main_v2, main_v3, main_v4, main_v5, main_v6, main_v7, main_v8, main_v9, main_v10, main_v11, main_v12, main_v13} : Finset (Ref sig .tc))) :
    VH m d (dr b) = m (d, dr b) := by
  simp only [Finset.mem_insert, Finset.mem_singleton, not_or] at h
  obtain ⟨h0, h1, h2, h3, h4, h5, h6, h7, h8, h9, h10, h11, h12, h13⟩ := h
  have hk : b ∉ ({main_v7, main_v9, main_v11, main_v12} : Finset (Ref sig .tc)) := by
    simp only [Finset.mem_insert, Finset.mem_singleton, not_or]; exact ⟨h7, h9, h11, h12⟩
  unfold VH
  rw [StableHlo.binary_result_ne (h := h13)]
  refine (afterT_keeps _ _ _ _ _ hk).trans ((afterT_keeps _ _ _ _ _ hk).trans ?_)
  refine (Function.update_of_ne (StableHlo.devRef_ne_of_ne h10) _ _).trans ((VD_keeps m d b hk h8).trans ?_)
  unfold VA
  rw [StableHlo.reshape_result_ne (h := h6), StableHlo.reshape_result_ne (h := h5), StableHlo.reshape_result_ne (h := h4),
    StableHlo.reshape_result_ne (h := h3), StableHlo.reshape_result_ne (h := h2), StableHlo.unary_result_ne (h := h1),
    StableHlo.reshape_result_ne (h := h0)]
  rfl

/-- The words the two gathers are steered by: the first column of the third argument. -/
theorem ixm_eq : ixm m d = shapeCast S4096x200 (extractStridedSlice S4096x200x1 ![0, 0, 0]
    (m (d, dr main_arg2) : S4096x200x2.Idx → BitVec 32) slices_S4096x200x2_S4096x200x1_0_0_0) shapeCasts_S4096x200x1_S4096x200 := by
  have e6 : main_v2 ≠ main_v6 := by decide
  have e5 : main_v2 ≠ main_v5 := by decide
  have e4 : main_v2 ≠ main_v4 := by decide
  have e3 : main_v2 ≠ main_v3 := by decide
  have e0 : main_arg2 ≠ main_v0 := by decide
  unfold ixm
  rw [VB_keeps m d main_v2 (by decide)]
  unfold VA
  rw [StableHlo.reshape_result_ne (h := e6), StableHlo.reshape_result_ne (h := e5), StableHlo.reshape_result_ne (h := e4),
    StableHlo.reshape_result_ne (h := e3), StableHlo.reshape_result, StableHlo.unary_result, StableHlo.reshape_result_ne (h := e0)]
  rfl

/-- The run from arguments whose words are in range. -/
theorem run_ranges [∀ e, Nonempty (Elt F e)] (ρ : Dev nD → PrngReg)
    (h : ∀ d i, ((m (d, dr main_arg2) : S4096x200x2.Idx → BitVec 32) i).toNat < 1002) :
    θ_run (Cert.KernelIdeal.defs (F := F)) (Cert.KernelIdeal.threads (F := F)) ⟨m, fun _ => 0, ρ⟩ (QC m) :=
  run_main m ρ fun d y => by rw [ixm_eq]; exact Nat.lt_trans (h d _) (by decide)

/-- The arguments and the counters at the end. -/
abbrev Kept (r : PUnit × MemSt nD τ sig (Elt F)) : Prop :=
  (∀ c : Dev nD, r.2.mem ((SparseCore.T c).loc main_arg0) = m ((SparseCore.T c).loc main_arg0)
      ∧ r.2.mem ((SparseCore.T c).loc main_arg1) = m ((SparseCore.T c).loc main_arg1)
      ∧ r.2.mem ((SparseCore.T c).loc main_arg2) = m ((SparseCore.T c).loc main_arg2)
      ∧ r.2.mem ((SparseCore.T c).loc main_arg3) = m ((SparseCore.T c).loc main_arg3)
      ∧ r.2.mem ((SparseCore.T c).loc main_arg4) = m ((SparseCore.T c).loc main_arg4)
      ∧ r.2.mem ((SparseCore.T c).loc main_arg5) = m ((SparseCore.T c).loc main_arg5)
      ∧ r.2.mem ((SparseCore.T c).loc main_arg6) = m ((SparseCore.T c).loc main_arg6)
      ∧ r.2.mem ((SparseCore.T c).loc main_arg7) = m ((SparseCore.T c).loc main_arg7)
      ∧ r.2.mem ((SparseCore.T c).loc main_arg8) = m ((SparseCore.T c).loc main_arg8)
      ∧ r.2.mem ((SparseCore.T c).loc main_arg9) = m ((SparseCore.T c).loc main_arg9)
      ∧ r.2.mem ((SparseCore.T c).loc main_arg10) = m ((SparseCore.T c).loc main_arg10)
      ∧ r.2.mem ((SparseCore.T c).loc main_arg11) = m ((SparseCore.T c).loc main_arg11))
    ∧ r.2.sem = fun _ => 0

theorem kept {r : PUnit × MemSt nD τ sig (Elt F)} (h : QC m r) : Kept m r :=
  have k (c : Dev nD) (b : Ref sig .tc) (hs : b.isScoped = false)
      (hb : b ∉ ({main_v0, main_v1, main_v2, main_v3, main_v4, main_v5, main_v6, main_v7, main_v8, main_v9, main_v10, main_v11, main_v12, main_v13} : Finset (Ref sig .tc))) :
      r.2.mem ((SparseCore.T c).loc b) = m ((SparseCore.T c).loc b) := (h.1 c b hs).trans (VH_keeps m c b hb)
  ⟨fun c => ⟨k c main_arg0 rfl (by decide), k c main_arg1 rfl (by decide), k c main_arg2 rfl (by decide), k c main_arg3 rfl (by decide),
    k c main_arg4 rfl (by decide), k c main_arg5 rfl (by decide), k c main_arg6 rfl (by decide), k c main_arg7 rfl (by decide),
    k c main_arg8 rfl (by decide), k c main_arg9 rfl (by decide), k c main_arg10 rfl (by decide), k c main_arg11 rfl (by decide)⟩, h.2⟩

end Keeps

/-! ## The claims -/

theorem frame_kernelIdeal : Cert.quiescent_KernelIdeal := fun m ρ hp =>
  (θ_run Cert.KernelIdeal.defs _ _).mono (fun _ h => kept m h) (run_ranges (F := Ideal) m ρ fun d i => (ranges (hp d)).2 i)

set_option maxHeartbeats 8000000 in
theorem frame_kernel : Cert.quiescent_Kernel := fun m ρ hp => by
  have h : θ_run (Cert.KernelIdeal.defs (F := Bits)) (Cert.KernelIdeal.threads (F := Bits)) ⟨m, fun _ => 0, ρ⟩ (Kept m) :=
    (θ_run Cert.KernelIdeal.defs _ _).mono (fun _ h => kept m h) (run_ranges (F := Bits) m ρ fun d i => (ranges (hp d)).2 i)
  rw [← Cert.Proof.Same.defs_eq] at h
  exact h

theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Tail

end
-- ==== Proof.Reads.lean ====
/-
  The four windowed calls read back: what each writes, element by element, from the arrays at its entry.
-/
module

public import proofs.«01_k».proof.Proof.Score
public import proofs.«01_k».proof.Proof.Frames
public import Idealize.ShloMosaic.Lib.Pipeline.ValueKit.Geometry

@[expose] public section

noncomputable section

namespace Cert.Proof.Reads

open Cert.KernelIdeal Cert.KernelIdeal.Gen Cert.Proof.Tail Cert.Proof.Score

open Idealize.ShloMosaic
open Idealize.ShloMosaic.ValueIdx
open scoped BigOperators

/-! ## The scores of a row, from the arrays -/

/-- The row of the table a word names. -/
def rowOf (w : BitVec 32) : Fin 100000 := ⟨w.toNat % 100000, Nat.mod_lt _ (by decide)⟩

theorem rowOf_val {w : BitVec 32} (h : w.toNat < 1024) : (rowOf w).val = w.toNat := Nat.mod_eq_of_lt (by omega)

/-- The score of word `c` in row `b`: the weights, the previous words, the table and the queries given. -/
def scoreAt (P : Wts) (prev : Fin 4096 → BitVec 32) (T : Mat 100000 128) (Q : Mat 4096 128) (b : Fin 4096) (c : BitVec 32) : EReal :=
  score (feat P (prev b) (T (rowOf (prev b))) (Q b)) c (T (rowOf c))

/-- The scores of the rows from `o`, laid out 1024 to a row. -/
def laid (o : ℕ) (P : Wts) (prev : Fin 4096 → BitVec 32) (T : Mat 100000 128) (Q : Mat 4096 128) : S2097152.Idx → EReal := fun i =>
  scoreAt P prev T Q ⟨(o + (i 0).val / 1024) % 4096, Nat.mod_lt _ (by decide)⟩ (BitVec.ofNat 32 ((i 0).val % 1024))

/-- A block of scores is the scores of its rows. -/
theorem scoreBlk_laid (P : Wts) (prev : Fin 4096 → BitVec 32) (T : Mat 100000 128) (Q : Mat 4096 128) (o t : ℕ) (ho : o + 512 * t + 512 ≤ 4096)
    (hr : ∀ b, (prev b).toNat < 1024) (hT : ∀ r k, Real' (T r k))
    (x1 : Vec Ideal S512x1 .i32) (x2 : Vec Ideal S512x128 .f32) (x3 : Vec Ideal S1024x128 .f32) (x4 : Vec Ideal S512x128 .f32)
    (x5 x6 : Vec Ideal S1x512 .f32) (x7 : Vec Ideal S256x256 .f32) (x8 : Vec Ideal S1x256 .f32) (x9 : Vec Ideal S128x256 .f32)
    (x10 : Vec Ideal S1x128 .f32)
    (h1 : ∀ r : Fin 512, x1 (ix2 r (0 : Fin 1)) = prev ⟨o + 512 * t + r.val, by omega⟩)
    (h2 : ∀ (r : Fin 512) k, x2 (ix2 r k) = Q ⟨o + 512 * t + r.val, by omega⟩ k)
    (h3 : ∀ (c : Fin 1024) k, x3 (ix2 c k) = T ⟨c.val, by omega⟩ k)
    (hP : blkW x4 x5 x6 x7 x8 x9 x10 = P) (y : S524288.Idx) (i : S2097152.Idx) (hi : (i 0).val = t * 524288 + (y 0).val) :
    scoreBlk (F := Ideal) x1 x2 x3 x4 x5 x6 x7 x8 x9 x10 y = laid o P prev T Q i := by
  have hy : (y 0).val < 524288 := (y 0).isLt
  obtain ⟨n, rfl⟩ : ∃ n : Fin 524288, y = ix1 n := ⟨y 0, eq_ix1 y⟩
  replace hi : (i 0).val = t * 524288 + n.val := hi
  replace hy : n.val < 524288 := hy
  have hrow : (⟨(o + (i 0).val / 1024) % 4096, Nat.mod_lt _ (by decide)⟩ : Fin 4096) = ⟨o + 512 * t + n.val / 1024, by omega⟩ :=
    Fin.ext (by show (o + (i 0).val / 1024) % 4096 = o + 512 * t + n.val / 1024; rw [hi]; omega)
  have hcol : (i 0).val % 1024 = n.val % 1024 := by rw [hi]; omega
  have e1 := h1 ⟨n.val / 1024, by omega⟩
  have hw : (x1 (ix2 (⟨n.val / 1024, by omega⟩ : Fin 512) (0 : Fin 1))).toNat < 1024 := by rw [e1]; exact hr _
  rw [scoreBlk_at x1 x2 x3 x4 x5 x6 x7 x8 x9 x10 ⟨n.val / 1024, by omega⟩ ⟨n.val % 1024, by omega⟩ n
    (by show n.val = n.val / 1024 * 1024 + n.val % 1024; omega) hw (fun k => by rw [h3]; exact hT _ _)]
  unfold laid scoreAt
  rw [hrow, hcol, hP]
  have er : ∀ k, x3 (ix2 (⟨_, hw⟩ : Fin 1024) k) = T (rowOf (prev ⟨o + 512 * t + n.val / 1024, by omega⟩)) k := fun k => by
    rw [h3]
    exact congrFun (congrArg T (Fin.ext (by rw [rowOf_val (hr _)]; exact congrArg BitVec.toNat e1))) k
  have ec : ∀ k, x3 (ix2 (⟨n.val % 1024, by omega⟩ : Fin 1024) k) = T (rowOf (BitVec.ofNat 32 (n.val % 1024))) k := fun k => by
    have h : (BitVec.ofNat 32 (n.val % 1024)).toNat = n.val % 1024 := by rw [BitVec.toNat_ofNat]; omega
    rw [h3]
    exact congrFun (congrArg T (Fin.ext (by rw [rowOf_val (by rw [h]; omega), h]))) k
  rw [funext er, funext ec, e1, funext fun k => h2 ⟨n.val / 1024, by omega⟩ k]

/-! ## What a call reads and writes -/

variable (V : Dev nD → Valuation τ sig (Elt Ideal)) (n : ℕ) (d : Dev nD)

/-- The weights, from the arrays at a call's entry. -/
def wtsV : Wts := blkW (V d (dr main_arg4)) (V d (dr main_v3)) (V d (dr main_v4)) (V d (dr main_arg8)) (V d (dr main_v5)) (V d (dr main_arg10)) (V d (dr main_v6))

/-- The previous words, the table and the queries, likewise. -/
def prevV (b : Fin 4096) : BitVec 32 := (V d (dr main_v0) : S4096x1.Idx → BitVec 32) (ix2 b (0 : Fin 1))
def tabV : Mat 100000 128 := fun r k => (V d (dr main_arg3) : S100000x128.Idx → EReal) (ix2 r k)
def queV : Mat 4096 128 := fun b k => (V d (dr main_arg1) : S4096x128.Idx → EReal) (ix2 b k)

theorem idx0 : ∀ t : Fin cfg0.N, (cfg0.win 0).index t 0 = t.val ∧ (cfg0.win 1).index t 0 = t.val ∧ (cfg0.win 10).index t 0 = t.val := by decide
theorem idx2 : ∀ t : Fin cfg2.N, (cfg2.win 0).index t 0 = t.val + 4 ∧ (cfg2.win 1).index t 0 = t.val + 4 ∧ (cfg2.win 10).index t 0 = t.val := by decide

/-- A window that always shows the first block of an array no larger than it shows the array. -/
theorem seen (cfg : Pipeline.Cfg sig Λ₀) (w : Fin cfg.W) (t : Fin cfg.N) (hc : ∀ a, (cfg.win w).clip (cfg.grid.coords t) a = none)
    (j : (cfg.win w).block.Idx) : ∃ y : ((cfg.win w).xblock (cfg.grid.coords t)).Idx, (∀ a, (y a).val = (j a).val)
      ∧ blkAt V d cfg w t j = ((cfg.win w).blk t).view.read (Elt Ideal) (V d (Proc.devRef .tc (Pipeline.arrRef cfg.spec w))) y := by
  have hm : (cfg.win w).moved (cfg.grid.coords t) j = true :=
    ((cfg.win w).moved_iff _ j).mpr fun a => by have := (j a).isLt; unfold Pipeline.Window.xsize; rw [hc a]; exact this
  exact ⟨_, fun _ => rfl, dif_pos hm⟩

section Call0
variable (t : Fin cfg0.N)

theorem prev0 (r : Fin 512) (b : Fin 4096) (hb : b.val = t.val * 512 + r.val) : blkAt V d cfg0 0 t (ix2 r (0 : Fin 1)) = prevV V d b := by
  refine congrArg (V d (dr main_v0) : S4096x1.Idx → BitVec 32) (funext fun a => Fin.ext ?_)
  refine (Pipeline.Window.rect_emb_val (cfg0.win 0) t _ a).trans ?_
  match a with
  | ⟨0, _⟩ => rw [show (cfg0.win 0).index t ⟨0, _⟩ = t.val from (idx0 t).1]; exact hb.symm
  | ⟨1, _⟩ => rfl

theorem que0 (r : Fin 512) (b : Fin 4096) (hb : b.val = t.val * 512 + r.val) (k : Fin 128) : blkAt V d cfg0 1 t (ix2 r k) = queV V d b k := by
  refine congrArg (V d (dr main_arg1) : S4096x128.Idx → EReal) (funext fun a => Fin.ext ?_)
  refine (Pipeline.Window.rect_emb_val (cfg0.win 1) t _ a).trans ?_
  match a with
  | ⟨0, _⟩ => rw [show (cfg0.win 1).index t ⟨0, _⟩ = t.val from (idx0 t).2.1]; exact hb.symm
  | ⟨1, _⟩ => exact (Nat.zero_add _)

theorem tab0 (c : Fin 1024) (k : Fin 128) : blkAt V d cfg0 2 t (ix2 c k) = tabV V d ⟨c.val, by omega⟩ k := by
  obtain ⟨y, hy, e⟩ := seen V d cfg0 2 t (fun a => by fin_cases a <;> rfl) (ix2 c k)
  refine e.trans (congrArg (V d (dr main_arg3) : S100000x128.Idx → EReal) (funext fun a => Fin.ext ?_))
  refine (Pipeline.Window.rect_emb_val_of_index_zero (cfg0.win 2) t a (by fin_cases a <;> rfl) y).trans ((hy a).trans ?_)
  match a with
  | ⟨0, _⟩ => rfl
  | ⟨1, _⟩ => rfl

theorem wts0 : blkW (blkAt V d cfg0 3 t) (blkAt V d cfg0 4 t) (blkAt V d cfg0 5 t) (blkAt V d cfg0 6 t)
    (blkAt V d cfg0 7 t) (blkAt V d cfg0 8 t) (blkAt V d cfg0 9 t) = wtsV V d := by
  have w3 : blkAt V d cfg0 3 t = V d (dr main_arg4) := funext fun j => congrArg (V d (dr main_arg4)) (funext fun a => Fin.ext (Pipeline.Window.rect_emb_val_of_index_zero (cfg0.win 3) t a (by fin_cases a <;> rfl) j))
  have w4 : blkAt V d cfg0 4 t = V d (dr main_v3) := funext fun j => congrArg (V d (dr main_v3)) (funext fun a => Fin.ext (Pipeline.Window.rect_emb_val_of_index_zero (cfg0.win 4) t a (by fin_cases a <;> rfl) j))
  have w5 : blkAt V d cfg0 5 t = V d (dr main_v4) := funext fun j => congrArg (V d (dr main_v4)) (funext fun a => Fin.ext (Pipeline.Window.rect_emb_val_of_index_zero (cfg0.win 5) t a (by fin_cases a <;> rfl) j))
  have w6 : blkAt V d cfg0 6 t = V d (dr main_arg8) := funext fun j => congrArg (V d (dr main_arg8)) (funext fun a => Fin.ext (Pipeline.Window.rect_emb_val_of_index_zero (cfg0.win 6) t a (by fin_cases a <;> rfl) j))
  have w7 : blkAt V d cfg0 7 t = V d (dr main_v5) := funext fun j => congrArg (V d (dr main_v5)) (funext fun a => Fin.ext (Pipeline.Window.rect_emb_val_of_index_zero (cfg0.win 7) t a (by fin_cases a <;> rfl) j))
  have w8 : blkAt V d cfg0 8 t = V d (dr main_arg10) := funext fun j => congrArg (V d (dr main_arg10)) (funext fun a => Fin.ext (Pipeline.Window.rect_emb_val_of_index_zero (cfg0.win 8) t a (by fin_cases a <;> rfl) j))
  have w9 : blkAt V d cfg0 9 t = V d (dr main_v6) := funext fun j => congrArg (V d (dr main_v6)) (funext fun a => Fin.ext (Pipeline.Window.rect_emb_val_of_index_zero (cfg0.win 9) t a (by fin_cases a <;> rfl) j))
  rw [w3, w4, w5, w6, w7, w8, w9]
  rfl

/-- The first scores: the rows from 0. -/
theorem arr0 (hr : ∀ b, (prevV V d b).toNat < 1024) (hT : ∀ r k, Real' (tabV V d r k)) :
    afterT V n 0 d (dr main_v7) = laid 0 (wtsV V d) (prevV V d) (tabV V d) (queV V d) := by
  refine (Pipeline.afterRegion_arr (pdatsT V n 0 d) (V d) (kitT (F := Ideal) 0).win.arr_inj (10 : Fin 11)).trans ?_
  refine Pipeline.Dat.arrAt_eq_of_cover (dat0 V n d) (10 : Fin 11) (laid 0 (wtsV V d) (prevV V d) (tabV V d) (queV V d)) (fun t _ => funext fun y => ?_) (fun i => ?_)
  · have ht : t.val < 4 := t.isLt
    refine scoreBlk_laid (wtsV V d) (prevV V d) (tabV V d) (queV V d) 0 t.val (by omega) hr hT _ _ _ _ _ _ _ _ _ _
      (fun r => prev0 V d t r _ (by show 0 + 512 * t.val + r.val = _; omega)) (fun r k => que0 V d t r _ (by show 0 + 512 * t.val + r.val = _; omega) k)
      (tab0 V d t) (wts0 V d t) y _ ?_
    refine (Pipeline.Window.rect_emb_val (cfg0.win 10) t y (0 : Fin 1)).trans ?_
    rw [(idx0 t).2.2]
    rfl
  · have hi : (i 0).val < 2097152 := (i 0).isLt
    refine ⟨⟨(i 0).val / 524288, by show (i 0).val / 524288 < 4; omega⟩, flush0_10 _, ?_⟩
    refine (Pipeline.Window.emb_mem_blk_iff (cfg0.win 10) _ i).mpr fun a => ?_
    match a with
    | ⟨0, _⟩ =>
      rw [show (cfg0.win 10).index (⟨(i 0).val / 524288, by show (i 0).val / 524288 < 4; omega⟩ : Fin cfg0.N) ⟨0, _⟩ = (i 0).val / 524288 from (idx0 _).2.2]
      show (i 0).val / 524288 * 524288 ≤ (i 0).val ∧ (i 0).val < (i 0).val / 524288 * 524288 + 524288
      omega

end Call0

section Call2
variable (t : Fin cfg2.N)

theorem prev2 (r : Fin 512) (b : Fin 4096) (hb : b.val = (t.val + 4) * 512 + r.val) : blkAt V d cfg2 0 t (ix2 r (0 : Fin 1)) = prevV V d b := by
  refine congrArg (V d (dr main_v0) : S4096x1.Idx → BitVec 32) (funext fun a => Fin.ext ?_)
  refine (Pipeline.Window.rect_emb_val (cfg2.win 0) t _ a).trans ?_
  match a with
  | ⟨0, _⟩ => rw [show (cfg2.win 0).index t ⟨0, _⟩ = t.val + 4 from (idx2 t).1]; exact hb.symm
  | ⟨1, _⟩ => rfl

theorem que2 (r : Fin 512) (b : Fin 4096) (hb : b.val = (t.val + 4) * 512 + r.val) (k : Fin 128) : blkAt V d cfg2 1 t (ix2 r k) = queV V d b k := by
  refine congrArg (V d (dr main_arg1) : S4096x128.Idx → EReal) (funext fun a => Fin.ext ?_)
  refine (Pipeline.Window.rect_emb_val (cfg2.win 1) t _ a).trans ?_
  match a with
  | ⟨0, _⟩ => rw [show (cfg2.win 1).index t ⟨0, _⟩ = t.val + 4 from (idx2 t).2.1]; exact hb.symm
  | ⟨1, _⟩ => exact (Nat.zero_add _)

theorem tab2 (c : Fin 1024) (k : Fin 128) : blkAt V d cfg2 2 t (ix2 c k) = tabV V d ⟨c.val, by omega⟩ k := by
  obtain ⟨y, hy, e⟩ := seen V d cfg2 2 t (fun a => by fin_cases a <;> rfl) (ix2 c k)
  refine e.trans (congrArg (V d (dr main_arg3) : S100000x128.Idx → EReal) (funext fun a => Fin.ext ?_))
  refine (Pipeline.Window.rect_emb_val_of_index_zero (cfg2.win 2) t a (by fin_cases a <;> rfl) y).trans ((hy a).trans ?_)
  match a with
  | ⟨0, _⟩ => rfl
  | ⟨1, _⟩ => rfl

theorem wts2 : blkW (blkAt V d cfg2 3 t) (blkAt V d cfg2 4 t) (blkAt V d cfg2 5 t) (blkAt V d cfg2 6 t)
    (blkAt V d cfg2 7 t) (blkAt V d cfg2 8 t) (blkAt V d cfg2 9 t) = wtsV V d := by
  have w3 : blkAt V d cfg2 3 t = V d (dr main_arg4) := funext fun j => congrArg (V d (dr main_arg4)) (funext fun a => Fin.ext (Pipeline.Window.rect_emb_val_of_index_zero (cfg2.win 3) t a (by fin_cases a <;> rfl) j))
  have w4 : blkAt V d cfg2 4 t = V d (dr main_v3) := funext fun j => congrArg (V d (dr main_v3)) (funext fun a => Fin.ext (Pipeline.Window.rect_emb_val_of_index_zero (cfg2.win 4) t a (by fin_cases a <;> rfl) j))
  have w5 : blkAt V d cfg2 5 t = V d (dr main_v4) := funext fun j => congrArg (V d (dr main_v4)) (funext fun a => Fin.ext (Pipeline.Window.rect_emb_val_of_index_zero (cfg2.win 5) t a (by fin_cases a <;> rfl) j))
  have w6 : blkAt V d cfg2 6 t = V d (dr main_arg8) := funext fun j => congrArg (V d (dr main_arg8)) (funext fun a => Fin.ext (Pipeline.Window.rect_emb_val_of_index_zero (cfg2.win 6) t a (by fin_cases a <;> rfl) j))
  have w7 : blkAt V d cfg2 7 t = V d (dr main_v5) := funext fun j => congrArg (V d (dr main_v5)) (funext fun a => Fin.ext (Pipeline.Window.rect_emb_val_of_index_zero (cfg2.win 7) t a (by fin_cases a <;> rfl) j))
  have w8 : blkAt V d cfg2 8 t = V d (dr main_arg10) := funext fun j => congrArg (V d (dr main_arg10)) (funext fun a => Fin.ext (Pipeline.Window.rect_emb_val_of_index_zero (cfg2.win 8) t a (by fin_cases a <;> rfl) j))
  have w9 : blkAt V d cfg2 9 t = V d (dr main_v6) := funext fun j => congrArg (V d (dr main_v6)) (funext fun a => Fin.ext (Pipeline.Window.rect_emb_val_of_index_zero (cfg2.win 9) t a (by fin_cases a <;> rfl) j))
  rw [w3, w4, w5, w6, w7, w8, w9]
  rfl

/-- The second scores: the rows from 2048. -/
theorem arr2 (hr : ∀ b, (prevV V d b).toNat < 1024) (hT : ∀ r k, Real' (tabV V d r k)) :
    afterT V n 1 d (dr main_v9) = laid 2048 (wtsV V d) (prevV V d) (tabV V d) (queV V d) := by
  refine (Pipeline.afterRegion_arr (pdatsT V n 1 d) (V d) (kitT (F := Ideal) 1).win.arr_inj (10 : Fin 11)).trans ?_
  refine Pipeline.Dat.arrAt_eq_of_cover (dat2 V n d) (10 : Fin 11) (laid 2048 (wtsV V d) (prevV V d) (tabV V d) (queV V d)) (fun t _ => funext fun y => ?_) (fun i => ?_)
  · have ht : t.val < 4 := t.isLt
    refine scoreBlk_laid (wtsV V d) (prevV V d) (tabV V d) (queV V d) 2048 t.val (by omega) hr hT _ _ _ _ _ _ _ _ _ _
      (fun r => prev2 V d t r _ (by show 2048 + 512 * t.val + r.val = _; omega)) (fun r k => que2 V d t r _ (by show 2048 + 512 * t.val + r.val = _; omega) k)
      (tab2 V d t) (wts2 V d t) y _ ?_
    refine (Pipeline.Window.rect_emb_val (cfg2.win 10) t y (0 : Fin 1)).trans ?_
    rw [(idx2 t).2.2]
    rfl
  · have hi : (i 0).val < 2097152 := (i 0).isLt
    refine ⟨⟨(i 0).val / 524288, by show (i 0).val / 524288 < 4; omega⟩, flush2_10 _, ?_⟩
    refine (Pipeline.Window.emb_mem_blk_iff (cfg2.win 10) _ i).mpr fun a => ?_
    match a with
    | ⟨0, _⟩ =>
      rw [show (cfg2.win 10).index (⟨(i 0).val / 524288, by show (i 0).val / 524288 < 4; omega⟩ : Fin cfg2.N) ⟨0, _⟩ = (i 0).val / 524288 from (idx2 _).2.2]
      show (i 0).val / 524288 * 524288 ≤ (i 0).val ∧ (i 0).val < (i 0).val / 524288 * 524288 + 524288
      omega

end Call2

section Norms

/-- A row normalised, of an array of rows. -/
def normed (x : S2048x200.Idx → EReal) : S2048x200.Idx → EReal := normBlk (F := Ideal) x

theorem idx4 : ∀ t : Fin cfg4.N, (cfg4.win 0).index t 0 = 0 ∧ (cfg4.win 0).index t 1 = 0 ∧ (cfg4.win 1).index t 0 = 0 ∧ (cfg4.win 1).index t 1 = 0 := by decide

theorem arr4 : afterT V n 2 d (dr main_v11) = normed (V d (dr main_v8)) := by
  refine (Pipeline.afterRegion_arr (pdatsT V n 2 d) (V d) (kitT (F := Ideal) 2).win.arr_inj (1 : Fin 2)).trans ?_
  refine Pipeline.Dat.arrAt_eq_of_cover (dat4 V n d) (1 : Fin 2) (normed (V d (dr main_v8))) (fun t _ => funext fun y => ?_) (fun i => ?_)
  · have e : blkAt V d cfg4 0 t = V d (dr main_v8) := funext fun j => congrArg (V d (dr main_v8)) (funext fun a => Fin.ext (Pipeline.Window.rect_emb_val_of_index_zero (cfg4.win 0) t a (by match a with | ⟨0, _⟩ => exact (idx4 t).1 | ⟨1, _⟩ => exact (idx4 t).2.1) j))
    have e' : ((cfg4.win 1).rect t).emb y = y := funext fun a => Fin.ext (Pipeline.Window.rect_emb_val_of_index_zero (cfg4.win 1) t a (by match a with | ⟨0, _⟩ => exact (idx4 t).2.2.1 | ⟨1, _⟩ => exact (idx4 t).2.2.2) y)
    show normBlk (blkAt V d cfg4 0 t) y = normed (V d (dr main_v8)) (((cfg4.win 1).rect t).emb y)
    rw [e, e']
    rfl
  · refine ⟨⟨0, by decide⟩, flush4_1 _, (Pipeline.Window.emb_mem_blk_iff (cfg4.win 1) _ i).mpr fun a => ?_⟩
    have := (i a).isLt
    match a with
    | ⟨0, _⟩ => exact ⟨Nat.zero_le _, this⟩
    | ⟨1, _⟩ => exact ⟨Nat.zero_le _, this⟩

theorem idx5 : ∀ t : Fin cfg5.N, (cfg5.win 0).index t 0 = 0 ∧ (cfg5.win 0).index t 1 = 0 ∧ (cfg5.win 1).index t 0 = 0 ∧ (cfg5.win 1).index t 1 = 0 := by decide

theorem arr5 : afterT V n 3 d (dr main_v12) = normed (V d (dr main_v10)) := by
  refine (Pipeline.afterRegion_arr (pdatsT V n 3 d) (V d) (kitT (F := Ideal) 3).win.arr_inj (1 : Fin 2)).trans ?_
  refine Pipeline.Dat.arrAt_eq_of_cover (dat5 V n d) (1 : Fin 2) (normed (V d (dr main_v10))) (fun t _ => funext fun y => ?_) (fun i => ?_)
  · have e : blkAt V d cfg5 0 t = V d (dr main_v10) := funext fun j => congrArg (V d (dr main_v10)) (funext fun a => Fin.ext (Pipeline.Window.rect_emb_val_of_index_zero (cfg5.win 0) t a (by match a with | ⟨0, _⟩ => exact (idx5 t).1 | ⟨1, _⟩ => exact (idx5 t).2.1) j))
    have e' : ((cfg5.win 1).rect t).emb y = y := funext fun a => Fin.ext (Pipeline.Window.rect_emb_val_of_index_zero (cfg5.win 1) t a (by match a with | ⟨0, _⟩ => exact (idx5 t).2.2.1 | ⟨1, _⟩ => exact (idx5 t).2.2.2) y)
    show normBlk (blkAt V d cfg5 0 t) y = normed (V d (dr main_v10)) (((cfg5.win 1).rect t).emb y)
    rw [e, e']
    rfl
  · refine ⟨⟨0, by decide⟩, flush5_1 _, (Pipeline.Window.emb_mem_blk_iff (cfg5.win 1) _ i).mpr fun a => ?_⟩
    have := (i a).isLt
    match a with
    | ⟨0, _⟩ => exact ⟨Nat.zero_le _, this⟩
    | ⟨1, _⟩ => exact ⟨Nat.zero_le _, this⟩

end Norms

end Cert.Proof.Reads

end
-- ==== Proof.Ref.lean ====
/-
  The reference read at an entry: each of its stages named, and what the stage holds at a row and a column.
-/
module

public import proofs.«01_k».proof.Proof.Reads
public import proofs.«01_k».proof.Proof.Gen.ReferenceIdeal.Run
public import Idealize.ShloMosaic.Lib.ReduceAll

@[expose] public section

noncomputable section

namespace Cert.Proof.Ref

open Cert.ReferenceIdeal Cert.ReferenceIdeal.Gen Cert.Proof.Score
open Cert.Proof.Reads (rowOf scoreAt)

open Idealize.ShloMosaic
open Idealize.ShloMosaic.ValueIdx
open scoped BigOperators

/-! ## The stages -/

/-- A negative word counted from the table's end. -/
def wrap {s : Shape} (h : S_.BroadcastsInDim s ![]) (a : IVec s 32) : IVec s 32 :=
  select (cmpi .slt a (broadcastInDim s ![] h (constantI S_ 32 0#32))) (addi a (broadcastInDim s ![] h (constantI S_ 32 100000#32))) a

/-- The rows of the table the previous words name. -/
def take1 (T : FVec Ideal S100000x128 .f32) (a : IVec S4096 32) : FVec Ideal S4096x128 .f32 :=
  let v : IVec S4096x1 32 := broadcastInDim S4096x1 ![0] bcast_S4096_S4096x1_0 (wrap bcast_S_S4096 a)
  select (broadcastInDim S4096x128 ![0] bcast_S4096_S4096x128_0 (Host.reduce IntOp.andi
      (andi (cmpi .sge v (broadcastInDim S4096x1 ![] bcast_S_S4096x1 (constantI S_ 32 0#32)))
        (cmpi .sle v (broadcastInDim S4096x1 ![0, 1] bcast_S1x1_S4096x1_0_1 (broadcastInDim S1x1 ![1] bcast_S1_S1x1_1 (constantI S1 32 99999#32)))))
      (constantI S_ 1 1#1) reducesTo_S4096x1_S4096_d1 h_S_))
    (Host.gather gather_S100000x128_S4096x1_S4096x128_1_0_n_n_0_1_1128 T v)
    (broadcastInDim S4096x128 ![] bcast_S_S4096x128 (constant S_ .f32 0x7FC00000#32))

/-- The rows of the table the candidates name. -/
def take2 (T : FVec Ideal S100000x128 .f32) (a : IVec S4096x200 32) : FVec Ideal S4096x200x128 .f32 :=
  let v : IVec S4096x200x1 32 := broadcastInDim S4096x200x1 ![0, 1] bcast_S4096x200_S4096x200x1_0_1 (wrap bcast_S_S4096x200 a)
  select (broadcastInDim S4096x200x128 ![0, 1] bcast_S4096x200_S4096x200x128_0_1 (Host.reduce IntOp.andi
      (andi (cmpi .sge v (broadcastInDim S4096x200x1 ![] bcast_S_S4096x200x1 (constantI S_ 32 0#32)))
        (cmpi .sle v (broadcastInDim S4096x200x1 ![0, 1, 2] bcast_S1x1x1_S4096x200x1_0_1_2 (broadcastInDim S1x1x1 ![2] bcast_S1_S1x1x1_2 (constantI S1 32 99999#32)))))
      (constantI S_ 1 1#1) reducesTo_S4096x200x1_S4096x200_d2 h_S_))
    (Host.gather gather_S100000x128_S4096x200x1_S4096x200x128_2_0_n_n_0_2_1128 T v)
    (broadcastInDim S4096x200x128 ![] bcast_S_S4096x200x128 (constant S_ .f32 0x7FC00000#32))

/-- The zero state. -/
def zst : FVec Ideal S4096x128 .f32 := broadcastInDim S4096x128 ![] bcast_S_S4096x128 (constant S_ .f32 0x00000000#32)

/-- The gates. -/
def gateR (e : FVec Ideal S4096x128 .f32) (Wi Wh : FVec Ideal S512x128 .f32) (bi bh : FVec Ideal S512 .f32) : FVec Ideal S4096x512 .f32 :=
  addf (addf (addf (Host.dotGeneral dot_S4096x128_S128x512_S4096x512_1_0_0_1_n_n none e (transpose S128x512 [1, 0] Wi transposes_S512x128_S128x512_1_0))
        (broadcastInDim S4096x512 ![0, 1] bcast_S1x512_S4096x512_0_1 (broadcastInDim S1x512 ![1] bcast_S512_S1x512_1 bi)))
      (Host.dotGeneral dot_S4096x128_S128x512_S4096x512_1_0_0_1_n_n none zst (transpose S128x512 [1, 0] Wh transposes_S512x128_S128x512_1_0)))
    (broadcastInDim S4096x512 ![0, 1] bcast_S1x512_S4096x512_0_1 (broadcastInDim S1x512 ![1] bcast_S512_S1x512_1 bh))

/-- The logistic map, as a quotient. -/
def sgm (x : FVec Ideal S4096x128 .f32) : FVec Ideal S4096x128 .f32 :=
  Host.divf (broadcastInDim S4096x128 ![] bcast_S_S4096x128 (constant S_ .f32 0x3F800000#32))
    (addf (broadcastInDim S4096x128 ![] bcast_S_S4096x128 (constant S_ .f32 0x3F800000#32)) (Host.exp (Host.negf x)))

/-- The cell's output. -/
def cellR (g : FVec Ideal S4096x512 .f32) : FVec Ideal S4096x128 .f32 :=
  mulf (sgm (extractStridedSlice S4096x128 ![0, 384] g slices_S4096x512_S4096x128_0_384))
    (Host.tanh (addf (mulf (sgm (extractStridedSlice S4096x128 ![0, 128] g slices_S4096x512_S4096x128_0_128)) zst)
      (mulf (sgm (extractStridedSlice S4096x128 ![0, 0] g slices_S4096x512_S4096x128_0_0))
        (Host.tanh (extractStridedSlice S4096x128 ![0, 256] g slices_S4096x512_S4096x128_0_256)))))

/-- The cell's output, zero at the start-of-walk word. -/
def hidR (a : IVec S4096 32) (h : FVec Ideal S4096x128 .f32) : FVec Ideal S4096x128 .f32 :=
  select (broadcastInDim S4096x128 ![0, 1] bcast_S4096x1_S4096x128_0_1 (broadcastInDim S4096x1 ![0] bcast_S4096_S4096x1_0
    (cmpi .eq a (broadcastInDim S4096 ![] bcast_S_S4096 (constantI S_ 32 1000#32))))) zst h

/-- The two layers. -/
def featR (x : FVec Ideal S4096x256 .f32) (W1 : FVec Ideal S256x256 .f32) (b1 : FVec Ideal S256 .f32) (W2 : FVec Ideal S128x256 .f32)
    (b2 : FVec Ideal S128 .f32) : FVec Ideal S4096x128 .f32 :=
  addf (Host.dotGeneral dot_S4096x256_S256x128_S4096x128_1_0_0_1_n_n none
      (maximumf (addf (Host.dotGeneral dot_S4096x256_S256x256_S4096x256_1_0_0_1_n_n none x (transpose S256x256 [1, 0] W1 transposes_S256x256_S256x256_1_0))
          (broadcastInDim S4096x256 ![0, 1] bcast_S1x256_S4096x256_0_1 (broadcastInDim S1x256 ![1] bcast_S256_S1x256_1 b1)))
        (broadcastInDim S4096x256 ![] bcast_S_S4096x256 (constant S_ .f32 0x00000000#32)))
      (transpose S256x128 [1, 0] W2 transposes_S128x256_S256x128_1_0))
    (broadcastInDim S4096x128 ![0, 1] bcast_S1x128_S4096x128_0_1 (broadcastInDim S1x128 ![1] bcast_S128_S1x128_1 b2))

/-- The scores. -/
def scoreR (a : IVec S4096x200 32) (T : FVec Ideal S4096x200x128 .f32) (u : FVec Ideal S4096x128 .f32) : FVec Ideal S4096x200 .f32 :=
  select (cmpi .eq a (broadcastInDim S4096x200 ![] bcast_S_S4096x200 (constantI S_ 32 1001#32)))
    (broadcastInDim S4096x200 ![] bcast_S_S4096x200 (constant S_ .f32 0xD01502F9#32))
    (Host.reduceAdd (mulf T (broadcastInDim S4096x200x128 ![0, 1, 2] bcast_S4096x1x128_S4096x200x128_0_1_2
      (broadcastInDim S4096x1x128 ![0, 2] bcast_S4096x128_S4096x1x128_0_2 u))) (constant S_ .f32 0x00000000#32) reducesTo_S4096x200x128_S4096x200_d2 h_S_)

/-- The scores less their row's greatest. -/
def offR (x : FVec Ideal S4096x200 .f32) : FVec Ideal S4096x200 .f32 :=
  subf x (broadcastInDim S4096x200 ![0, 1] bcast_S4096x1_S4096x200_0_1 (broadcastInDim S4096x1 ![0] bcast_S4096_S4096x1_0
    (maximumf (broadcastInDim S4096 ![] bcast_S_S4096 (constant S_ .f32 0xFF800000#32))
      (Host.reduce FloatOps.maximumf x (constant S_ .f32 0xFF800000#32) reducesTo_S4096x200_S4096_d1 h_S_))))

/-- The scores normalised. -/
def normR (x : FVec Ideal S4096x200 .f32) : FVec Ideal S4096x200 .f32 :=
  subf (offR x) (broadcastInDim S4096x200 ![0, 1] bcast_S4096x1_S4096x200_0_1 (Host.log (broadcastInDim S4096x1 ![0] bcast_S4096_S4096x1_0
    (Host.reduceAdd (Host.exp (offR x)) (constant S_ .f32 0x00000000#32) reducesTo_S4096x200_S4096_d1 h_S_))))

/-- The candidates: the first column of the third argument. -/
def candR (a2 : IVec S4096x200x2 32) : IVec S4096x200 32 :=
  shapeCast _ (extractStridedSlice S4096x200x1 ![0, 0, 0] a2 slices_S4096x200x2_S4096x200x1_0_0_0) shapeCasts_S4096x200x1_S4096x200

/-- The whole. -/
def refR (a0 : IVec S4096 32) (a1 : FVec Ideal S4096x128 .f32) (a2 : IVec S4096x200x2 32) (a3 : FVec Ideal S100000x128 .f32)
    (a4 a5 : FVec Ideal S512x128 .f32) (a6 a7 : FVec Ideal S512 .f32) (a8 : FVec Ideal S256x256 .f32) (a9 : FVec Ideal S256 .f32)
    (a10 : FVec Ideal S128x256 .f32) (a11 : FVec Ideal S128 .f32) : FVec Ideal S4096x200 .f32 :=
  normR (scoreR (candR a2) (take2 a3 (candR a2))
    (featR (Value.fn_main_v53 (F := Ideal) (hidR a0 (cellR (gateR (take1 a3 a0) a4 a5 a6 a7))) a1) a8 a9 a10 a11))

set_option maxRecDepth 60000 in
set_option maxHeartbeats 4000000 in
/-- The reference's result is that. -/
theorem res_eq (m : (ℓ : Loc nD τ sig) → Buf (Elt Ideal) ℓ) (c : Dev nD) : Value.res_main_v70 (F := Ideal) m c
    = refR (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) (m ((c.tc : Thread nD τ).loc main_arg10)) (m ((c.tc : Thread nD τ).loc main_arg11)) := rfl

/-! ## The gathers -/

theorem gather1 (T : FVec Ideal S100000x128 .f32) (v : IVec S4096x1 32) (b : Fin 4096) (k : Fin 128) :
    Host.gather gather_S100000x128_S4096x1_S4096x128_1_0_n_n_0_1_1128 T v (ix2 b k)
      = T (ix2 (⟨min (v (ix2 b (0 : Fin 1))).toInt.toNat 99999, by omega⟩ : Fin 100000) k) := by
  unfold Host.gather
  refine congrArg T (funext fun a => Fin.ext ?_)
  show gather_S100000x128_S4096x1_S4096x128_1_0_n_n_0_1_1128.start (ix2 b k) v a
    + gather_S100000x128_S4096x1_S4096x128_1_0_n_n_0_1_1128.batchCoord (ix2 b k) a
    + gather_S100000x128_S4096x1_S4096x128_1_0_n_n_0_1_1128.offCoord (ix2 b k) a = _
  rw [GatherDims.batchCoord_eq_zero _ _ _ List.not_mem_nil, Nat.add_zero]
  rcases (match a with | ⟨0, _⟩ => Or.inl rfl | ⟨1, _⟩ => Or.inr rfl : a = (0 : Fin 2) ∨ a = (1 : Fin 2)) with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S100000x128_S4096x1_S4096x128_1_0_n_n_0_1_1128.startIndexMap from List.mem_singleton.mpr rfl)]
    refine congrArg (fun i => min (v i).toInt.toNat 99999) (funext fun c => Fin.ext ?_)
    match c with
    | ⟨0, _⟩ => rfl
    | ⟨1, _⟩ => rfl
  · unfold GatherDims.start GatherDims.offCoord
    rw [dif_neg (show ¬(1 : Fin 2) ∈ gather_S100000x128_S4096x1_S4096x128_1_0_n_n_0_1_1128.startIndexMap by decide),
      dif_pos (show (1 : Fin 2) ∈ gather_S100000x128_S4096x1_S4096x128_1_0_n_n_0_1_1128.sKept from (GatherDims.mem_sKept _ _).mpr ⟨by decide, List.not_mem_nil⟩), Nat.zero_add]
    rfl

theorem gather2 (T : FVec Ideal S100000x128 .f32) (v : IVec S4096x200x1 32) (b : Fin 4096) (l : Fin 200) (k : Fin 128) :
    Host.gather gather_S100000x128_S4096x200x1_S4096x200x128_2_0_n_n_0_2_1128 T v (ix3 b l k)
      = T (ix2 (⟨min (v (ix3 b l (0 : Fin 1))).toInt.toNat 99999, by omega⟩ : Fin 100000) k) := by
  unfold Host.gather
  refine congrArg T (funext fun a => Fin.ext ?_)
  show gather_S100000x128_S4096x200x1_S4096x200x128_2_0_n_n_0_2_1128.start (ix3 b l k) v a
    + gather_S100000x128_S4096x200x1_S4096x200x128_2_0_n_n_0_2_1128.batchCoord (ix3 b l k) a
    + gather_S100000x128_S4096x200x1_S4096x200x128_2_0_n_n_0_2_1128.offCoord (ix3 b l k) a = _
  rw [GatherDims.batchCoord_eq_zero _ _ _ List.not_mem_nil, Nat.add_zero]
  rcases (match a with | ⟨0, _⟩ => Or.inl rfl | ⟨1, _⟩ => Or.inr rfl : a = (0 : Fin 2) ∨ a = (1 : Fin 2)) with rfl | rfl
  · rw [GatherDims.offCoord_eq_zero _ _ _ (fun h => ((GatherDims.mem_sKept _ _).mp h).1 (List.mem_singleton.mpr rfl)), Nat.add_zero]
    unfold GatherDims.start
    rw [dif_pos (show (0 : Fin 2) ∈ gather_S100000x128_S4096x200x1_S4096x200x128_2_0_n_n_0_2_1128.startIndexMap from List.mem_singleton.mpr rfl)]
    refine congrArg (fun i => min (v i).toInt.toNat 99999) (funext fun c => Fin.ext ?_)
    match c with
    | ⟨0, _⟩ => rfl
    | ⟨1, _⟩ => rfl
    | ⟨2, _⟩ => rfl
  · unfold GatherDims.start GatherDims.offCoord
    rw [dif_neg (show ¬(1 : Fin 2) ∈ gather_S100000x128_S4096x200x1_S4096x200x128_2_0_n_n_0_2_1128.startIndexMap by decide),
      dif_pos (show (1 : Fin 2) ∈ gather_S100000x128_S4096x200x1_S4096x200x128_2_0_n_n_0_2_1128.sKept from (GatherDims.mem_sKept _ _).mpr ⟨by decide, List.not_mem_nil⟩), Nat.zero_add]
    rfl

/-! ## What each stage holds -/

section Words
variable {x : BitVec 32} (hx : x.toNat < 1002)
include hx

theorem toInt_of : x.toInt = (x.toNat : ℤ) := by rw [BitVec.toInt_eq_toNat_cond]; omega

theorem not_neg : IntOp.cmpi .slt x 0#32 = 0#1 := by
  have h : BitVec.slt x 0#32 = false := by rw [BitVec.slt_eq_decide, toInt_of hx]; simp
  unfold IntOp.cmpi; simp [h]
theorem ge_zero : IntOp.cmpi .sge x 0#32 = 1#1 := by
  have h : BitVec.sle 0#32 x = true := by rw [BitVec.sle_eq_decide, toInt_of hx]; simp
  unfold IntOp.cmpi; simp [h]
theorem le_last : IntOp.cmpi .sle x 99999#32 = 1#1 := by
  have h : BitVec.sle x 99999#32 = true := by
    rw [BitVec.sle_eq_decide, toInt_of hx, show (99999#32).toInt = 99999 from rfl]; simp; omega
  unfold IntOp.cmpi; simp [h]

theorem clamp_row (h : min x.toInt.toNat 99999 < 100000) : (⟨min x.toInt.toNat 99999, h⟩ : Fin 100000) = rowOf x :=
  Fin.ext (by show min x.toInt.toNat 99999 = x.toNat % 100000; rw [toInt_of hx, Int.toNat_natCast]; omega)

end Words

theorem wrap_at {s : Shape} (h : S_.BroadcastsInDim s ![]) (a : IVec s 32) (i : s.Idx) (hx : (a i).toNat < 1002) : wrap h a i = a i := by
  show Scalar.select (IntOp.cmpi .slt (a i) 0#32) _ (a i) = a i
  rw [not_neg hx]; rfl

/-- A row of the previous words' rows. -/
theorem take1_at (T : FVec Ideal S100000x128 .f32) (a : IVec S4096 32) (ha : ∀ i, (a i).toNat < 1002) (b : Fin 4096) (k : Fin 128) :
    take1 T a (ix2 b k) = T (ix2 (rowOf (a (ix1 b))) k) := by
  have hv : ∀ i : S4096x1.Idx, broadcastInDim S4096x1 ![0] bcast_S4096_S4096x1_0 (wrap bcast_S_S4096 a) i = a (ix1 (i 0)) := fun i =>
    (broadcastInDim_apply _ _ _ i (ix1 (i 0)) fun c => match c with | ⟨0, _⟩ => rfl).trans (wrap_at _ _ _ (ha _))
  unfold take1
  dsimp only
  generalize broadcastInDim S4096x1 ![0] bcast_S4096_S4096x1_0 (wrap bcast_S_S4096 a) = v at hv ⊢
  rw [select_apply, broadcastInDim_apply _ _ _ _ (ix1 b) (fun c => match c with | ⟨0, _⟩ => rfl),
    Host.reduce_andi_one _ _ _ _ _ rfl ?_, select_one, gather1]
  have e := hv (ix2 b (0 : Fin 1))
  · refine congrArg (fun r => T (ix2 r k)) ((clamp_row (by rw [e]; exact ha _) _).trans ?_)
    rw [e]
  · refine fun i => IntOp.andi_eq_one.2 ⟨?_, ?_⟩
    · show IntOp.cmpi .sge (v i) 0#32 = 1#1
      rw [hv]; exact ge_zero (ha _)
    · show IntOp.cmpi .sle (v i) 99999#32 = 1#1
      rw [hv]; exact le_last (ha _)

/-- A row of the candidates' rows. -/
theorem take2_at (T : FVec Ideal S100000x128 .f32) (a : IVec S4096x200 32) (ha : ∀ i, (a i).toNat < 1002) (b : Fin 4096) (l : Fin 200) (k : Fin 128) :
    take2 T a (ix3 b l k) = T (ix2 (rowOf (a (ix2 b l))) k) := by
  have hv : ∀ i : S4096x200x1.Idx, broadcastInDim S4096x200x1 ![0, 1] bcast_S4096x200_S4096x200x1_0_1 (wrap bcast_S_S4096x200 a) i = a (ix2 (i 0) (i 1)) := fun i =>
    (broadcastInDim_apply _ _ _ i (ix2 (i 0) (i 1)) fun c => match c with | ⟨0, _⟩ => rfl | ⟨1, _⟩ => rfl).trans (wrap_at _ _ _ (ha _))
  unfold take2
  dsimp only
  generalize broadcastInDim S4096x200x1 ![0, 1] bcast_S4096x200_S4096x200x1_0_1 (wrap bcast_S_S4096x200 a) = v at hv ⊢
  rw [select_apply, broadcastInDim_apply _ _ _ _ (ix2 b l) (fun c => match c with | ⟨0, _⟩ => rfl | ⟨1, _⟩ => rfl),
    Host.reduce_andi_one _ _ _ _ _ rfl ?_, select_one, gather2]
  have e := hv (ix3 b l (0 : Fin 1))
  · refine congrArg (fun r => T (ix2 r k)) ((clamp_row (by rw [e]; exact ha _) _).trans ?_)
    rw [e]
  · refine fun i => IntOp.andi_eq_one.2 ⟨?_, ?_⟩
    · show IntOp.cmpi .sge (v i) 0#32 = 1#1
      rw [hv]; exact ge_zero (ha _)
    · show IntOp.cmpi .sle (v i) 99999#32 = 1#1
      rw [hv]; exact le_last (ha _)

/-- A product with a matrix transposed, at an entry. -/
theorem rows_at {M K N : ℕ} (l : FVec Ideal ⟨2, ![M, K]⟩ .f32) (W : FVec Ideal ⟨2, ![N, K]⟩ .f32)
    (ht : (⟨2, ![N, K]⟩ : Shape).Transposes [1, 0] ⟨2, ![K, N]⟩) (r : Fin M) (c : Fin N) :
    Host.dotGeneral (DotDims.plain M K N) none l (transpose ⟨2, ![K, N]⟩ [1, 0] W ht) (ix2 r c)
      = ∑ k : Fin K, (l (ix2 r k) * W (ix2 c k) : EReal) := by
  rw [← matmul_zero_eq_dotGeneral]
  refine (mm_plain l _ r c).trans (Finset.sum_congr rfl fun k _ => ?_)
  rw [transpose_ix2_apply]

/-- An offset spread over the rows, at an entry. -/
theorem offset_at {M N : ℕ} (v : FVec Ideal ⟨1, ![N]⟩ .f32) (h : (⟨2, ![1, N]⟩ : Shape).BroadcastsInDim ⟨2, ![M, N]⟩ ![0, 1])
    (h' : (⟨1, ![N]⟩ : Shape).BroadcastsInDim ⟨2, ![1, N]⟩ ![1]) (r : Fin M) (c : Fin N) :
    broadcastInDim ⟨2, ![M, N]⟩ ![0, 1] h (broadcastInDim ⟨2, ![1, N]⟩ ![1] h' v) (ix2 r c) = v (ix1 c) := by
  rw [broadcastInDim_oneRow_apply]
  refine broadcastInDim_apply _ _ _ _ (ix1 c) fun a => ?_
  match a with
  | ⟨0, _⟩ =>
    show c.val = if N = 1 then 0 else c.val
    have := c.isLt
    split <;> omega

/-- The weights, from the arguments. -/
def wtsR (a4 : FVec Ideal S512x128 .f32) (a6 a7 : FVec Ideal S512 .f32) (a8 : FVec Ideal S256x256 .f32) (a9 : FVec Ideal S256 .f32)
    (a10 : FVec Ideal S128x256 .f32) (a11 : FVec Ideal S128 .f32) : Wts where
  Wi j k := a4 (ix2 j k)
  bi j := a6 (ix1 j)
  bh j := a7 (ix1 j)
  W1 j k := a8 (ix2 j k)
  b1 j := a9 (ix1 j)
  W2 j k := a10 (ix2 j k)
  b2 j := a11 (ix1 j)

section Rows
variable (a0 : IVec S4096 32) (a1 : FVec Ideal S4096x128 .f32) (a2 : IVec S4096x200x2 32) (a3 : FVec Ideal S100000x128 .f32)
    (a4 a5 : FVec Ideal S512x128 .f32) (a6 a7 : FVec Ideal S512 .f32) (a8 : FVec Ideal S256x256 .f32) (a9 : FVec Ideal S256 .f32)
    (a10 : FVec Ideal S128x256 .f32) (a11 : FVec Ideal S128 .f32)

theorem zst_at (r : Fin 4096) (k : Fin 128) : zst (ix2 r k) = (0 : EReal) := Ideal.ofBits_zero_f32

theorem gateR_at (e : FVec Ideal S4096x128 .f32) (r : Fin 4096) (c : Fin 512) :
    gateR e a4 a5 a6 a7 (ix2 r c) = gates (wtsR a4 a6 a7 a8 a9 a10 a11) (fun k => e (ix2 r k)) c := by
  unfold gateR gates lin wtsR
  have h1 := rows_at e a4 transposes_S512x128_S128x512_1_0 r c
  have h2 := rows_at zst a5 transposes_S512x128_S128x512_1_0 r c
  have h3 := offset_at (M := 4096) a6 bcast_S1x512_S4096x512_0_1 bcast_S512_S1x512_1 r c
  have h4 := offset_at (M := 4096) a7 bcast_S1x512_S4096x512_0_1 bcast_S512_S1x512_1 r c
  have h2' : (∑ k : Fin 128, (zst (ix2 r k) * a5 (ix2 c k) : EReal)) = 0 :=
    Finset.sum_eq_zero fun k _ => by rw [zst_at, zero_mul]
  refine (congrArg₂ (fun a b : EReal => a + b) (congrArg₂ (fun a b : EReal => a + b) (congrArg₂ (fun a b : EReal => a + b) h1 h3) (h2.trans h2')) h4).trans ?_
  rw [add_zero]

theorem sgm_at (x : FVec Ideal S4096x128 .f32) (i : S4096x128.Idx) : sgm x i = Ideal.logistic (x i) := by
  show Ideal.div (Ideal.ofBits .f32 0x3F800000#32) (Ideal.ofBits .f32 0x3F800000#32 + Ideal.exp (-(x i))) = _
  rw [Ideal.ofBits_one_f32]
  rfl

theorem cellR_at (g : FVec Ideal S4096x512 .f32) (r : Fin 4096) (k : Fin 128) :
    cellR g (ix2 r k) = cell (fun j => g (ix2 r j)) k := by
  have s0 := slice2_axis1_apply 0 g slices_S4096x512_S4096x128_0_0 r k ⟨0 + k.val, by omega⟩ rfl
  have s2 := slice2_axis1_apply 256 g slices_S4096x512_S4096x128_0_256 r k ⟨256 + k.val, by omega⟩ rfl
  have s3 := slice2_axis1_apply 384 g slices_S4096x512_S4096x128_0_384 r k ⟨384 + k.val, by omega⟩ rfl
  unfold cell
  dsimp only
  rw [← s0, ← s2, ← s3, ← sgm_at, ← sgm_at]
  show (_ * Ideal.tanh (_ * zst (ix2 r k) + _ * Ideal.tanh _) : EReal) = _
  rw [zst_at, mul_zero, zero_add]

theorem hidR_at (h : FVec Ideal S4096x128 .f32) (r : Fin 4096) (k : Fin 128) :
    hidR a0 h (ix2 r k) = if a0 (ix1 r) = 1000#32 then (0 : EReal) else h (ix2 r k) := by
  unfold hidR
  rw [select_apply, broadcastInDim_apply _ _ _ _ (ix2 r (0 : Fin 1)) (fun c => match c with | ⟨0, _⟩ => rfl | ⟨1, _⟩ => rfl),
    broadcastInDim_apply _ _ _ _ (ix1 r) (fun c => match c with | ⟨0, _⟩ => rfl), zst_at]
  exact sel _ _ _ _

theorem featR_at (x : FVec Ideal S4096x256 .f32) (r : Fin 4096) (k : Fin 128) :
    featR x a8 a9 a10 a11 (ix2 r k)
      = lin (wtsR a4 a6 a7 a8 a9 a10 a11).W2 (wtsR a4 a6 a7 a8 a9 a10 a11).b2 (fun j =>
          max (lin (wtsR a4 a6 a7 a8 a9 a10 a11).W1 (wtsR a4 a6 a7 a8 a9 a10 a11).b1 (fun q => x (ix2 r q)) j) 0) k := by
  have h1 := fun j => rows_at x a8 transposes_S256x256_S256x256_1_0 r j
  have h2 := fun j => offset_at (M := 4096) a9 bcast_S1x256_S4096x256_0_1 bcast_S256_S1x256_1 r j
  unfold featR lin wtsR
  dsimp only
  refine congrArg₂ (fun a b : EReal => a + b) ((rows_at _ a10 transposes_S128x256_S256x128_1_0 r k).trans (Finset.sum_congr rfl fun j _ => ?_))
    (offset_at (M := 4096) a11 bcast_S1x128_S4096x128_0_1 bcast_S128_S1x128_1 r k)
  refine congrArg (fun a : EReal => a * a10 (ix2 k j)) ?_
  exact congrArg₂ (fun a b : EReal => max a b) (congrArg₂ (fun a b : EReal => a + b) (h1 j) (h2 j)) Ideal.ofBits_zero_f32

theorem lift3 {n m p : ℕ} (h : (⟨3, ![n, m, p]⟩ : Shape).Reduces [2] (⟨2, ![n, m]⟩ : Shape)) (r : Fin n) (c : Fin m) (k : Fin p) :
    h.lift (ix2 r c) k = ix3 r c k := by
  funext a
  apply Fin.ext
  match a with
  | ⟨0, _⟩ => rfl
  | ⟨1, _⟩ => rfl
  | ⟨2, _⟩ => rfl

theorem scoreR_at (a : IVec S4096x200 32) (T : FVec Ideal S4096x200x128 .f32) (u : FVec Ideal S4096x128 .f32) (b : Fin 4096) (l : Fin 200) :
    scoreR a T u (ix2 b l) = score (fun k => u (ix2 b k)) (a (ix2 b l)) fun k => T (ix3 b l k) := by
  unfold scoreR score
  rw [select_apply]
  refine (sel _ _ _ _).trans (congrArg (fun y : EReal => if a (ix2 b l) = 1001#32 then Ideal.ofBits .f32 0xD01502F9#32 else y) ?_)
  have hr : S4096x200x128.Reduces [2] S4096x200 := by decide
  rw [hostReduceAdd_apply]
  refine (Ideal.hostReduceAdd_single _ hr _ _ _).trans ?_
  rw [show (constant S_ .f32 0x00000000#32 : FVec Ideal S_ .f32) (Shape.Idx.first h_S_) = (0 : EReal) from Ideal.ofBits_zero_f32, zero_add]
  refine Finset.sum_congr rfl fun k _ => ?_
  rw [lift3 hr b l k]
  refine (mul_comm _ _).trans (congrArg (fun y : EReal => y * T (ix3 b l k)) ?_)
  exact (broadcastInDim_apply _ _ _ _ (ix3 b (0 : Fin 1) (k : Fin 128)) (fun c => match c with | ⟨0, _⟩ => rfl | ⟨1, _⟩ => rfl | ⟨2, _⟩ => rfl)).trans
    (broadcastInDim_apply _ _ _ _ (ix2 b (k : Fin 128)) (fun c => match c with | ⟨0, _⟩ => rfl | ⟨1, _⟩ => rfl))

/-- The word of a candidate, in the third argument. -/
theorem candR_lt (h : ∀ i, (a2 i).toNat < 1002) (i : S4096x200.Idx) : (candR a2 i).toNat < 1002 := h _

/-- A row of scores. -/
theorem rowR_at (h0 : ∀ i, (a0 i).toNat < 1002) (h2 : ∀ i, (a2 i).toNat < 1002) (b : Fin 4096) (l : Fin 200) :
    scoreR (candR a2) (take2 a3 (candR a2)) (featR (Value.fn_main_v53 (F := Ideal) (hidR a0 (cellR (gateR (take1 a3 a0) a4 a5 a6 a7))) a1) a8 a9 a10 a11) (ix2 b l)
      = scoreAt (wtsR a4 a6 a7 a8 a9 a10 a11) (fun b => a0 (ix1 b)) (fun r k => a3 (ix2 r k)) (fun b k => a1 (ix2 b k)) b (candR a2 (ix2 b l)) := by
  rw [scoreR_at]
  unfold scoreAt feat
  refine congrArg₂ (fun u t => score u (candR a2 (ix2 b l)) t) (funext fun k => ?_) (funext fun k => take2_at a3 _ (candR_lt a2 h2) b l k)
  rw [featR_at a4 a6 a7 a8 a9 a10 a11]
  refine congrArg (fun x => lin (wtsR a4 a6 a7 a8 a9 a10 a11).W2 (wtsR a4 a6 a7 a8 a9 a10 a11).b2 (fun j =>
    max (lin (wtsR a4 a6 a7 a8 a9 a10 a11).W1 (wtsR a4 a6 a7 a8 a9 a10 a11).b1 x j) 0) k) (funext fun q => ?_)
  refine (joined_at _ _ concatenates_S4096x128_S4096x128_S4096x256_d1 b q).trans ?_
  refine congrArg (fun x => joined x (fun k => a1 (ix2 b k)) q) (funext fun k => ?_)
  rw [hidR_at, cellR_at, funext fun j => gateR_at a4 a5 a6 a7 a8 a9 a10 a11 (take1 a3 a0) b j, funext fun k => take1_at a3 a0 h0 b k]
  rfl

theorem offR_at (x : FVec Ideal S4096x200 .f32) (b : Fin 4096) (l : Fin 200) :
    offR x (ix2 b l) = x (ix2 b l) - top fun j => (x (ix2 b j) : EReal) := by
  have hr : S4096x200.Reduces [1] S4096 := by decide
  have ht := (congrFun (hostReduce_maximumf_eq_multiReduction x 0xFF800000#32 reducesTo_S4096x200_S4096_d1 h_S_ hr (.inl rfl) rfl) (ix1 b)).trans
    (rowTop (n := 4096) (m := 200) x hr (.inl rfl) rfl b)
  refine congrArg (fun y : EReal => (x (ix2 b l) : EReal) - y) ?_
  rw [broadcastInDim_apply _ _ _ _ (ix2 b (0 : Fin 1)) (fun c => match c with | ⟨0, _⟩ => rfl | ⟨1, _⟩ => rfl),
    broadcastInDim_apply _ _ _ _ (ix1 b) (fun c => match c with | ⟨0, _⟩ => rfl)]
  refine (congrArg₂ (fun p q : EReal => max p q) low_bot ht).trans (max_eq_right bot_le)

/-- A row normalised: the greatest taken off first, the logarithm after. -/
theorem normR_at (x : FVec Ideal S4096x200 .f32) (b : Fin 4096) (l : Fin 200) :
    normR x (ix2 b l) = x (ix2 b l) - (top fun j => (x (ix2 b j) : EReal))
      - Ideal.log (∑ j : Fin 200, Ideal.exp (x (ix2 b j) - top fun j => (x (ix2 b j) : EReal))) := by
  have hr : S4096x200.Reduces [1] S4096 := by decide
  refine congrArg₂ (fun p q : EReal => p - q) (offR_at x b l) ?_
  rw [broadcastInDim_apply _ _ _ _ (ix2 b (0 : Fin 1)) (fun c => match c with | ⟨0, _⟩ => rfl | ⟨1, _⟩ => rfl)]
  refine congrArg Ideal.log ?_
  rw [broadcastInDim_apply _ _ _ _ (ix1 b) (fun c => match c with | ⟨0, _⟩ => rfl), hostReduceAdd_apply]
  refine (Ideal.hostReduceAdd_single _ hr _ _ _).trans ?_
  rw [show (constant S_ .f32 0x00000000#32 : FVec Ideal S_ .f32) (Shape.Idx.first h_S_) = (0 : EReal) from Ideal.ofBits_zero_f32, zero_add]
  refine Finset.sum_congr rfl fun j _ => ?_
  rw [lift2 hr b j]
  exact congrArg Ideal.exp (offR_at x b j)

/-- What the candidates' scores of a row are, and the row normalised. -/
theorem refR_at (h0 : ∀ i, (a0 i).toNat < 1002) (h2 : ∀ i, (a2 i).toNat < 1002) (x : Row 200) (b : Fin 4096)
    (hx : ∀ l, x l = scoreAt (wtsR a4 a6 a7 a8 a9 a10 a11) (fun b => a0 (ix1 b)) (fun r k => a3 (ix2 r k)) (fun b k => a1 (ix2 b k)) b (candR a2 (ix2 b l)))
    (l : Fin 200) : refR a0 a1 a2 a3 a4 a5 a6 a7 a8 a9 a10 a11 (ix2 b l) = x l - top x - Ideal.log (∑ j, Ideal.exp (x j - top x)) := by
  unfold refR
  rw [normR_at]
  have e := fun l => (rowR_at a0 a1 a2 a3 a4 a5 a6 a7 a8 a9 a10 a11 h0 h2 b l).trans (hx l).symm
  simp only [e]

end Rows

end Cert.Proof.Ref

end
-- ==== Proof.Finite.lean ====
/-
  The stronger precondition read back: words in range and the floats the scores are made of finite; and the run-through
  claims under it.
-/
module

public import proofs.«01_k».proof.Proof.Frames
public import proofs.«01_k».proof.Proof.Gen.Pre_in_ranges_finite

@[expose] public section

noncomputable section

namespace Cert.Proof.Tail

open Cert.KernelIdeal Cert.KernelIdeal.Gen

open Idealize.ShloMosaic
open Idealize.SL.Sem

variable {F : FTy → Type} [FloatOps F]

instance : Subsingleton Cert.Pre_in_ranges_finite.S_.Idx := ⟨fun _ _ => funext fun a => a.elim0⟩

/-- The comparison that says a float is finite. -/
abbrev finBit (x : F .f32) : Prop := FloatOps.cmpf .olt (FloatOps.hostAbsf x) (FloatOps.ofBits .f32 0x7F800000#32) = 1#1

theorem fin_of {s : Shape} {x : FVec F s .f32} {b : FVec F s .f32} {i : s.Idx}
    (h : cmpf .olt (Host.absf x) b i = 1#1) (hb : b i = FloatOps.ofBits .f32 0x7F800000#32 := by rfl) : finBit (x i) := by
  rw [finBit, ← hb]; exact h

structure Finites (a0 : IVec S4096 32) (a1 : FVec F S4096x128 .f32) (a2 : IVec S4096x200x2 32) (a3 : FVec F S100000x128 .f32)
    (a8 : FVec F S256x256 .f32) (a9 : FVec F S256 .f32) (a10 : FVec F S128x256 .f32) (a11 : FVec F S128 .f32) : Prop where
  w0 : ∀ i, (a0 i).toNat < 1002
  w2 : ∀ i, (a2 i).toNat < 1002
  f1 : ∀ i, finBit (a1 i)
  f3 : ∀ i, finBit (a3 i)
  f8 : ∀ i, finBit (a8 i)
  f9 : ∀ i, finBit (a9 i)
  f10 : ∀ i, finBit (a10 i)
  f11 : ∀ i, finBit (a11 i)

theorem finites {a0 : IVec S4096 32} {a1 : FVec F S4096x128 .f32} {a2 : IVec S4096x200x2 32} {a3 : FVec F S100000x128 .f32}
    {a4 a5 : FVec F S512x128 .f32} {a6 a7 : FVec F S512 .f32} {a8 : FVec F S256x256 .f32} {a9 : FVec F S256 .f32}
    {a10 : FVec F S128x256 .f32} {a11 : FVec F S128 .f32}
    (h : Cert.Pre_in_ranges_finite.fn a0 a1 a2 a3 a4 a5 a6 a7 a8 a9 a10 a11 = fun _ => 1#1) : Finites a0 a1 a2 a3 a8 a9 a10 a11 := by
  have e := congrFun h (Shape.Idx.first Cert.Pre_in_ranges_finite.Facts.h_S_)
  obtain ⟨e, e11⟩ := IntOp.andi_eq_one.1 e
  obtain ⟨e, e10⟩ := IntOp.andi_eq_one.1 e
  obtain ⟨e, e9⟩ := IntOp.andi_eq_one.1 e
  obtain ⟨e, e8⟩ := IntOp.andi_eq_one.1 e
  obtain ⟨e, e3'⟩ := IntOp.andi_eq_one.1 e
  obtain ⟨e, e1'⟩ := IntOp.andi_eq_one.1 e
  obtain ⟨e, e4⟩ := IntOp.andi_eq_one.1 e
  obtain ⟨e, e3⟩ := IntOp.andi_eq_one.1 e
  obtain ⟨e1, e2⟩ := IntOp.andi_eq_one.1 e
  exact {
    w0 := fun i => word_lt _ (Host.reduce_andi_all _ _ _ _ _ e1 i) (Host.reduce_andi_all _ _ _ _ _ e2 i)
    w2 := fun i => word_lt _ (Host.reduce_andi_all _ _ _ _ _ e3 i) (Host.reduce_andi_all _ _ _ _ _ e4 i)
    f1 := fun i => fin_of (Host.reduce_andi_all _ _ _ _ _ e1' i)
    f3 := fun i => fin_of (Host.reduce_andi_all _ _ _ _ _ e3' i)
    f8 := fun i => fin_of (Host.reduce_andi_all _ _ _ _ _ e8 i)
    f9 := fun i => fin_of (Host.reduce_andi_all _ _ _ _ _ e9 i)
    f10 := fun i => fin_of (Host.reduce_andi_all _ _ _ _ _ e10 i)
    f11 := fun i => fin_of (Host.reduce_andi_all _ _ _ _ _ e11 i) }

theorem frame_kernelIdeal_finite : Cert.quiescent_KernelIdeal_pre_in_ranges_finite := fun m ρ hp =>
  (θ_run Cert.KernelIdeal.defs _ _).mono (fun _ h => kept m h) (run_ranges (F := Ideal) m ρ fun d i => (finites (hp d)).w2 i)

theorem frame_referenceIdeal_finite : Cert.quiescent_ReferenceIdeal_pre_in_ranges_finite := fun m ρ _ => frame_referenceIdeal m ρ trivial

end Cert.Proof.Tail

end
-- ==== Proof.Value.lean ====
/-
  The kernel's result read at an entry, from the arguments, and the claim that it is the reference's.
-/
module

public import proofs.«01_k».proof.Proof.Ref
public import proofs.«01_k».proof.Proof.Finite

@[expose] public section

noncomputable section

namespace Cert.Proof.Tail

open Cert.KernelIdeal Cert.KernelIdeal.Gen Cert.Proof.Score Cert.Proof.Reads

open Idealize.ShloMosaic
open Idealize.ShloMosaic.ValueIdx
open Idealize.SL.Sem
open scoped BigOperators

/-- A float the comparison calls finite is a real number. -/
theorem real_of_finBit {x : Ideal .f32} (h : finBit (F := Ideal) x) : Real' x := by
  have htop : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [htop] at h'
  have hlt : max (x : EReal) (-(x : EReal)) < ⊤ := by
    by_contra hn
    unfold Ideal.cmp at h'
    simp [hn] at h'
  rw [max_lt_iff] at hlt
  refine .of hlt.1.ne fun e => ?_
  have := hlt.2
  rw [e] at this
  simp at this

section Args
variable (m : (ℓ : Loc nD τ sig) → Buf (Elt Ideal) ℓ) (d : Dev nD)

/-! ## The arrays after the reshapes -/

theorem VA_keeps (b : Ref sig .tc) (h : b ∉ ({main_v0, main_v1, main_v2, main_v3, main_v4, main_v5, main_v6} : Finset (Ref sig .tc))) :
    VA m d (dr b) = m (d, dr b) := by
  simp only [Finset.mem_insert, Finset.mem_singleton, not_or] at h
  obtain ⟨h0, h1, h2, h3, h4, h5, h6⟩ := h
  unfold VA
  rw [StableHlo.reshape_result_ne (h := h6), StableHlo.reshape_result_ne (h := h5), StableHlo.reshape_result_ne (h := h4),
    StableHlo.reshape_result_ne (h := h3), StableHlo.reshape_result_ne (h := h2), StableHlo.unary_result_ne (h := h1),
    StableHlo.reshape_result_ne (h := h0)]
  rfl

theorem VA_v0 (b : Fin 4096) : prevV (VA m) d b = (m (d, dr main_arg0) : S4096.Idx → BitVec 32) (ix1 b) := by
  have e6 : main_v0 ≠ main_v6 := by decide
  have e5 : main_v0 ≠ main_v5 := by decide
  have e4 : main_v0 ≠ main_v4 := by decide
  have e3 : main_v0 ≠ main_v3 := by decide
  have e2 : main_v0 ≠ main_v2 := by decide
  have e1 : main_v0 ≠ main_v1 := by decide
  unfold prevV VA
  rw [StableHlo.reshape_result_ne (h := e6), StableHlo.reshape_result_ne (h := e5), StableHlo.reshape_result_ne (h := e4),
    StableHlo.reshape_result_ne (h := e3), StableHlo.reshape_result_ne (h := e2), StableHlo.unary_result_ne (h := e1), StableHlo.reshape_result]
  exact shapeCast_a_a1_apply (m (d, dr main_arg0) : S4096.Idx → BitVec 32) shapeCasts_S4096_S4096x1 b (0 : Fin 1)

theorem VA_v3 (j : Fin 512) : (VA m d (dr main_v3) : S1x512.Idx → EReal) (ix2 (0 : Fin 1) j) = (m (d, dr main_arg6) : S512.Idx → EReal) (ix1 j) := by
  have e6 : main_v3 ≠ main_v6 := by decide
  have e5 : main_v3 ≠ main_v5 := by decide
  have e4 : main_v3 ≠ main_v4 := by decide
  have a2 : main_arg6 ≠ main_v2 := by decide
  have a1 : main_arg6 ≠ main_v1 := by decide
  have a0 : main_arg6 ≠ main_v0 := by decide
  unfold VA
  rw [StableHlo.reshape_result_ne (h := e6), StableHlo.reshape_result_ne (h := e5), StableHlo.reshape_result_ne (h := e4), StableHlo.reshape_result,
    StableHlo.reshape_result_ne (h := a2), StableHlo.unary_result_ne (h := a1), StableHlo.reshape_result_ne (h := a0)]
  exact shapeCast_a_1a_apply (m (d, dr main_arg6) : S512.Idx → EReal) shapeCasts_S512_S1x512 (0 : Fin 1) j

theorem VA_v4 (j : Fin 512) : (VA m d (dr main_v4) : S1x512.Idx → EReal) (ix2 (0 : Fin 1) j) = (m (d, dr main_arg7) : S512.Idx → EReal) (ix1 j) := by
  have e6 : main_v4 ≠ main_v6 := by decide
  have e5 : main_v4 ≠ main_v5 := by decide
  have a3 : main_arg7 ≠ main_v3 := by decide
  have a2 : main_arg7 ≠ main_v2 := by decide
  have a1 : main_arg7 ≠ main_v1 := by decide
  have a0 : main_arg7 ≠ main_v0 := by decide
  unfold VA
  rw [StableHlo.reshape_result_ne (h := e6), StableHlo.reshape_result_ne (h := e5), StableHlo.reshape_result, StableHlo.reshape_result_ne (h := a3),
    StableHlo.reshape_result_ne (h := a2), StableHlo.unary_result_ne (h := a1), StableHlo.reshape_result_ne (h := a0)]
  exact shapeCast_a_1a_apply (m (d, dr main_arg7) : S512.Idx → EReal) shapeCasts_S512_S1x512 (0 : Fin 1) j

theorem VA_v5 (j : Fin 256) : (VA m d (dr main_v5) : S1x256.Idx → EReal) (ix2 (0 : Fin 1) j) = (m (d, dr main_arg9) : S256.Idx → EReal) (ix1 j) := by
  have e6 : main_v5 ≠ main_v6 := by decide
  have a4 : main_arg9 ≠ main_v4 := by decide
  have a3 : main_arg9 ≠ main_v3 := by decide
  have a2 : main_arg9 ≠ main_v2 := by decide
  have a1 : main_arg9 ≠ main_v1 := by decide
  have a0 : main_arg9 ≠ main_v0 := by decide
  unfold VA
  rw [StableHlo.reshape_result_ne (h := e6), StableHlo.reshape_result, StableHlo.reshape_result_ne (h := a4), StableHlo.reshape_result_ne (h := a3),
    StableHlo.reshape_result_ne (h := a2), StableHlo.unary_result_ne (h := a1), StableHlo.reshape_result_ne (h := a0)]
  exact shapeCast_a_1a_apply (m (d, dr main_arg9) : S256.Idx → EReal) shapeCasts_S256_S1x256 (0 : Fin 1) j

theorem VA_v6 (j : Fin 128) : (VA m d (dr main_v6) : S1x128.Idx → EReal) (ix2 (0 : Fin 1) j) = (m (d, dr main_arg11) : S128.Idx → EReal) (ix1 j) := by
  have a5 : main_arg11 ≠ main_v5 := by decide
  have a4 : main_arg11 ≠ main_v4 := by decide
  have a3 : main_arg11 ≠ main_v3 := by decide
  have a2 : main_arg11 ≠ main_v2 := by decide
  have a1 : main_arg11 ≠ main_v1 := by decide
  have a0 : main_arg11 ≠ main_v0 := by decide
  unfold VA
  rw [StableHlo.reshape_result, StableHlo.reshape_result_ne (h := a5), StableHlo.reshape_result_ne (h := a4), StableHlo.reshape_result_ne (h := a3),
    StableHlo.reshape_result_ne (h := a2), StableHlo.unary_result_ne (h := a1), StableHlo.reshape_result_ne (h := a0)]
  exact shapeCast_a_1a_apply (m (d, dr main_arg11) : S128.Idx → EReal) shapeCasts_S128_S1x128 (0 : Fin 1) j

/-- The weights, the table and the queries, from the arguments. -/
abbrev wtsM : Wts := Ref.wtsR (m (d, dr main_arg4)) (m (d, dr main_arg6)) (m (d, dr main_arg7)) (m (d, dr main_arg8)) (m (d, dr main_arg9))
  (m (d, dr main_arg10)) (m (d, dr main_arg11))
abbrev prevM (b : Fin 4096) : BitVec 32 := (m (d, dr main_arg0) : S4096.Idx → BitVec 32) (ix1 b)
abbrev tabM : Mat 100000 128 := fun r k => (m (d, dr main_arg3) : S100000x128.Idx → EReal) (ix2 r k)
abbrev queM : Mat 4096 128 := fun b k => (m (d, dr main_arg1) : S4096x128.Idx → EReal) (ix2 b k)
abbrev canM : S4096x200.Idx → BitVec 32 := Ref.candR (m (d, dr main_arg2))

theorem wts_VA : wtsV (VA m) d = wtsM m d := by
  unfold wtsV blkW wtsM Ref.wtsR
  rw [VA_keeps m d main_arg4 (by decide), VA_keeps m d main_arg8 (by decide), VA_keeps m d main_arg10 (by decide),
    funext (VA_v3 m d), funext (VA_v4 m d), funext (VA_v5 m d), funext (VA_v6 m d)]

theorem prev_VA : prevV (VA m) d = prevM m d := funext fun b => VA_v0 m d b
theorem tab_VA : tabV (VA m) d = tabM m d := by unfold tabV; rw [VA_keeps m d main_arg3 (by decide)]
theorem que_VA : queV (VA m) d = queM m d := by unfold queV; rw [VA_keeps m d main_arg1 (by decide)]

/-- The second call's arrays are the first's. -/
theorem in_VC : wtsV (VC m) d = wtsV (VA m) d ∧ prevV (VC m) d = prevV (VA m) d ∧ tabV (VC m) d = tabV (VA m) d ∧ queV (VC m) d = queV (VA m) d := by
  unfold wtsV prevV tabV queV
  rw [VC_keeps m d main_arg4 (by decide) (by decide), VC_keeps m d main_v3 (by decide) (by decide), VC_keeps m d main_v4 (by decide) (by decide),
    VC_keeps m d main_arg8 (by decide) (by decide), VC_keeps m d main_v5 (by decide) (by decide), VC_keeps m d main_arg10 (by decide) (by decide),
    VC_keeps m d main_v6 (by decide) (by decide), VC_keeps m d main_v0 (by decide) (by decide), VC_keeps m d main_arg3 (by decide) (by decide),
    VC_keeps m d main_arg1 (by decide) (by decide)]
  exact ⟨rfl, rfl, rfl, rfl⟩

variable (h0 : ∀ i, ((m (d, dr main_arg0) : S4096.Idx → BitVec 32) i).toNat < 1002)
  (h2 : ∀ i, ((m (d, dr main_arg2) : S4096x200x2.Idx → BitVec 32) i).toNat < 1002)
  (hT : ∀ r k, Real' (tabM m d r k))

/-! ## The two halves -/

section
include h0 hT

theorem s7_eq : s7m m d = laid 0 (wtsM m d) (prevM m d) (tabM m d) (queM m d) := by
  rw [← wts_VA, ← prev_VA, ← tab_VA, ← que_VA]
  refine arr0 (VA m) 0 d (fun b => ?_) (fun r k => ?_)
  · rw [prev_VA]; exact Nat.lt_trans (h0 _) (by decide)
  · rw [tab_VA]; exact hT r k

theorem s9_eq : s9m m d = laid 2048 (wtsM m d) (prevM m d) (tabM m d) (queM m d) := by
  obtain ⟨e1, e2, e3, e4⟩ := in_VC m d
  rw [← wts_VA, ← prev_VA, ← tab_VA, ← que_VA, ← e1, ← e2, ← e3, ← e4]
  refine arr2 (VC m) 1 d (fun b => ?_) (fun r k => ?_)
  · rw [e2, prev_VA]; exact Nat.lt_trans (h0 _) (by decide)
  · rw [e3, tab_VA]; exact hT r k

end

theorem ix_eq : ixm m d = canM m d := ixm_eq m d

/-- A gathered score is the score of the word. -/
theorem gat_laid (o : ℕ) (P : Wts) (prev : Fin 4096 → BitVec 32) (T : Mat 100000 128) (Q : Mat 4096 128) (ix : S4096x200.Idx → BitVec 32)
    (hix : ∀ i, (ix i).toNat < 1002) (b : Fin 2048) (l : Fin 200) (c : Fin 4096) (hc : c.val = o + b.val) :
    gatAll (F := Ideal) o (laid o P prev T Q) ix (ix2 b l) = scoreAt P prev T Q c (ix (ix2 c l)) := by
  have hi : ixAt o (ix2 b l) = ix2 c l := funext fun a => match a with
    | ⟨0, _⟩ => Fin.ext (by show (o + b.val) % 4096 = c.val; rw [← hc]; exact Nat.mod_eq_of_lt c.isLt)
    | ⟨1, _⟩ => rfl
  unfold gatAll laid
  rw [hi]
  have hw := hix (ix2 c l)
  have hb := b.isLt
  have hn : ((atS ((ix2 b l (0 : Fin 2)).val * 1024 + (ix (ix2 c l)).toNat)) 0).val = b.val * 1024 + (ix (ix2 c l)).toNat := by
    show (b.val * 1024 + (ix (ix2 c l)).toNat) % 2097152 = _
    omega
  have e1 : (⟨(o + ((atS ((ix2 b l (0 : Fin 2)).val * 1024 + (ix (ix2 c l)).toNat)) 0).val / 1024) % 4096, Nat.mod_lt _ (by decide)⟩ : Fin 4096) = c :=
    Fin.ext (by
      show (o + ((atS ((ix2 b l (0 : Fin 2)).val * 1024 + (ix (ix2 c l)).toNat)) 0).val / 1024) % 4096 = c.val
      have := c.isLt
      rw [hn]; omega)
  have e2 : BitVec.ofNat 32 (((atS ((ix2 b l (0 : Fin 2)).val * 1024 + (ix (ix2 c l)).toNat)) 0).val % 1024) = ix (ix2 c l) := by
    rw [hn, show (b.val * 1024 + (ix (ix2 c l)).toNat) % 1024 = (ix (ix2 c l)).toNat by omega]
    exact BitVec.eq_of_toNat_eq (by rw [BitVec.toNat_ofNat]; exact Nat.mod_eq_of_lt (ix (ix2 c l)).isLt)
  rw [e1, e2]

/-- A row of the candidates' scores. -/
def rowM (b : Fin 4096) : Row 200 := fun l => scoreAt (wtsM m d) (prevM m d) (tabM m d) (queM m d) b (canM m d (ix2 b l))

section
include h0 h2 hT

theorem v8_at (b : Fin 2048) (l : Fin 200) : (VE m d (dr main_v8) : S2048x200.Idx → EReal) (ix2 b l) = rowM m d ⟨b.val, by omega⟩ l := by
  have e : VE m d (dr main_v8) = (gatAll 0 (s7m m d) (ixm m d) : S2048x200.Idx → EReal) := by
    refine (Function.update_of_ne (show dr main_v8 ≠ dr main_v10 by decide) _ _).trans ((afterT_keeps (VC m) 1 1 d main_v8 (by decide)).trans ?_)
    exact Function.update_self _ _ _
  rw [e, s7_eq m d h0 hT, ix_eq]
  exact gat_laid 0 _ _ _ _ _ (Ref.candR_lt _ h2) b l ⟨b.val, by omega⟩ (Nat.zero_add _).symm

theorem v10_at (b : Fin 2048) (l : Fin 200) : (VE m d (dr main_v10) : S2048x200.Idx → EReal) (ix2 b l) = rowM m d ⟨2048 + b.val, by omega⟩ l := by
  have e : VE m d (dr main_v10) = (gatAll 2048 (s9m m d) (ixm m d) : S2048x200.Idx → EReal) := Function.update_self _ _ _
  rw [e, s9_eq m d h0 hT, ix_eq]
  exact gat_laid 2048 _ _ _ _ _ (Ref.candR_lt _ h2) b l ⟨2048 + b.val, by omega⟩ rfl

theorem v11_at (b : Fin 2048) (l : Fin 200) : (VG m d (dr main_v11) : S2048x200.Idx → EReal) (ix2 b l) = lsm (rowM m d ⟨b.val, by omega⟩) l := by
  have e : VG m d (dr main_v11) = normed (VE m d (dr main_v8)) := by
    refine Eq.trans ?_ (arr4 (VE m) 2 d)
    unfold VG afterT
    exact Pipeline.afterRegion_of_not_arr _ _ (b := main_v11) (fun w => (show ∀ w : Fin cfg5.W, main_v11 ≠ Pipeline.arrRef cfg5.spec w by decide) w)
  rw [e]
  refine (normBlk_at _ b l).trans (congrArg (fun x : Row 200 => lsm x l) (funext fun l => v8_at m d h0 h2 hT b l))

theorem v12_at (b : Fin 2048) (l : Fin 200) : (VG m d (dr main_v12) : S2048x200.Idx → EReal) (ix2 b l) = lsm (rowM m d ⟨2048 + b.val, by omega⟩) l := by
  have e : VG m d (dr main_v12) = normed (VE m d (dr main_v10)) :=
    (arr5 (VF m) 2 d).trans (congrArg normed (afterT_keeps (VE m) 2 2 d main_v10 (by decide)))
  rw [e]
  refine (normBlk_at _ b l).trans (congrArg (fun x : Row 200 => lsm x l) (funext fun l => v10_at m d h0 h2 hT b l))

/-- The kernel's result. -/
theorem v13_at (b : Fin 4096) (l : Fin 200) : (VH m d (dr main_v13) : S4096x200.Idx → EReal) (ix2 b l) = lsm (rowM m d b) l := by
  have e : VH m d (dr main_v13) = (concatenate S4096x200 0 [⟨S2048x200, (VG m d (dr main_v11) : S2048x200.Idx → EReal)⟩, ⟨S2048x200, (VG m d (dr main_v12) : S2048x200.Idx → EReal)⟩]
      concatenates_S2048x200_S2048x200_S4096x200_d0 : S4096x200.Idx → EReal) := by
    unfold VH
    rw [StableHlo.binary_result]
  rw [e]
  by_cases hb : b.val < 2048
  · refine (concatenate_pair_apply_left (t := S4096x200) (s₁ := S2048x200) (s₂ := S2048x200) 0 _ _ _ (ix2 b l) rfl (ix2 (⟨b.val, hb⟩ : Fin 2048) l) fun a => match a with | ⟨0, _⟩ => rfl | ⟨1, _⟩ => rfl).trans ?_
    exact v11_at m d h0 h2 hT ⟨b.val, hb⟩ l
  · have hb' := b.isLt
    refine (concatenate_pair_apply_right (t := S4096x200) (s₁ := S2048x200) (s₂ := S2048x200) 0 _ _ _ (ix2 b l) rfl rfl (ix2 (⟨b.val - 2048, by omega⟩ : Fin 2048) l) (fun a => ?_) ?_).trans ?_
    · match a with
      | ⟨0, _⟩ => exact fun e => absurd rfl e
      | ⟨1, _⟩ => exact fun _ => rfl
    · show b.val - 2048 + 2048 = b.val
      omega
    · refine (v12_at m d h0 h2 hT ⟨b.val - 2048, by omega⟩ l).trans ?_
      exact congrArg (fun c => lsm (rowM m d c) l) (Fin.ext (by show 2048 + (b.val - 2048) = b.val; omega))

end

end Args

/-! ## The claim -/

/-- From arguments in range and finite, the reference's result is the kernel's. -/
theorem values (m : (ℓ : Loc nD τ sig) → Buf (Elt Ideal) ℓ) (d : Dev nD)
    (f : Finites (F := Ideal) (m (d, dr main_arg0)) (m (d, dr main_arg1)) (m (d, dr main_arg2)) (m (d, dr main_arg3)) (m (d, dr main_arg8)) (m (d, dr main_arg9))
      (m (d, dr main_arg10)) (m (d, dr main_arg11))) :
    Ref.refR (m (d, dr main_arg0)) (m (d, dr main_arg1)) (m (d, dr main_arg2)) (m (d, dr main_arg3)) (m (d, dr main_arg4)) (m (d, dr main_arg5))
      (m (d, dr main_arg6)) (m (d, dr main_arg7)) (m (d, dr main_arg8)) (m (d, dr main_arg9)) (m (d, dr main_arg10)) (m (d, dr main_arg11))
      = (VH m d (dr main_v13) : S4096x200.Idx → EReal) := by
  funext i
  obtain ⟨b, l, rfl⟩ : ∃ (b : Fin 4096) (l : Fin 200), i = ix2 b l := ⟨i 0, i 1, eq_ix2 i⟩
  have hT : ∀ r k, Real' (tabM m d r k) := fun r k => real_of_finBit (f.f3 _)
  have hP : (wtsM m d).Fin := ⟨fun j k => real_of_finBit (f.f8 _), fun j => real_of_finBit (f.f9 _), fun j k => real_of_finBit (f.f10 _), fun j => real_of_finBit (f.f11 _)⟩
  have hx : ∀ l, Real' (rowM m d b l) := fun l => Real'.score (fun k => Real'.feat hP _ _ (fun k => real_of_finBit (f.f1 _)) k) (fun k => hT _ k) _
  rw [v13_at m d f.w0 f.w2 hT b l]
  refine (Ref.refR_at _ _ _ _ _ _ _ _ _ _ _ _ f.w0 f.w2 (rowM m d b) b (fun _ => rfl) l).trans ?_
  exact (Real'.sub_add _ (hx l) (Real'.top (n := 199) hx)).symm

theorem algebraic : Cert.algebraic_KernelIdeal_ReferenceIdeal_pre_in_ranges_finite := by
  intro m g m' g' hp ha
  refine ⟨fun c => VH m c (dr main_v13), ?_, ?_⟩
  · refine (θ_run Cert.KernelIdeal.defs _ _).mono (fun r h c => ⟨h.1 c main_v13 rfl, (kept m h).1 c⟩)
      (run_ranges (F := Ideal) m g fun d i => (finites (hp d)).w2 i)
  · refine (θ_run Cert.ReferenceIdeal.defs _ _).mono (fun r h c => ⟨(h c).1.trans ?_, (h c).2⟩) (Cert.ReferenceIdeal.Value.run (F := Ideal) m' g')
    obtain ⟨a0, a1, a2, a3, a4, a5, a6, a7, a8, a9, a10, a11⟩ := ha c
    rw [Ref.res_eq, a0, a1, a2, a3, a4, a5, a6, a7, a8, a9, a10, a11]
    exact values m c (finites (hp c))

end Cert.Proof.Tail

end
-- ==== Proof.lean ====
/-
  The certificate: the witnesses of the programs' stated facts, then each claim in the order in which `Cert.Claim` states
  them. The two programs have one text, so the claim that nothing was rewritten is trivial.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_in_ranges
public import proofs.«01_k».proof.Proof.Gen.Pre_in_ranges_finite
public import proofs.«01_k».proof.Proof.Value

@[expose] public section

noncomputable section

namespace Cert.Proof

theorem claim : Cert.Claim :=
  ⟨Cert.Kernel.Gen.facts, Cert.KernelIdeal.Gen.facts, Cert.ReferenceIdeal.Gen.facts, Cert.Pre_in_ranges.Gen.facts, Cert.Pre_in_ranges_finite.Gen.facts,
    Tail.frame_kernel, Tail.frame_kernelIdeal, Tail.frame_kernelIdeal_finite, Tail.frame_referenceIdeal, Tail.frame_referenceIdeal_finite, trivial, Tail.algebraic⟩

end Cert.Proof

end
